-- ==== Defs.lean ====
def Pre_Kernel [hPre_plan : Cert.Pre_plan.Facts] (m : (ℓ : Loc Cert.Kernel.nD Cert.Kernel.τ Cert.Kernel.sig) → Buf (Elt Bits) ℓ) : Prop :=
  ∀ c : Dev Cert.Kernel.nD,
    (Cert.Pre_plan.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_plan : Cert.Pre_plan.Facts] (m : (ℓ : Loc Cert.KernelIdeal.nD Cert.KernelIdeal.τ Cert.KernelIdeal.sig) → Buf (Elt Ideal) ℓ) : Prop :=
  ∀ c : Dev Cert.KernelIdeal.nD,
    (Cert.Pre_plan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_plan : Cert.Pre_plan.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_plan : Cert.Pre_plan.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_plan : Cert.Pre_plan.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] [hPre_plan : Cert.Pre_plan.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_plan : Cert.Pre_plan.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_plan : Cert.Pre_plan.Facts),
    quiescent_Kernel (hKernel := hKernel) (hPre_plan := hPre_plan)
    ∧ quiescent_KernelIdeal (hKernelIdeal := hKernelIdeal) (hPre_plan := hPre_plan)
    ∧ quiescent_ReferenceIdeal (hReferenceIdeal := hReferenceIdeal) (hPre_plan := hPre_plan)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_plan := hPre_plan)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_plan.lean ====
abbrev S128 : Shape := ⟨1, ![128]⟩
abbrev S16384x2048 : Shape := ⟨2, ![16384, 2048]⟩
abbrev S64x2048x512 : Shape := ⟨3, ![64, 2048, 512]⟩
abbrev S64x512x2048 : Shape := ⟨3, ![64, 512, 2048]⟩
abbrev S16384 : Shape := ⟨1, ![16384]⟩
abbrev S_ : Shape := ⟨0, ![]⟩
abbrev S1 : Shape := ⟨1, ![1]⟩
abbrev S127 : Shape := ⟨1, ![127]⟩
abbrev S128x1 : Shape := ⟨2, ![128, 1]⟩
abbrev S1x127 : Shape := ⟨2, ![1, 127]⟩
abbrev S128x127 : Shape := ⟨2, ![128, 127]⟩
abbrev S1x16384 : Shape := ⟨2, ![1, 16384]⟩
abbrev S128x16384 : Shape := ⟨2, ![128, 16384]⟩

class Facts : Prop where
  bcast_S_S128 : S_.BroadcastsInDim S128 (![] : Fin 0 → Fin S128.rank)
  slices_S128_S1_127 : S128.Slices ![127] S1
  bcast_S1_S128_0 : S1.BroadcastsInDim S128 (![0] : Fin 1 → Fin S128.rank)
  slices_S128_S1_0 : S128.Slices ![0] S1
  shapeCasts_S1_S_ : S1.ShapeCasts S_
  slices_S128_S127_1 : S128.Slices ![1] S127
  slices_S128_S127_0 : S128.Slices ![0] S127
  bcast_S_S127 : S_.BroadcastsInDim S127 (![] : Fin 0 → Fin S127.rank)
  bcast_S128_S128x1_0 : S128.BroadcastsInDim S128x1 (![0] : Fin 1 → Fin S128x1.rank)
  bcast_S127_S1x127_1 : S127.BroadcastsInDim S1x127 (![1] : Fin 1 → Fin S1x127.rank)
  bcast_S128x1_S128x127_0_1 : S128x1.BroadcastsInDim S128x127 (![0, 1] : Fin 2 → Fin S128x127.rank)
  bcast_S1x127_S128x127_0_1 : S1x127.BroadcastsInDim S128x127 (![0, 1] : Fin 2 → Fin S128x127.rank)
  bcast_S_S128x127 : S_.BroadcastsInDim S128x127 (![] : Fin 0 → Fin S128x127.rank)
  bcast_S16384_S1x16384_1 : S16384.BroadcastsInDim S1x16384 (![1] : Fin 1 → Fin S1x16384.rank)
  bcast_S128x1_S128x16384_0_1 : S128x1.BroadcastsInDim S128x16384 (![0, 1] : Fin 2 → Fin S128x16384.rank)
  bcast_S1x16384_S128x16384_0_1 : S1x16384.BroadcastsInDim S128x16384 (![0, 1] : Fin 2 → Fin S128x16384.rank)
  reducesTo_S128_S_d0 : S128.ReducesTo [0] S_
  h_S_ : 0 < S_.numel
  reducesTo_S127_S_d0 : S127.ReducesTo [0] S_
  reducesTo_S128x127_S_d0_1 : S128x127.ReducesTo [0, 1] S_
  reducesTo_S128x16384_S_d0_1 : S128x16384.ReducesTo [0, 1] S_

variable [Facts]

def fn_where {F : FTy → Type} [FloatOps F] (arg0 : IVec S127 1) (arg1 : IVec S127 1) (arg2 : IVec S127 1) : IVec S127 1 :=
  let v0 : IVec S127 1 := select arg0 arg1 arg2
  v0

def fn_part8 {F : FTy → Type} [FloatOps F] (main_arg1 : IVec S128 32) (main_arg12 : IVec S16384 32) (main_v40 : IVec S128 1) (main_v53 : IVec S128 1) (main_v64 : IVec S128 1) (main_v83 : IVec S_ 1) (main_v90 : IVec S_ 1) (main_v107 : IVec S127 1) (main_v112 : IVec S127 1) (main_v149 : IVec S128x127 1) (main_v158 : IVec S128x16384 1) (main_v162 : IVec S128x16384 1) : IVec S_ 1 :=
  let main_v163 : IVec S128x16384 1 := andi main_v158 main_v162
  let main_v164 : IVec S128x16384 1 := noti main_v163
  let main_v165 : IVec S1x16384 32 := broadcastInDim S1x16384 ![1] bcast_S16384_S1x16384_1 main_arg12
  let main_v166 : IVec S128x1 32 := broadcastInDim S128x1 ![0] bcast_S128_S128x1_0 main_arg1
  let main_v167 : IVec S128x16384 32 := broadcastInDim S128x16384 ![0, 1] bcast_S1x16384_S128x16384_0_1 main_v165
  let main_v168 : IVec S128x16384 32 := broadcastInDim S128x16384 ![0, 1] bcast_S128x1_S128x16384_0_1 main_v166
  let main_v169 : IVec S128x16384 1 := cmpi .eq main_v167 main_v168
  let main_v170 : IVec S128x16384 1 := ori main_v164 main_v169
  let main_v171 : IVec S128 1 := andi main_v40 main_v53
  let main_v172 : IVec S128 1 := andi main_v171 main_v64
  let main_c_28 : IVec S_ 1 := constantI S_ 1 1#1
  let main_v173 : IVec S_ 1 := (fun x v => Host.reduce IntOp.andi x v reducesTo_S128_S_d0 h_S_) main_v172 main_c_28
  let main_v174 : IVec S_ 1 := andi main_v173 main_v83
  let main_v175 : IVec S_ 1 := andi main_v174 main_v90
  let main_v176 : IVec S127 1 := andi main_v107 main_v112
  let main_c_29 : IVec S_ 1 := constantI S_ 1 1#1
  let main_v177 : IVec S_ 1 := (fun x v => Host.reduce IntOp.andi x v reducesTo_S127_S_d0 h_S_) main_v176 main_c_29
  let main_v178 : IVec S_ 1 := andi main_v175 main_v177
  let main_c_30 : IVec S_ 1 := constantI S_ 1 1#1
  let main_v179 : IVec S_ 1 := (fun x v => Host.reduce IntOp.andi x v reducesTo_S128x127_S_d0_1 h_S_) main_v149 main_c_30
  let main_v180 : IVec S_ 1 := andi main_v178 main_v179
  let main_c_31 : IVec S_ 1 := constantI S_ 1 1#1
  let main_v181 : IVec S_ 1 := (fun x v => Host.reduce IntOp.andi x v reducesTo_S128x16384_S_d0_1 h_S_) main_v170 main_c_31
  let main_v182 : IVec S_ 1 := andi main_v180 main_v181
  main_v182

def fn_part7 {F : FTy → Type} [FloatOps F] (main_arg1 : IVec S128 32) (main_arg7 : IVec S128 32) (main_arg12 : IVec S16384 32) (main_v3 : IVec S128 1) (main_v40 : IVec S128 1) (main_v53 : IVec S128 1) (main_v64 : IVec S128 1) (main_v67 : IVec S128 32) (main_v70 : IVec S128 32) (main_v83 : IVec S_ 1) (main_v90 : IVec S_ 1) (main_v107 : IVec S127 1) (main_v112 : IVec S127 1) (main_v126 : IVec S128x127 1) (main_v139 : IVec S128x127 1) : IVec S_ 1 :=
  let main_v140 : IVec S128x1 32 := broadcastInDim S128x1 ![0] bcast_S128_S128x1_0 main_arg7
  let main_v141 : IVec S127 32 := (extractStridedSlice S127 ![1] · slices_S128_S127_1) main_arg7
  let main_v142 : IVec S1x127 32 := broadcastInDim S1x127 ![1] bcast_S127_S1x127_1 main_v141
  let main_v143 : IVec S128x127 32 := broadcastInDim S128x127 ![0, 1] bcast_S128x1_S128x127_0_1 main_v140
  let main_v144 : IVec S128x127 32 := broadcastInDim S128x127 ![0, 1] bcast_S1x127_S128x127_0_1 main_v142
  let main_v145 : IVec S128x127 32 := addi main_v143 main_v144
  let main_c_27 : IVec S_ 32 := constantI S_ 32 1#32
  let main_v146 : IVec S128x127 32 := broadcastInDim S128x127 ![] bcast_S_S128x127 main_c_27
  let main_v147 : IVec S128x127 1 := cmpi .eq main_v145 main_v146
  let main_v148 : IVec S128x127 1 := andi main_v139 main_v147
  let main_v149 : IVec S128x127 1 := ori main_v126 main_v148
  let main_v150 : IVec S16384 32 := iotaInDim S16384 32 0
  let main_v151 : IVec S1x16384 32 := broadcastInDim S1x16384 ![1] bcast_S16384_S1x16384_1 main_v150
  let main_v152 : IVec S128x1 1 := broadcastInDim S128x1 ![0] bcast_S128_S128x1_0 main_v3
  let main_v153 : IVec S128x1 32 := broadcastInDim S128x1 ![0] bcast_S128_S128x1_0 main_v67
  let main_v154 : IVec S128x16384 32 := broadcastInDim S128x16384 ![0, 1] bcast_S128x1_S128x16384_0_1 main_v153
  let main_v155 : IVec S128x16384 32 := broadcastInDim S128x16384 ![0, 1] bcast_S1x16384_S128x16384_0_1 main_v151
  let main_v156 : IVec S128x16384 1 := cmpi .sle main_v154 main_v155
  let main_v157 : IVec S128x16384 1 := broadcastInDim S128x16384 ![0, 1] bcast_S128x1_S128x16384_0_1 main_v152
  let main_v158 : IVec S128x16384 1 := andi main_v157 main_v156
  let main_v159 : IVec S128x1 32 := broadcastInDim S128x1 ![0] bcast_S128_S128x1_0 main_v70
  let main_v160 : IVec S128x16384 32 := broadcastInDim S128x16384 ![0, 1] bcast_S1x16384_S128x16384_0_1 main_v151
  let main_v161 : IVec S128x16384 32 := broadcastInDim S128x16384 ![0, 1] bcast_S128x1_S128x16384_0_1 main_v159
  let main_v162 : IVec S128x16384 1 := cmpi .slt main_v160 main_v161
  fn_part8 (F := F) main_arg1 main_arg12 main_v40 main_v53 main_v64 main_v83 main_v90 main_v107 main_v112 main_v149 main_v158 main_v162

def fn_part6 {F : FTy → Type} [FloatOps F] (main_arg1 : IVec S128 32) (main_arg5 : IVec S128 32) (main_arg6 : IVec S128 32) (main_arg7 : IVec S128 32) (main_arg12 : IVec S16384 32) (main_v3 : IVec S128 1) (main_v40 : IVec S128 1) (main_v53 : IVec S128 1) (main_v64 : IVec S128 1) (main_v67 : IVec S128 32) (main_v70 : IVec S128 32) (main_v83 : IVec S_ 1) (main_v90 : IVec S_ 1) (main_v107 : IVec S127 1) (main_v112 : IVec S127 1) (main_v113 : IVec S128x1 1) (main_v115 : IVec S1x127 1) : IVec S_ 1 :=
  let main_v116 : IVec S128x127 1 := broadcastInDim S128x127 ![0, 1] bcast_S128x1_S128x127_0_1 main_v113
  let main_v117 : IVec S128x127 1 := broadcastInDim S128x127 ![0, 1] bcast_S1x127_S128x127_0_1 main_v115
  let main_v118 : IVec S128x127 1 := andi main_v116 main_v117
  let main_v119 : IVec S128x1 32 := broadcastInDim S128x1 ![0] bcast_S128_S128x1_0 main_arg1
  let main_v120 : IVec S127 32 := (extractStridedSlice S127 ![0] · slices_S128_S127_0) main_arg1
  let main_v121 : IVec S1x127 32 := broadcastInDim S1x127 ![1] bcast_S127_S1x127_1 main_v120
  let main_v122 : IVec S128x127 32 := broadcastInDim S128x127 ![0, 1] bcast_S128x1_S128x127_0_1 main_v119
  let main_v123 : IVec S128x127 32 := broadcastInDim S128x127 ![0, 1] bcast_S1x127_S128x127_0_1 main_v121
  let main_v124 : IVec S128x127 1 := cmpi .eq main_v122 main_v123
  let main_v125 : IVec S128x127 1 := andi main_v118 main_v124
  let main_v126 : IVec S128x127 1 := noti main_v125
  let main_v127 : IVec S128x1 32 := broadcastInDim S128x1 ![0] bcast_S128_S128x1_0 main_arg5
  let main_v128 : IVec S127 32 := (extractStridedSlice S127 ![1] · slices_S128_S127_1) main_arg1
  let main_v129 : IVec S1x127 32 := broadcastInDim S1x127 ![1] bcast_S127_S1x127_1 main_v128
  let main_v130 : IVec S128x127 32 := broadcastInDim S128x127 ![0, 1] bcast_S128x1_S128x127_0_1 main_v127
  let main_v131 : IVec S128x127 32 := broadcastInDim S128x127 ![0, 1] bcast_S1x127_S128x127_0_1 main_v129
  let main_v132 : IVec S128x127 1 := cmpi .eq main_v130 main_v131
  let main_v133 : IVec S128x1 32 := broadcastInDim S128x1 ![0] bcast_S128_S128x1_0 main_arg6
  let main_v134 : IVec S127 32 := (extractStridedSlice S127 ![1] · slices_S128_S127_1) main_arg5
  let main_v135 : IVec S1x127 32 := broadcastInDim S1x127 ![1] bcast_S127_S1x127_1 main_v134
  let main_v136 : IVec S128x127 32 := broadcastInDim S128x127 ![0, 1] bcast_S128x1_S128x127_0_1 main_v133
  let main_v137 : IVec S128x127 32 := broadcastInDim S128x127 ![0, 1] bcast_S1x127_S128x127_0_1 main_v135
  let main_v138 : IVec S128x127 1 := cmpi .eq main_v136 main_v137
  let main_v139 : IVec S128x127 1 := andi main_v132 main_v138
  fn_part7 (F := F) main_arg1 main_arg7 main_arg12 main_v3 main_v40 main_v53 main_v64 main_v67 main_v70 main_v83 main_v90 main_v107 main_v112 main_v126 main_v139

def fn_part5 {F : FTy → Type} [FloatOps F] (main_arg0 : IVec S128 32) (main_arg1 : IVec S128 32) (main_arg5 : IVec S128 32) (main_arg6 : IVec S128 32) (main_arg7 : IVec S128 32) (main_arg12 : IVec S16384 32) (main_v3 : IVec S128 1) (main_v7 : IVec S128 1) (main_v40 : IVec S128 1) (main_v53 : IVec S128 1) (main_v64 : IVec S128 1) (main_v67 : IVec S128 32) (main_v70 : IVec S128 32) (main_v83 : IVec S_ 1) (main_v90 : IVec S_ 1) (main_v91 : IVec S127 1) (main_v92 : IVec S127 1) (main_v93 : IVec S127 32) : IVec S_ 1 :=
  let main_v94 : IVec S127 32 := (extractStridedSlice S127 ![0] · slices_S128_S127_0) main_v70
  let main_v95 : IVec S127 1 := cmpi .eq main_v93 main_v94
  let main_v96 : IVec S127 1 := andi main_v92 main_v95
  let main_v97 : IVec S127 32 := (extractStridedSlice S127 ![1] · slices_S128_S127_1) main_arg0
  let main_c_25 : IVec S_ 32 := constantI S_ 32 63#32
  let main_v98 : IVec S127 32 := broadcastInDim S127 ![] bcast_S_S127 main_c_25
  let main_v99 : IVec S127 1 := cmpi .eq main_v97 main_v98
  let main_v100 : IVec S127 1 := (extractStridedSlice S127 ![0] · slices_S128_S127_0) main_v3
  let main_v101 : IVec S127 1 := noti main_v100
  let main_v102 : IVec S127 32 := (extractStridedSlice S127 ![0] · slices_S128_S127_0) main_v70
  let main_c_26 : IVec S_ 32 := constantI S_ 32 16384#32
  let main_v103 : IVec S127 32 := broadcastInDim S127 ![] bcast_S_S127 main_c_26
  let main_v104 : IVec S127 1 := cmpi .eq main_v102 main_v103
  let main_v105 : IVec S127 1 := ori main_v101 main_v104
  let main_v106 : IVec S127 1 := andi main_v99 main_v105
  let main_v107 : IVec S127 1 := fn_where (F := F) main_v91 main_v96 main_v106
  let main_v108 : IVec S127 1 := (extractStridedSlice S127 ![1] · slices_S128_S127_1) main_v7
  let main_v109 : IVec S127 32 := (extractStridedSlice S127 ![1] · slices_S128_S127_1) main_arg1
  let main_v110 : IVec S127 32 := (extractStridedSlice S127 ![0] · slices_S128_S127_0) main_arg1
  let main_v111 : IVec S127 1 := cmpi .eq main_v109 main_v110
  let main_v112 : IVec S127 1 := ori main_v108 main_v111
  let main_v113 : IVec S128x1 1 := broadcastInDim S128x1 ![0] bcast_S128_S128x1_0 main_v7
  let main_v114 : IVec S127 1 := (extractStridedSlice S127 ![1] · slices_S128_S127_1) main_v7
  let main_v115 : IVec S1x127 1 := broadcastInDim S1x127 ![1] bcast_S127_S1x127_1 main_v114
  fn_part6 (F := F) main_arg1 main_arg5 main_arg6 main_arg7 main_arg12 main_v3 main_v40 main_v53 main_v64 main_v67 main_v70 main_v83 main_v90 main_v107 main_v112 main_v113 main_v115

def fn_part4 {F : FTy → Type} [FloatOps F] (main_arg0 : IVec S128 32) (main_arg1 : IVec S128 32) (main_arg5 : IVec S128 32) (main_arg6 : IVec S128 32) (main_arg7 : IVec S128 32) (main_arg12 : IVec S16384 32) (main_v3 : IVec S128 1) (main_v7 : IVec S128 1) (main_v40 : IVec S128 1) (main_v53 : IVec S128 1) (main_v64 : IVec S128 1) (main_v67 : IVec S128 32) (main_v70 : IVec S128 32) (main_v72 : IVec S_ 1) : IVec S_ 1 :=
  let main_v73 : IVec S1 1 := (extractStridedSlice S1 ![0] · slices_S128_S1_0) main_v7
  let main_v74 : IVec S_ 1 := shapeCast S_ main_v73 shapeCasts_S1_S_
  let main_v75 : IVec S_ 1 := andi main_v72 main_v74
  let main_v76 : IVec S1 32 := (extractStridedSlice S1 ![0] · slices_S128_S1_0) main_v67
  let main_v77 : IVec S_ 32 := shapeCast S_ main_v76 shapeCasts_S1_S_
  let main_c_22 : IVec S_ 32 := constantI S_ 32 0#32
  let main_v78 : IVec S_ 1 := cmpi .eq main_v77 main_c_22
  let main_v79 : IVec S_ 1 := andi main_v75 main_v78
  let main_v80 : IVec S1 32 := (extractStridedSlice S1 ![0] · slices_S128_S1_0) main_arg7
  let main_v81 : IVec S_ 32 := shapeCast S_ main_v80 shapeCasts_S1_S_
  let main_c_23 : IVec S_ 32 := constantI S_ 32 0#32
  let main_v82 : IVec S_ 1 := cmpi .eq main_v81 main_c_23
  let main_v83 : IVec S_ 1 := andi main_v79 main_v82
  let main_v84 : IVec S1 1 := (extractStridedSlice S1 ![127] · slices_S128_S1_127) main_v3
  let main_v85 : IVec S_ 1 := shapeCast S_ main_v84 shapeCasts_S1_S_
  let main_v86 : IVec S_ 1 := noti main_v85
  let main_v87 : IVec S1 32 := (extractStridedSlice S1 ![127] · slices_S128_S1_127) main_v70
  let main_v88 : IVec S_ 32 := shapeCast S_ main_v87 shapeCasts_S1_S_
  let main_c_24 : IVec S_ 32 := constantI S_ 32 16384#32
  let main_v89 : IVec S_ 1 := cmpi .eq main_v88 main_c_24
  let main_v90 : IVec S_ 1 := ori main_v86 main_v89
  let main_v91 : IVec S127 1 := (extractStridedSlice S127 ![1] · slices_S128_S127_1) main_v3
  let main_v92 : IVec S127 1 := (extractStridedSlice S127 ![0] · slices_S128_S127_0) main_v3
  let main_v93 : IVec S127 32 := (extractStridedSlice S127 ![1] · slices_S128_S127_1) main_v67
  fn_part5 (F := F) main_arg0 main_arg1 main_arg5 main_arg6 main_arg7 main_arg12 main_v3 main_v7 main_v40 main_v53 main_v64 main_v67 main_v70 main_v83 main_v90 main_v91 main_v92 main_v93

def fn_part3 {F : FTy → Type} [FloatOps F] (main_arg0 : IVec S128 32) (main_arg1 : IVec S128 32) (main_arg2 : IVec S128 32) (main_arg3 : IVec S128 32) (main_arg5 : IVec S128 32) (main_arg6 : IVec S128 32) (main_arg7 : IVec S128 32) (main_arg12 : IVec S16384 32) (main_v3 : IVec S128 1) (main_v7 : IVec S128 1) (main_v40 : IVec S128 1) (main_v41 : IVec S128 1) (main_v52 : IVec S128 1) : IVec S_ 1 :=
  let main_v53 : IVec S128 1 := ori main_v41 main_v52
  let main_v54 : IVec S1 32 := (extractStridedSlice S1 ![127] · slices_S128_S1_127) main_arg1
  let main_v55 : IVec S128 32 := broadcastInDim S128 ![0] bcast_S1_S128_0 main_v54
  let main_v56 : IVec S128 1 := cmpi .eq main_arg1 main_v55
  let main_v57 : IVec S128 1 := andi main_v7 main_v56
  let main_v58 : IVec S128 1 := noti main_v57
  let main_c_18 : IVec S_ 32 := constantI S_ 32 4294967295#32
  let main_v59 : IVec S128 32 := broadcastInDim S128 ![] bcast_S_S128 main_c_18
  let main_v60 : IVec S128 1 := cmpi .eq main_arg5 main_v59
  let main_c_19 : IVec S_ 32 := constantI S_ 32 4294967295#32
  let main_v61 : IVec S128 32 := broadcastInDim S128 ![] bcast_S_S128 main_c_19
  let main_v62 : IVec S128 1 := cmpi .eq main_arg6 main_v61
  let main_v63 : IVec S128 1 := andi main_v60 main_v62
  let main_v64 : IVec S128 1 := ori main_v58 main_v63
  let main_c_20 : IVec S_ 32 := constantI S_ 32 256#32
  let main_v65 : IVec S128 32 := broadcastInDim S128 ![] bcast_S_S128 main_c_20
  let main_v66 : IVec S128 32 := muli main_arg0 main_v65
  let main_v67 : IVec S128 32 := addi main_v66 main_arg2
  let main_c_21 : IVec S_ 32 := constantI S_ 32 256#32
  let main_v68 : IVec S128 32 := broadcastInDim S128 ![] bcast_S_S128 main_c_21
  let main_v69 : IVec S128 32 := muli main_arg0 main_v68
  let main_v70 : IVec S128 32 := addi main_v69 main_arg3
  let main_v71 : IVec S1 1 := (extractStridedSlice S1 ![0] · slices_S128_S1_0) main_v3
  let main_v72 : IVec S_ 1 := shapeCast S_ main_v71 shapeCasts_S1_S_
  fn_part4 (F := F) main_arg0 main_arg1 main_arg5 main_arg6 main_arg7 main_arg12 main_v3 main_v7 main_v40 main_v53 main_v64 main_v67 main_v70 main_v72

def fn_part2 {F : FTy → Type} [FloatOps F] (main_arg0 : IVec S128 32) (main_arg1 : IVec S128 32) (main_arg2 : IVec S128 32) (main_arg3 : IVec S128 32) (main_arg5 : IVec S128 32) (main_arg6 : IVec S128 32) (main_arg7 : IVec S128 32) (main_arg12 : IVec S16384 32) (main_v3 : IVec S128 1) (main_v7 : IVec S128 1) (main_v11 : IVec S128 1) (main_v31 : IVec S128 1) (main_v33 : IVec S128 1) : IVec S_ 1 :=
  let main_v34 : IVec S128 1 := andi main_v31 main_v33
  let main_c_13 : IVec S_ 32 := constantI S_ 32 4294967295#32
  let main_v35 : IVec S128 32 := broadcastInDim S128 ![] bcast_S_S128 main_c_13
  let main_v36 : IVec S128 1 := cmpi .sge main_arg6 main_v35
  let main_v37 : IVec S128 1 := andi main_v34 main_v36
  let main_c_14 : IVec S_ 32 := constantI S_ 32 63#32
  let main_v38 : IVec S128 32 := broadcastInDim S128 ![] bcast_S_S128 main_c_14
  let main_v39 : IVec S128 1 := cmpi .sle main_arg6 main_v38
  let main_v40 : IVec S128 1 := andi main_v37 main_v39
  let main_v41 : IVec S128 1 := noti main_v3
  let main_c_15 : IVec S_ 32 := constantI S_ 32 0#32
  let main_v42 : IVec S128 32 := broadcastInDim S128 ![] bcast_S_S128 main_c_15
  let main_v43 : IVec S128 1 := cmpi .sge main_arg2 main_v42
  let main_v44 : IVec S128 1 := cmpi .slt main_arg2 main_arg3
  let main_v45 : IVec S128 1 := andi main_v43 main_v44
  let main_c_16 : IVec S_ 32 := constantI S_ 32 256#32
  let main_v46 : IVec S128 32 := broadcastInDim S128 ![] bcast_S_S128 main_c_16
  let main_v47 : IVec S128 1 := cmpi .sle main_arg3 main_v46
  let main_v48 : IVec S128 1 := andi main_v45 main_v47
  let main_c_17 : IVec S_ 32 := constantI S_ 32 0#32
  let main_v49 : IVec S128 32 := broadcastInDim S128 ![] bcast_S_S128 main_c_17
  let main_v50 : IVec S128 1 := cmpi .eq main_arg2 main_v49
  let main_v51 : IVec S128 1 := cmpi .eq main_v11 main_v50
  let main_v52 : IVec S128 1 := andi main_v48 main_v51
  fn_part3 (F := F) main_arg0 main_arg1 main_arg2 main_arg3 main_arg5 main_arg6 main_arg7 main_arg12 main_v3 main_v7 main_v40 main_v41 main_v52

def fn_part1 {F : FTy → Type} [FloatOps F] (main_arg0 : IVec S128 32) (main_arg1 : IVec S128 32) (main_arg2 : IVec S128 32) (main_arg3 : IVec S128 32) (main_arg5 : IVec S128 32) (main_arg6 : IVec S128 32) (main_arg7 : IVec S128 32) (main_arg12 : IVec S16384 32) (main_v3 : IVec S128 1) (main_v7 : IVec S128 1) (main_v11 : IVec S128 1) (main_v13 : IVec S128 1) (main_v15 : IVec S128 1) : IVec S_ 1 :=
  let main_v16 : IVec S128 1 := andi main_v13 main_v15
  let main_c_7 : IVec S_ 32 := constantI S_ 32 0#32
  let main_v17 : IVec S128 32 := broadcastInDim S128 ![] bcast_S_S128 main_c_7
  let main_v18 : IVec S128 1 := cmpi .sge main_arg1 main_v17
  let main_v19 : IVec S128 1 := andi main_v16 main_v18
  let main_c_8 : IVec S_ 32 := constantI S_ 32 63#32
  let main_v20 : IVec S128 32 := broadcastInDim S128 ![] bcast_S_S128 main_c_8
  let main_v21 : IVec S128 1 := cmpi .sle main_arg1 main_v20
  let main_v22 : IVec S128 1 := andi main_v19 main_v21
  let main_c_9 : IVec S_ 32 := constantI S_ 32 0#32
  let main_v23 : IVec S128 32 := broadcastInDim S128 ![] bcast_S_S128 main_c_9
  let main_v24 : IVec S128 1 := cmpi .sge main_arg7 main_v23
  let main_v25 : IVec S128 1 := andi main_v22 main_v24
  let main_c_10 : IVec S_ 32 := constantI S_ 32 1#32
  let main_v26 : IVec S128 32 := broadcastInDim S128 ![] bcast_S_S128 main_c_10
  let main_v27 : IVec S128 1 := cmpi .sle main_arg7 main_v26
  let main_v28 : IVec S128 1 := andi main_v25 main_v27
  let main_c_11 : IVec S_ 32 := constantI S_ 32 4294967295#32
  let main_v29 : IVec S128 32 := broadcastInDim S128 ![] bcast_S_S128 main_c_11
  let main_v30 : IVec S128 1 := cmpi .sge main_arg5 main_v29
  let main_v31 : IVec S128 1 := andi main_v28 main_v30
  let main_c_12 : IVec S_ 32 := constantI S_ 32 63#32
  let main_v32 : IVec S128 32 := broadcastInDim S128 ![] bcast_S_S128 main_c_12
  let main_v33 : IVec S128 1 := cmpi .sle main_arg5 main_v32
  fn_part2 (F := F) main_arg0 main_arg1 main_arg2 main_arg3 main_arg5 main_arg6 main_arg7 main_arg12 main_v3 main_v7 main_v11 main_v31 main_v33

def fn {F : FTy → Type} [FloatOps F] (main_arg0 : IVec S128 32) (main_arg1 : IVec S128 32) (main_arg2 : IVec S128 32) (main_arg3 : IVec S128 32) (main_arg4 : IVec S128 32) (main_arg5 : IVec S128 32) (main_arg6 : IVec S128 32) (main_arg7 : IVec S128 32) (main_arg8 : FVec F S16384x2048 .f32) (main_arg9 : FVec F S64x2048x512 .f32) (main_arg10 : FVec F S64x2048x512 .f32) (main_arg11 : FVec F S64x512x2048 .f32) (main_arg12 : IVec S16384 32) : IVec S_ 1 :=
  let main_c : IVec S_ 32 := constantI S_ 32 1#32
  let main_v0 : IVec S128 32 := broadcastInDim S128 ![] bcast_S_S128 main_c
  let main_v1 : IVec S128 32 := andi main_arg4 main_v0
  let main_c_0 : IVec S_ 32 := constantI S_ 32 0#32
  let main_v2 : IVec S128 32 := broadcastInDim S128 ![] bcast_S_S128 main_c_0
  let main_v3 : IVec S128 1 := cmpi .ne main_v1 main_v2
  let main_c_1 : IVec S_ 32 := constantI S_ 32 2#32
  let main_v4 : IVec S128 32 := broadcastInDim S128 ![] bcast_S_S128 main_c_1
  let main_v5 : IVec S128 32 := andi main_arg4 main_v4
  let main_c_2 : IVec S_ 32 := constantI S_ 32 0#32
  let main_v6 : IVec S128 32 := broadcastInDim S128 ![] bcast_S_S128 main_c_2
  let main_v7 : IVec S128 1 := cmpi .ne main_v5 main_v6
  let main_c_3 : IVec S_ 32 := constantI S_ 32 4#32
  let main_v8 : IVec S128 32 := broadcastInDim S128 ![] bcast_S_S128 main_c_3
  let main_v9 : IVec S128 32 := andi main_arg4 main_v8
  let main_c_4 : IVec S_ 32 := constantI S_ 32 0#32
  let main_v10 : IVec S128 32 := broadcastInDim S128 ![] bcast_S_S128 main_c_4
  let main_v11 : IVec S128 1 := cmpi .ne main_v9 main_v10
  let main_c_5 : IVec S_ 32 := constantI S_ 32 0#32
  let main_v12 : IVec S128 32 := broadcastInDim S128 ![] bcast_S_S128 main_c_5
  let main_v13 : IVec S128 1 := cmpi .sge main_arg0 main_v12
  let main_c_6 : IVec S_ 32 := constantI S_ 32 63#32
  let main_v14 : IVec S128 32 := broadcastInDim S128 ![] bcast_S_S128 main_c_6
  let main_v15 : IVec S128 1 := cmpi .sle main_arg0 main_v14
  fn_part1 (F := F) main_arg0 main_arg1 main_arg2 main_arg3 main_arg5 main_arg6 main_arg7 main_arg12 main_v3 main_v7 main_v11 main_v13 main_v15
-- ==== Kernel.lean ====
abbrev S128 : Shape := ⟨1, ![128]⟩
abbrev S16384x2048 : Shape := ⟨2, ![16384, 2048]⟩
abbrev S64x2048x512 : Shape := ⟨3, ![64, 2048, 512]⟩
abbrev S64x512x2048 : Shape := ⟨3, ![64, 512, 2048]⟩
abbrev S16384 : Shape := ⟨1, ![16384]⟩
abbrev S256x2048 : Shape := ⟨2, ![256, 2048]⟩
abbrev S1 : Shape := ⟨1, ![1]⟩
abbrev S2x2048x512 : Shape := ⟨3, ![2, 2048, 512]⟩
abbrev S2x512x2048 : Shape := ⟨3, ![2, 512, 2048]⟩
abbrev S2048x512 : Shape := ⟨2, ![2048, 512]⟩
abbrev S512x2048 : Shape := ⟨2, ![512, 2048]⟩
abbrev S2x3 : Shape := ⟨2, ![2, 3]⟩
abbrev S1x1 : Shape := ⟨2, ![1, 1]⟩
abbrev S_ : Shape := ⟨0, ![]⟩
abbrev S1x2048x512 : Shape := ⟨3, ![1, 2048, 512]⟩
abbrev S1x512x2048 : Shape := ⟨3, ![1, 512, 2048]⟩
abbrev S128x2048 : Shape := ⟨2, ![128, 2048]⟩
abbrev S128x512 : Shape := ⟨2, ![128, 512]⟩

abbrev nBuf : Space → Nat
  | .hbm => 6
  | .vmem => 10
  | .smem => 8
  | _ => 0

abbrev bufTy : (tb : Table) → Fin (tcTables nBuf tb) → BufTy
  | .hbm, ⟨0, _⟩ => ⟨S16384x2048, .f32⟩
  | .hbm, ⟨1, _⟩ => ⟨S64x2048x512, .f32⟩
  | .hbm, ⟨2, _⟩ => ⟨S64x2048x512, .f32⟩
  | .hbm, ⟨3, _⟩ => ⟨S64x512x2048, .f32⟩
  | .hbm, ⟨4, _⟩ => ⟨S16384, .i32⟩
  | .hbm, ⟨5, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2x2048x512, .f32⟩
  | .local _ .vmem, ⟨5, _⟩ => ⟨S2x2048x512, .f32⟩
  | .local _ .vmem, ⟨6, _⟩ => ⟨S2x512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .smem, ⟨0, _⟩ => ⟨S128, .i32⟩
  | .local _ .smem, ⟨1, _⟩ => ⟨S128, .i32⟩
  | .local _ .smem, ⟨2, _⟩ => ⟨S128, .i32⟩
  | .local _ .smem, ⟨3, _⟩ => ⟨S128, .i32⟩
  | .local _ .smem, ⟨4, _⟩ => ⟨S128, .i32⟩
  | .local _ .smem, ⟨5, _⟩ => ⟨S128, .i32⟩
  | .local _ .smem, ⟨6, _⟩ => ⟨S128, .i32⟩
  | .local _ .smem, ⟨7, _⟩ => ⟨S128, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg8 : Ref sig .tc := ⟨.hbm, 0, rfl⟩
abbrev main_arg9 : Ref sig .tc := ⟨.hbm, 1, rfl⟩
abbrev main_arg10 : Ref sig .tc := ⟨.hbm, 2, rfl⟩
abbrev main_arg11 : Ref sig .tc := ⟨.hbm, 3, rfl⟩
abbrev main_arg12 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev main_arg5 : Ref sig .tc := ⟨.smem, 5, rfl⟩
abbrev main_arg6 : Ref sig .tc := ⟨.smem, 6, rfl⟩
abbrev main_arg7 : Ref sig .tc := ⟨.smem, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

abbrev pre0 : Pipeline.Prefetch sig := ⟨8, ![main_arg0.idx, main_arg1.idx, main_arg2.idx, main_arg3.idx, main_arg4.idx, main_arg5.idx, main_arg6.idx, main_arg7.idx], fun | 0 => main_arg0.names | 1 => main_arg1.names | 2 => main_arg2.names | 3 => main_arg3.names | 4 => main_arg4.names | 5 => main_arg5.names | 6 => main_arg6.names | 7 => main_arg7.names | ⟨_ + 8, h⟩ => absurd h (Nat.not_lt.2 (Nat.le_add_left _ _)), fun | 0 => rfl | 1 => rfl | 2 => rfl | 3 => rfl | 4 => rfl | 5 => rfl | 6 => rfl | 7 => rfl | ⟨_ + 8, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off2 (v36 : BitVec 32) : Fin 3 → Nat :=
  let c0_i32_19 : BitVec 32 := 0#32
  let c0_i32_20 : BitVec 32 := 0#32
  ![v36.toNat, 0, 0]

def k0_chk1 (i : grid0.Coords) (v36 : BitVec 32) : Prop :=
  (∀ (k0_h1 : k0_cond1 i = 1#1), ∀ a, (k0_off2 v36) a + S1x2048x512.size a ≤ S64x2048x512.size a)
theorem k0_off2_inb : ∀ (i : grid0.Coords) (v36 : BitVec 32) (k0_hw1 : k0_chk1 i v36), ∀ (k0_h1 : k0_cond1 i = 1#1), ∀ a, (k0_off2 v36) a + S1x2048x512.size a ≤ S64x2048x512.size a := fun i v36 k0_hw1 k0_h1 => k0_hw1 k0_h1

def k0_off3 (v43 : BitVec 32) : Fin 3 → Nat :=
  let c0_i32_27 : BitVec 32 := 0#32
  let c0_i32_28 : BitVec 32 := 0#32
  ![v43.toNat, 0, 0]

def k0_chk2 (i : grid0.Coords) (v43 : BitVec 32) : Prop :=
  (∀ (k0_h1 : k0_cond1 i = 1#1), ∀ a, (k0_off3 v43) a + S1x2048x512.size a ≤ S64x2048x512.size a)
theorem k0_off3_inb : ∀ (i : grid0.Coords) (v43 : BitVec 32) (k0_hw2 : k0_chk2 i v43), ∀ (k0_h1 : k0_cond1 i = 1#1), ∀ a, (k0_off3 v43) a + S1x2048x512.size a ≤ S64x2048x512.size a := fun i v43 k0_hw2 k0_h1 => k0_hw2 k0_h1

def k0_off4 (v50 : BitVec 32) : Fin 3 → Nat :=
  let c0_i32_35 : BitVec 32 := 0#32
  let c0_i32_36 : BitVec 32 := 0#32
  ![v50.toNat, 0, 0]

def k0_chk3 (i : grid0.Coords) (v50 : BitVec 32) : Prop :=
  (∀ (k0_h1 : k0_cond1 i = 1#1), ∀ a, (k0_off4 v50) a + S1x512x2048.size a ≤ S64x512x2048.size a)
theorem k0_off4_inb : ∀ (i : grid0.Coords) (v50 : BitVec 32) (k0_hw3 : k0_chk3 i v50), ∀ (k0_h1 : k0_cond1 i = 1#1), ∀ a, (k0_off4 v50) a + S1x512x2048.size a ≤ S64x512x2048.size a := fun i v50 k0_hw3 k0_h1 => k0_hw3 k0_h1

def k0_off5 (v57 : BitVec 32) : Fin 3 → Nat :=
  let c0_i32_45 : BitVec 32 := 0#32
  let c0_i32_46 : BitVec 32 := 0#32
  ![v57.toNat, 0, 0]
def k0_cond2 (v57 : BitVec 32) : BitVec 1 :=
  let c0_i32_38 : BitVec 32 := 0#32
  let v58 : BitVec 1 := Scalar.cmpi .sge v57 c0_i32_38
  let v59 : BitVec 32 := Scalar.extui v58
  let c0_i32_39 : BitVec 32 := 0#32
  let v60 : BitVec 1 := Scalar.cmpi .ne v59 c0_i32_39
  v60

def k0_off6 (v57 : BitVec 32) : Fin 3 → Nat :=
  let c0_i32_59 : BitVec 32 := 0#32
  let c0_i32_60 : BitVec 32 := 0#32
  ![v57.toNat, 0, 0]

def k0_chk4 (i : grid0.Coords) (v57 : BitVec 32) : Prop :=
  (∀ (k0_h1 : k0_cond1 i = 1#1), ∀ (k0_h2 : k0_cond2 v57 = 1#1), ∀ a, (k0_off5 v57) a + S1x2048x512.size a ≤ S64x2048x512.size a) ∧
  (∀ (k0_h1 : k0_cond1 i = 1#1), ∀ (k0_h2 : k0_cond2 v57 = 1#1), ∀ a, (k0_off6 v57) a + S1x512x2048.size a ≤ S64x512x2048.size a)
theorem k0_off5_inb : ∀ (i : grid0.Coords) (v57 : BitVec 32) (k0_hw4 : k0_chk4 i v57), ∀ (k0_h1 : k0_cond1 i = 1#1), ∀ (k0_h2 : k0_cond2 v57 = 1#1), ∀ a, (k0_off5 v57) a + S1x2048x512.size a ≤ S64x2048x512.size a := fun i v57 k0_hw4 k0_h1 k0_h2 => k0_hw4.1 k0_h1 k0_h2
theorem k0_off6_inb : ∀ (i : grid0.Coords) (v57 : BitVec 32) (k0_hw4 : k0_chk4 i v57), ∀ (k0_h1 : k0_cond1 i = 1#1), ∀ (k0_h2 : k0_cond2 v57 = 1#1), ∀ a, (k0_off6 v57) a + S1x512x2048.size a ≤ S64x512x2048.size a := fun i v57 k0_hw4 k0_h1 k0_h2 => k0_hw4.2 k0_h1 k0_h2

def k0_off7 (i : grid0.Coords) : Fin 1 → Nat :=
  let arg0 : BitVec 32 := BitVec.ofNat 32 (i 0).val
  let v36 : Index := Scalar.indexCast arg0
  ![v36.toNat]
def k0_off8 (v37 : BitVec 32) : Fin 2 → Nat :=
  let c0_i32_14 : BitVec 32 := 0#32
  ![v37.toNat, 0]
def k0_cond3 (v1 : BitVec 32) : BitVec 1 :=
  let c2_i32 : BitVec 32 := 2#32
  let v5 : BitVec 32 := Scalar.andi v1 c2_i32
  let c0_i32_1 : BitVec 32 := 0#32
  let v6 : BitVec 1 := Scalar.cmpi .ne v5 c0_i32_1
  let v7 : BitVec 32 := Scalar.extui v6
  let c0_i32_2 : BitVec 32 := 0#32
  let v8 : BitVec 1 := Scalar.cmpi .ne v7 c0_i32_2
  v8

def k0_off9 (v37 : BitVec 32) : Fin 3 → Nat :=
  let c0_i32_15 : BitVec 32 := 0#32
  let c0_i32_16 : BitVec 32 := 0#32
  ![v37.toNat, 0, 0]
def k0_off10 (v41 : BitVec 32) : Fin 3 → Nat :=
  let c0_i32_17 : BitVec 32 := 0#32
  let c0_i32_18 : BitVec 32 := 0#32
  ![v41.toNat, 0, 0]

def k0_chk6 (v1 : BitVec 32) (v41 : BitVec 32) : Prop :=
  (∀ (k0_h3 : k0_cond3 v1 = 1#1), ∀ a, (k0_off10 v41) a + S1x2048x512.size a ≤ S64x2048x512.size a)
theorem k0_off10_inb : ∀ (v1 : BitVec 32) (v41 : BitVec 32) (k0_hw6 : k0_chk6 v1 v41), ∀ (k0_h3 : k0_cond3 v1 = 1#1), ∀ a, (k0_off10 v41) a + S1x2048x512.size a ≤ S64x2048x512.size a := fun v1 v41 k0_hw6 k0_h3 => k0_hw6 k0_h3

def k0_off11 (v37 : BitVec 32) : Fin 3 → Nat :=
  let v48 : Index := Scalar.indexCast v37
  let c0 : Index := 0#32
  let c0_19 : Index := 0#32
  ![v48.toNat, 0, 0]
def k0_off12 (v37 : BitVec 32) : Fin 2 → Nat :=
  let c0_i32_46 : BitVec 32 := 0#32
  ![v37.toNat, 0]
def k0_cond4 (v39 : BitVec 32) : BitVec 1 :=
  let c0_i32_22 : BitVec 32 := 0#32
  let v55 : BitVec 1 := Scalar.cmpi .sge v39 c0_i32_22
  let v56 : BitVec 32 := Scalar.extui v55
  let c0_i32_23 : BitVec 32 := 0#32
  let v57 : BitVec 1 := Scalar.cmpi .ne v56 c0_i32_23
  v57

def k0_off13 (v37 : BitVec 32) : Fin 3 → Nat :=
  let c0_i32_47 : BitVec 32 := 0#32
  let c0_i32_48 : BitVec 32 := 0#32
  ![v37.toNat, 0, 0]
def k0_off14 (v39 : BitVec 32) : Fin 3 → Nat :=
  let c0_i32_49 : BitVec 32 := 0#32
  let c0_i32_50 : BitVec 32 := 0#32
  ![v39.toNat, 0, 0]
def k0_off15 (i : grid0.Coords) : Fin 1 → Nat :=
  let arg0 : BitVec 32 := BitVec.ofNat 32 (i 0).val
  let v58 : Index := Scalar.indexCast arg0
  ![v58.toNat]
def k0_off16 (v37 : BitVec 32) : Fin 2 → Nat :=
  let c1_i32_24 : BitVec 32 := 1#32
  ![v37.toNat, 1]
def k0_off17 (v37 : BitVec 32) : Fin 3 → Nat :=
  let c0_i32_25 : BitVec 32 := 0#32
  let c0_i32_26 : BitVec 32 := 0#32
  ![v37.toNat, 0, 0]
def k0_off18 (v59 : BitVec 32) : Fin 3 → Nat :=
  let c0_i32_27 : BitVec 32 := 0#32
  let c0_i32_28 : BitVec 32 := 0#32
  ![v59.toNat, 0, 0]

def k0_chk8 (v1 : BitVec 32) (v59 : BitVec 32) : Prop :=
  (∀ (k0_h3 : k0_cond3 v1 = 1#1), ∀ a, (k0_off18 v59) a + S1x2048x512.size a ≤ S64x2048x512.size a)
theorem k0_off18_inb : ∀ (v1 : BitVec 32) (v59 : BitVec 32) (k0_hw8 : k0_chk8 v1 v59), ∀ (k0_h3 : k0_cond3 v1 = 1#1), ∀ a, (k0_off18 v59) a + S1x2048x512.size a ≤ S64x2048x512.size a := fun v1 v59 k0_hw8 k0_h3 => k0_hw8 k0_h3

def k0_off19 (v37 : BitVec 32) : Fin 3 → Nat :=
  let v66 : Index := Scalar.indexCast v37
  let c0_29 : Index := 0#32
  let c0_30 : Index := 0#32
  ![v66.toNat, 0, 0]
def k0_off20 (v37 : BitVec 32) : Fin 2 → Nat :=
  let c1_i32_46 : BitVec 32 := 1#32
  ![v37.toNat, 1]
def k0_cond5 (v39 : BitVec 32) : BitVec 1 :=
  let c0_i32_33 : BitVec 32 := 0#32
  let v73 : BitVec 1 := Scalar.cmpi .sge v39 c0_i32_33
  let v74 : BitVec 32 := Scalar.extui v73
  let c0_i32_34 : BitVec 32 := 0#32
  let v75 : BitVec 1 := Scalar.cmpi .ne v74 c0_i32_34
  v75

def k0_off21 (v37 : BitVec 32) : Fin 3 → Nat :=
  let c0_i32_47 : BitVec 32 := 0#32
  let c0_i32_48 : BitVec 32 := 0#32
  ![v37.toNat, 0, 0]
def k0_off22 (v39 : BitVec 32) : Fin 3 → Nat :=
  let c0_i32_49 : BitVec 32 := 0#32
  let c0_i32_50 : BitVec 32 := 0#32
  ![v39.toNat, 0, 0]
def k0_off23 (i : grid0.Coords) : Fin 1 → Nat :=
  let arg0 : BitVec 32 := BitVec.ofNat 32 (i 0).val
  let v76 : Index := Scalar.indexCast arg0
  ![v76.toNat]
def k0_off24 (v37 : BitVec 32) : Fin 2 → Nat :=
  let c2_i32_35 : BitVec 32 := 2#32
  ![v37.toNat, 2]
def k0_off25 (v37 : BitVec 32) : Fin 3 → Nat :=
  let c0_i32_36 : BitVec 32 := 0#32
  let c0_i32_37 : BitVec 32 := 0#32
  ![v37.toNat, 0, 0]
def k0_off26 (v77 : BitVec 32) : Fin 3 → Nat :=
  let c0_i32_38 : BitVec 32 := 0#32
  let c0_i32_39 : BitVec 32 := 0#32
  ![v77.toNat, 0, 0]

def k0_chk9 (v1 : BitVec 32) (v77 : BitVec 32) : Prop :=
  (∀ (k0_h3 : k0_cond3 v1 = 1#1), ∀ a, (k0_off26 v77) a + S1x512x2048.size a ≤ S64x512x2048.size a)
theorem k0_off26_inb : ∀ (v1 : BitVec 32) (v77 : BitVec 32) (k0_hw9 : k0_chk9 v1 v77), ∀ (k0_h3 : k0_cond3 v1 = 1#1), ∀ a, (k0_off26 v77) a + S1x512x2048.size a ≤ S64x512x2048.size a := fun v1 v77 k0_hw9 k0_h3 => k0_hw9 k0_h3

def k0_off27 (v37 : BitVec 32) : Fin 3 → Nat :=
  let v84 : Index := Scalar.indexCast v37
  let c0_40 : Index := 0#32
  let c0_41 : Index := 0#32
  ![v84.toNat, 0, 0]

def k0_chk5 (v1 : BitVec 32) (v37 : BitVec 32) : Prop :=
  (∀ (k0_h3 : k0_cond3 v1 = 1#1), ∀ a, (k0_off8 v37) a + S1x1.size a ≤ S2x3.size a) ∧
  (∀ (k0_h3 : k0_cond3 v1 = 1#1), ∀ a, (k0_off9 v37) a + S1x2048x512.size a ≤ S2x2048x512.size a) ∧
  (∀ (k0_h3 : k0_cond3 v1 = 1#1), ∀ a, (k0_off11 v37) a + S1x2048x512.size a ≤ S2x2048x512.size a) ∧
  (∀ (k0_h3 : k0_cond3 v1 = 1#1), ∀ a, (k0_off16 v37) a + S1x1.size a ≤ S2x3.size a) ∧
  (∀ (k0_h3 : k0_cond3 v1 = 1#1), ∀ a, (k0_off17 v37) a + S1x2048x512.size a ≤ S2x2048x512.size a) ∧
  (∀ (k0_h3 : k0_cond3 v1 = 1#1), ∀ a, (k0_off19 v37) a + S1x2048x512.size a ≤ S2x2048x512.size a) ∧
  (∀ (k0_h3 : k0_cond3 v1 = 1#1), ∀ a, (k0_off24 v37) a + S1x1.size a ≤ S2x3.size a) ∧
  (∀ (k0_h3 : k0_cond3 v1 = 1#1), ∀ a, (k0_off25 v37) a + S1x512x2048.size a ≤ S2x512x2048.size a) ∧
  (∀ (k0_h3 : k0_cond3 v1 = 1#1), ∀ a, (k0_off27 v37) a + S1x512x2048.size a ≤ S2x512x2048.size a)
theorem k0_off8_inb : ∀ (v1 : BitVec 32) (v37 : BitVec 32) (k0_hw5 : k0_chk5 v1 v37), ∀ (k0_h3 : k0_cond3 v1 = 1#1), ∀ a, (k0_off8 v37) a + S1x1.size a ≤ S2x3.size a := fun v1 v37 k0_hw5 k0_h3 => k0_hw5.1 k0_h3
theorem k0_off9_inb : ∀ (v1 : BitVec 32) (v37 : BitVec 32) (k0_hw5 : k0_chk5 v1 v37), ∀ (k0_h3 : k0_cond3 v1 = 1#1), ∀ a, (k0_off9 v37) a + S1x2048x512.size a ≤ S2x2048x512.size a := fun v1 v37 k0_hw5 k0_h3 => k0_hw5.2.1 k0_h3
theorem k0_off11_inb : ∀ (v1 : BitVec 32) (v37 : BitVec 32) (k0_hw5 : k0_chk5 v1 v37), ∀ (k0_h3 : k0_cond3 v1 = 1#1), ∀ a, (k0_off11 v37) a + S1x2048x512.size a ≤ S2x2048x512.size a := fun v1 v37 k0_hw5 k0_h3 => k0_hw5.2.2.1 k0_h3
theorem k0_off16_inb : ∀ (v1 : BitVec 32) (v37 : BitVec 32) (k0_hw5 : k0_chk5 v1 v37), ∀ (k0_h3 : k0_cond3 v1 = 1#1), ∀ a, (k0_off16 v37) a + S1x1.size a ≤ S2x3.size a := fun v1 v37 k0_hw5 k0_h3 => k0_hw5.2.2.2.1 k0_h3
theorem k0_off17_inb : ∀ (v1 : BitVec 32) (v37 : BitVec 32) (k0_hw5 : k0_chk5 v1 v37), ∀ (k0_h3 : k0_cond3 v1 = 1#1), ∀ a, (k0_off17 v37) a + S1x2048x512.size a ≤ S2x2048x512.size a := fun v1 v37 k0_hw5 k0_h3 => k0_hw5.2.2.2.2.1 k0_h3
theorem k0_off19_inb : ∀ (v1 : BitVec 32) (v37 : BitVec 32) (k0_hw5 : k0_chk5 v1 v37), ∀ (k0_h3 : k0_cond3 v1 = 1#1), ∀ a, (k0_off19 v37) a + S1x2048x512.size a ≤ S2x2048x512.size a := fun v1 v37 k0_hw5 k0_h3 => k0_hw5.2.2.2.2.2.1 k0_h3
theorem k0_off24_inb : ∀ (v1 : BitVec 32) (v37 : BitVec 32) (k0_hw5 : k0_chk5 v1 v37), ∀ (k0_h3 : k0_cond3 v1 = 1#1), ∀ a, (k0_off24 v37) a + S1x1.size a ≤ S2x3.size a := fun v1 v37 k0_hw5 k0_h3 => k0_hw5.2.2.2.2.2.2.1 k0_h3
theorem k0_off25_inb : ∀ (v1 : BitVec 32) (v37 : BitVec 32) (k0_hw5 : k0_chk5 v1 v37), ∀ (k0_h3 : k0_cond3 v1 = 1#1), ∀ a, (k0_off25 v37) a + S1x512x2048.size a ≤ S2x512x2048.size a := fun v1 v37 k0_hw5 k0_h3 => k0_hw5.2.2.2.2.2.2.2.1 k0_h3
theorem k0_off27_inb : ∀ (v1 : BitVec 32) (v37 : BitVec 32) (k0_hw5 : k0_chk5 v1 v37), ∀ (k0_h3 : k0_cond3 v1 = 1#1), ∀ a, (k0_off27 v37) a + S1x512x2048.size a ≤ S2x512x2048.size a := fun v1 v37 k0_hw5 k0_h3 => k0_hw5.2.2.2.2.2.2.2.2 k0_h3

def k0_off28 (v37 : BitVec 32) : Fin 2 → Nat :=
  let c2_i32_46 : BitVec 32 := 2#32
  ![v37.toNat, 2]
def k0_cond6 (v39 : BitVec 32) : BitVec 1 :=
  let c0_i32_44 : BitVec 32 := 0#32
  let v91 : BitVec 1 := Scalar.cmpi .sge v39 c0_i32_44
  let v92 : BitVec 32 := Scalar.extui v91
  let c0_i32_45 : BitVec 32 := 0#32
  let v93 : BitVec 1 := Scalar.cmpi .ne v92 c0_i32_45
  v93

def k0_off29 (v37 : BitVec 32) : Fin 3 → Nat :=
  let c0_i32_47 : BitVec 32 := 0#32
  let c0_i32_48 : BitVec 32 := 0#32
  ![v37.toNat, 0, 0]
def k0_off30 (v39 : BitVec 32) : Fin 3 → Nat :=
  let c0_i32_49 : BitVec 32 := 0#32
  let c0_i32_50 : BitVec 32 := 0#32
  ![v39.toNat, 0, 0]

def k0_chk7 (v1 : BitVec 32) (v37 : BitVec 32) (v39 : BitVec 32) : Prop :=
  (∀ (k0_h3 : k0_cond3 v1 = 1#1), ∀ (k0_h4 : k0_cond4 v39 = 1#1), ∀ a, (k0_off12 v37) a + S1x1.size a ≤ S2x3.size a) ∧
  (∀ (k0_h3 : k0_cond3 v1 = 1#1), ∀ (k0_h4 : k0_cond4 v39 = 1#1), ∀ a, (k0_off13 v37) a + S1x2048x512.size a ≤ S2x2048x512.size a) ∧
  (∀ (k0_h3 : k0_cond3 v1 = 1#1), ∀ (k0_h4 : k0_cond4 v39 = 1#1), ∀ a, (k0_off14 v39) a + S1x2048x512.size a ≤ S64x2048x512.size a) ∧
  (∀ (k0_h3 : k0_cond3 v1 = 1#1), ∀ (k0_h5 : k0_cond5 v39 = 1#1), ∀ a, (k0_off20 v37) a + S1x1.size a ≤ S2x3.size a) ∧
  (∀ (k0_h3 : k0_cond3 v1 = 1#1), ∀ (k0_h5 : k0_cond5 v39 = 1#1), ∀ a, (k0_off21 v37) a + S1x2048x512.size a ≤ S2x2048x512.size a) ∧
  (∀ (k0_h3 : k0_cond3 v1 = 1#1), ∀ (k0_h5 : k0_cond5 v39 = 1#1), ∀ a, (k0_off22 v39) a + S1x2048x512.size a ≤ S64x2048x512.size a) ∧
  (∀ (k0_h3 : k0_cond3 v1 = 1#1), ∀ (k0_h6 : k0_cond6 v39 = 1#1), ∀ a, (k0_off28 v37) a + S1x1.size a ≤ S2x3.size a) ∧
  (∀ (k0_h3 : k0_cond3 v1 = 1#1), ∀ (k0_h6 : k0_cond6 v39 = 1#1), ∀ a, (k0_off29 v37) a + S1x512x2048.size a ≤ S2x512x2048.size a) ∧
  (∀ (k0_h3 : k0_cond3 v1 = 1#1), ∀ (k0_h6 : k0_cond6 v39 = 1#1), ∀ a, (k0_off30 v39) a + S1x512x2048.size a ≤ S64x512x2048.size a)
theorem k0_off12_inb : ∀ (v1 : BitVec 32) (v37 : BitVec 32) (v39 : BitVec 32) (k0_hw7 : k0_chk7 v1 v37 v39), ∀ (k0_h3 : k0_cond3 v1 = 1#1), ∀ (k0_h4 : k0_cond4 v39 = 1#1), ∀ a, (k0_off12 v37) a + S1x1.size a ≤ S2x3.size a := fun v1 v37 v39 k0_hw7 k0_h3 k0_h4 => k0_hw7.1 k0_h3 k0_h4
theorem k0_off13_inb : ∀ (v1 : BitVec 32) (v37 : BitVec 32) (v39 : BitVec 32) (k0_hw7 : k0_chk7 v1 v37 v39), ∀ (k0_h3 : k0_cond3 v1 = 1#1), ∀ (k0_h4 : k0_cond4 v39 = 1#1), ∀ a, (k0_off13 v37) a + S1x2048x512.size a ≤ S2x2048x512.size a := fun v1 v37 v39 k0_hw7 k0_h3 k0_h4 => k0_hw7.2.1 k0_h3 k0_h4
theorem k0_off14_inb : ∀ (v1 : BitVec 32) (v37 : BitVec 32) (v39 : BitVec 32) (k0_hw7 : k0_chk7 v1 v37 v39), ∀ (k0_h3 : k0_cond3 v1 = 1#1), ∀ (k0_h4 : k0_cond4 v39 = 1#1), ∀ a, (k0_off14 v39) a + S1x2048x512.size a ≤ S64x2048x512.size a := fun v1 v37 v39 k0_hw7 k0_h3 k0_h4 => k0_hw7.2.2.1 k0_h3 k0_h4
theorem k0_off20_inb : ∀ (v1 : BitVec 32) (v37 : BitVec 32) (v39 : BitVec 32) (k0_hw7 : k0_chk7 v1 v37 v39), ∀ (k0_h3 : k0_cond3 v1 = 1#1), ∀ (k0_h5 : k0_cond5 v39 = 1#1), ∀ a, (k0_off20 v37) a + S1x1.size a ≤ S2x3.size a := fun v1 v37 v39 k0_hw7 k0_h3 k0_h5 => k0_hw7.2.2.2.1 k0_h3 k0_h5
theorem k0_off21_inb : ∀ (v1 : BitVec 32) (v37 : BitVec 32) (v39 : BitVec 32) (k0_hw7 : k0_chk7 v1 v37 v39), ∀ (k0_h3 : k0_cond3 v1 = 1#1), ∀ (k0_h5 : k0_cond5 v39 = 1#1), ∀ a, (k0_off21 v37) a + S1x2048x512.size a ≤ S2x2048x512.size a := fun v1 v37 v39 k0_hw7 k0_h3 k0_h5 => k0_hw7.2.2.2.2.1 k0_h3 k0_h5
theorem k0_off22_inb : ∀ (v1 : BitVec 32) (v37 : BitVec 32) (v39 : BitVec 32) (k0_hw7 : k0_chk7 v1 v37 v39), ∀ (k0_h3 : k0_cond3 v1 = 1#1), ∀ (k0_h5 : k0_cond5 v39 = 1#1), ∀ a, (k0_off22 v39) a + S1x2048x512.size a ≤ S64x2048x512.size a := fun v1 v37 v39 k0_hw7 k0_h3 k0_h5 => k0_hw7.2.2.2.2.2.1 k0_h3 k0_h5
theorem k0_off28_inb : ∀ (v1 : BitVec 32) (v37 : BitVec 32) (v39 : BitVec 32) (k0_hw7 : k0_chk7 v1 v37 v39), ∀ (k0_h3 : k0_cond3 v1 = 1#1), ∀ (k0_h6 : k0_cond6 v39 = 1#1), ∀ a, (k0_off28 v37) a + S1x1.size a ≤ S2x3.size a := fun v1 v37 v39 k0_hw7 k0_h3 k0_h6 => k0_hw7.2.2.2.2.2.2.1 k0_h3 k0_h6
theorem k0_off29_inb : ∀ (v1 : BitVec 32) (v37 : BitVec 32) (v39 : BitVec 32) (k0_hw7 : k0_chk7 v1 v37 v39), ∀ (k0_h3 : k0_cond3 v1 = 1#1), ∀ (k0_h6 : k0_cond6 v39 = 1#1), ∀ a, (k0_off29 v37) a + S1x512x2048.size a ≤ S2x512x2048.size a := fun v1 v37 v39 k0_hw7 k0_h3 k0_h6 => k0_hw7.2.2.2.2.2.2.2.1 k0_h3 k0_h6
theorem k0_off30_inb : ∀ (v1 : BitVec 32) (v37 : BitVec 32) (v39 : BitVec 32) (k0_hw7 : k0_chk7 v1 v37 v39), ∀ (k0_h3 : k0_cond3 v1 = 1#1), ∀ (k0_h6 : k0_cond6 v39 = 1#1), ∀ a, (k0_off30 v39) a + S1x512x2048.size a ≤ S64x512x2048.size a := fun v1 v37 v39 k0_hw7 k0_h3 k0_h6 => k0_hw7.2.2.2.2.2.2.2.2 k0_h3 k0_h6

def k0_off31 (i : grid0.Coords) : Fin 1 → Nat :=
  let arg0 : BitVec 32 := BitVec.ofNat 32 (i 0).val
  let v16 : Index := Scalar.indexCast arg0
  ![v16.toNat]
def k0_cond7 (v1 : BitVec 32) : BitVec 1 :=
  let c1_i32 : BitVec 32 := 1#32
  let v9 : BitVec 32 := Scalar.andi v1 c1_i32
  let c0_i32_3 : BitVec 32 := 0#32
  let v10 : BitVec 1 := Scalar.cmpi .ne v9 c0_i32_3
  let c4_i32 : BitVec 32 := 4#32
  let v11 : BitVec 32 := Scalar.andi v1 c4_i32
  let c0_i32_4 : BitVec 32 := 0#32
  let v12 : BitVec 1 := Scalar.cmpi .ne v11 c0_i32_4
  let v13 : BitVec 1 := Scalar.andi v10 v12
  let v14 : BitVec 32 := Scalar.extui v13
  let c0_i32_5 : BitVec 32 := 0#32
  let v15 : BitVec 1 := Scalar.cmpi .ne v14 c0_i32_5
  v15

def k0_cond8 (v1 : BitVec 32) (v17 : BitVec 32) (v19 : BitVec 32) : BitVec 1 :=
  let c1_i32_6 : BitVec 32 := 1#32
  let v20 : BitVec 32 := Scalar.andi v1 c1_i32_6
  let c0_i32_7 : BitVec 32 := 0#32
  let v21 : BitVec 1 := Scalar.cmpi .ne v20 c0_i32_7
  let c128_i32 : BitVec 32 := 128#32
  let v22 : BitVec 1 := Scalar.cmpi .slt v17 c128_i32
  let v23 : BitVec 1 := Scalar.andi v21 v22
  let c0_i32_8 : BitVec 32 := 0#32
  let v24 : BitVec 1 := Scalar.cmpi .sgt v19 c0_i32_8
  let v25 : BitVec 1 := Scalar.andi v23 v24
  let v26 : BitVec 32 := Scalar.extui v25
  let c0_i32_9 : BitVec 32 := 0#32
  let v27 : BitVec 1 := Scalar.cmpi .ne v26 c0_i32_9
  v27

def k0_cond9 (v1 : BitVec 32) (v17 : BitVec 32) (v19 : BitVec 32) : BitVec 1 :=
  let c1_i32_10 : BitVec 32 := 1#32
  let v28 : BitVec 32 := Scalar.andi v1 c1_i32_10
  let c0_i32_11 : BitVec 32 := 0#32
  let v29 : BitVec 1 := Scalar.cmpi .ne v28 c0_i32_11
  let c256_i32 : BitVec 32 := 256#32
  let v30 : BitVec 1 := Scalar.cmpi .slt v17 c256_i32
  let v31 : BitVec 1 := Scalar.andi v29 v30
  let c128_i32_12 : BitVec 32 := 128#32
  let v32 : BitVec 1 := Scalar.cmpi .sgt v19 c128_i32_12
  let v33 : BitVec 1 := Scalar.andi v31 v32
  let v34 : BitVec 32 := Scalar.extui v33
  let c0_i32_13 : BitVec 32 := 0#32
  let v35 : BitVec 1 := Scalar.cmpi .ne v34 c0_i32_13
  v35

def cc0_transform_0 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128 : Shape := ⟨1, ![128]⟩
abbrev S16384x2048 : Shape := ⟨2, ![16384, 2048]⟩
abbrev S64x2048x512 : Shape := ⟨3, ![64, 2048, 512]⟩
abbrev S64x512x2048 : Shape := ⟨3, ![64, 512, 2048]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x64x512 : Shape := ⟨3, ![16384, 64, 512]⟩
abbrev S_ : Shape := ⟨0, ![]⟩
abbrev S16384x64x1 : Shape := ⟨3, ![16384, 64, 1]⟩

abbrev nBuf : Space → Nat
  | .hbm => 35
  | .vmem => 0
  | .smem => 0
  | _ => 0

abbrev bufTy : (tb : Table) → Fin (tcTables nBuf tb) → BufTy
  | .hbm, ⟨0, _⟩ => ⟨S128, .i32⟩
  | .hbm, ⟨1, _⟩ => ⟨S128, .i32⟩
  | .hbm, ⟨2, _⟩ => ⟨S128, .i32⟩
  | .hbm, ⟨3, _⟩ => ⟨S128, .i32⟩
  | .hbm, ⟨4, _⟩ => ⟨S128, .i32⟩
  | .hbm, ⟨5, _⟩ => ⟨S128, .i32⟩
  | .hbm, ⟨6, _⟩ => ⟨S128, .i32⟩
  | .hbm, ⟨7, _⟩ => ⟨S128, .i32⟩
  | .hbm, ⟨8, _⟩ => ⟨S16384x2048, .f32⟩
  | .hbm, ⟨9, _⟩ => ⟨S64x2048x512, .f32⟩
  | .hbm, ⟨10, _⟩ => ⟨S64x2048x512, .f32⟩
  | .hbm, ⟨11, _⟩ => ⟨S64x512x2048, .f32⟩
  | .hbm, ⟨12, _⟩ => ⟨S16384, .i32⟩
  | .hbm, ⟨13, _⟩ => ⟨S16384x1, .i32⟩
  | .hbm, ⟨14, _⟩ => ⟨S1x64, .i32⟩
  | .hbm, ⟨15, _⟩ => ⟨S16384x64, .i32⟩
  | .hbm, ⟨16, _⟩ => ⟨S16384x64, .i32⟩
  | .hbm, ⟨17, _⟩ => ⟨S16384x64, .i1⟩
  | .hbm, ⟨18, _⟩ => ⟨S16384x64, .f32⟩
  | .hbm, ⟨19, _⟩ => ⟨S16384x64x512, .f32⟩
  | .hbm, ⟨20, _⟩ => ⟨S16384x64x512, .f32⟩
  | .hbm, ⟨21, _⟩ => ⟨S16384x64x512, .f32⟩
  | .hbm, ⟨22, _⟩ => ⟨S16384x64x512, .f32⟩
  | .hbm, ⟨23, _⟩ => ⟨S_, .f32⟩
  | .hbm, ⟨24, _⟩ => ⟨S16384x64x512, .f32⟩
  | .hbm, ⟨25, _⟩ => ⟨S16384x64x512, .f32⟩
  | .hbm, ⟨26, _⟩ => ⟨S_, .f32⟩
  | .hbm, ⟨27, _⟩ => ⟨S16384x64x512, .f32⟩
  | .hbm, ⟨28, _⟩ => ⟨S16384x64x512, .f32⟩
  | .hbm, ⟨29, _⟩ => ⟨S16384x64x512, .f32⟩
  | .hbm, ⟨30, _⟩ => ⟨S16384x64x512, .f32⟩
  | .hbm, ⟨31, _⟩ => ⟨S16384x64x1, .f32⟩
  | .hbm, ⟨32, _⟩ => ⟨S16384x64x512, .f32⟩
  | .hbm, ⟨33, _⟩ => ⟨S16384x64x512, .f32⟩
  | .hbm, ⟨34, _⟩ => ⟨S16384x2048, .f32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩

abbrev nD : Nat := 1
abbrev τ : Topo := Topo.v7x

variable {F : FTy → Type} [FloatOps F]
-- ==== Kernel2.lean ====
abbrev S8192x9728 : Shape := ⟨2, ![8192, 9728]⟩
abbrev S8192x1024 : Shape := ⟨2, ![8192, 1024]⟩
abbrev S8192x2048 : Shape := ⟨2, ![8192, 2048]⟩
abbrev S4x6x2048 : Shape := ⟨3, ![4, 6, 2048]⟩
abbrev S4096 : Shape := ⟨1, ![4096]⟩
abbrev S1024x2048 : Shape := ⟨2, ![1024, 2048]⟩
abbrev S2048x2048 : Shape := ⟨2, ![2048, 2048]⟩
abbrev S2048 : Shape := ⟨1, ![2048]⟩
abbrev S2048x128 : Shape := ⟨2, ![2048, 128]⟩
abbrev S2048x256 : Shape := ⟨2, ![2048, 256]⟩
abbrev S1x128 : Shape := ⟨2, ![1, 128]⟩
abbrev S1x4096 : Shape := ⟨2, ![1, 4096]⟩
abbrev S1x2048 : Shape := ⟨2, ![1, 2048]⟩
abbrev S8192x128 : Shape := ⟨2, ![8192, 128]⟩
abbrev S256x2048 : Shape := ⟨2, ![256, 2048]⟩
abbrev S256x1024 : Shape := ⟨2, ![256, 1024]⟩
abbrev S1x6x2048 : Shape := ⟨3, ![1, 6, 2048]⟩
abbrev S256x128 : Shape := ⟨2, ![256, 128]⟩
abbrev S1x1x2048 : Shape := ⟨3, ![1, 1, 2048]⟩
abbrev S256 : Shape := ⟨1, ![256]⟩
abbrev S256x1 : Shape := ⟨2, ![256, 1]⟩
abbrev S256x256 : Shape := ⟨2, ![256, 256]⟩

abbrev nBuf : Space → Nat
  | .hbm => 21
  | .vmem => 27
  | .smem => 0
  | _ => 0

abbrev bufTy : (tb : Table) → Fin (tcTables nBuf tb) → BufTy
  | .hbm, ⟨0, _⟩ => ⟨S8192x9728, .bf16⟩
  | .hbm, ⟨1, _⟩ => ⟨S8192x1024, .bf16⟩
  | .hbm, ⟨2, _⟩ => ⟨S8192x1024, .bf16⟩
  | .hbm, ⟨3, _⟩ => ⟨S8192x2048, .f32⟩
  | .hbm, ⟨4, _⟩ => ⟨S4x6x2048, .f32⟩
  | .hbm, ⟨5, _⟩ => ⟨S4096, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S2048, .f32⟩
  | .hbm, ⟨10, _⟩ => ⟨S2048x128, .bf16⟩
  | .hbm, ⟨11, _⟩ => ⟨S2048x256, .bf16⟩
  | .hbm, ⟨12, _⟩ => ⟨S1x128, .f32⟩
  | .hbm, ⟨13, _⟩ => ⟨S1x4096, .f32⟩
  | .hbm, ⟨14, _⟩ => ⟨S1024x2048, .bf16⟩
  | .hbm, ⟨15, _⟩ => ⟨S1024x2048, .bf16⟩
  | .hbm, ⟨16, _⟩ => ⟨S2048x2048, .bf16⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x128, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x2048, .f32⟩
  | .local _ .vmem, ⟨9, _⟩ => ⟨S256x2048, .f32⟩
  | .local _ .vmem, ⟨10, _⟩ => ⟨S1x6x2048, .f32⟩
  | .local _ .vmem, ⟨11, _⟩ => ⟨S1x6x2048, .f32⟩
  | .local _ .vmem, ⟨12, _⟩ => ⟨S1x2048, .f32⟩
  | .local _ .vmem, ⟨13, _⟩ => ⟨S1x2048, .f32⟩
  | .local _ .vmem, ⟨14, _⟩ => ⟨S1024x2048, .bf16⟩
  | .local _ .vmem, ⟨15, _⟩ => ⟨S1024x2048, .bf16⟩
  | .local _ .vmem, ⟨16, _⟩ => ⟨S2048x2048, .bf16⟩
  | .local _ .vmem, ⟨17, _⟩ => ⟨S1x2048, .f32⟩
  | .local _ .vmem, ⟨18, _⟩ => ⟨S2048x128, .bf16⟩
  | .local _ .vmem, ⟨19, _⟩ => ⟨S2048x256, .bf16⟩
  | .local _ .vmem, ⟨20, _⟩ => ⟨S1x128, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S256x128, .f32⟩
  | .local _ .vmem, ⟨26, _⟩ => ⟨S256x128, .f32⟩
  | _, _ => ⟨S8192x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v5_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S8192x9728 : Shape := ⟨2, ![8192, 9728]⟩
abbrev S8192x1024 : Shape := ⟨2, ![8192, 1024]⟩
abbrev S8192x2048 : Shape := ⟨2, ![8192, 2048]⟩
abbrev S4x6x2048 : Shape := ⟨3, ![4, 6, 2048]⟩
abbrev S4096 : Shape := ⟨1, ![4096]⟩
abbrev S1024x2048 : Shape := ⟨2, ![1024, 2048]⟩
abbrev S2048x2048 : Shape := ⟨2, ![2048, 2048]⟩
abbrev S2048 : Shape := ⟨1, ![2048]⟩
abbrev S2048x128 : Shape := ⟨2, ![2048, 128]⟩
abbrev S2048x256 : Shape := ⟨2, ![2048, 256]⟩
abbrev S1x128 : Shape := ⟨2, ![1, 128]⟩
abbrev S8192x4096 : Shape := ⟨2, ![8192, 4096]⟩
abbrev S1x4096 : Shape := ⟨2, ![1, 4096]⟩
abbrev S_ : Shape := ⟨0, ![]⟩
abbrev S4x1x2048 : Shape := ⟨3, ![4, 1, 2048]⟩
abbrev S4x2048 : Shape := ⟨2, ![4, 2048]⟩
abbrev S4x2048x2048 : Shape := ⟨3, ![4, 2048, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 74
  | .vmem => 0
  | .smem => 0
  | _ => 0

abbrev bufTy : (tb : Table) → Fin (tcTables nBuf tb) → BufTy
  | .hbm, ⟨0, _⟩ => ⟨S8192x9728, .bf16⟩
  | .hbm, ⟨1, _⟩ => ⟨S8192x1024, .bf16⟩
  | .hbm, ⟨2, _⟩ => ⟨S8192x1024, .bf16⟩
  | .hbm, ⟨3, _⟩ => ⟨S8192x2048, .f32⟩
  | .hbm, ⟨4, _⟩ => ⟨S4x6x2048, .f32⟩
  | .hbm, ⟨5, _⟩ => ⟨S4096, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S2048, .f32⟩
  | .hbm, ⟨10, _⟩ => ⟨S2048x128, .bf16⟩
  | .hbm, ⟨11, _⟩ => ⟨S2048x256, .bf16⟩
  | .hbm, ⟨12, _⟩ => ⟨S1x128, .f32⟩
  | .hbm, ⟨13, _⟩ => ⟨S8192x4096, .bf16⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x2048, .f32⟩
  | .hbm, ⟨27, _⟩ => ⟨S8192x2048, .f32⟩
  | .hbm, ⟨28, _⟩ => ⟨S8192x1024, .f32⟩
  | .hbm, ⟨29, _⟩ => ⟨S8192x2048, .f32⟩
  | .hbm, ⟨30, _⟩ => ⟨S8192x2048, .f32⟩
  | .hbm, ⟨31, _⟩ => ⟨S8192x1024, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S4x1x2048, .f32⟩
  | .hbm, ⟨36, _⟩ => ⟨S4x2048, .f32⟩
  | .hbm, ⟨37, _⟩ => ⟨S4x1x2048, .f32⟩
  | .hbm, ⟨38, _⟩ => ⟨S4x2048x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S1x2048, .f32⟩
  | .hbm, ⟨57, _⟩ => ⟨S8192x2048, .f32⟩
  | .hbm, ⟨58, _⟩ => ⟨S8192x2048, .f32⟩
  | .hbm, ⟨59, _⟩ => ⟨S4x1x2048, .f32⟩
  | .hbm, ⟨60, _⟩ => ⟨S4x2048, .f32⟩
  | .hbm, ⟨61, _⟩ => ⟨S4x1x2048, .f32⟩
  | .hbm, ⟨62, _⟩ => ⟨S4x2048x2048, .f32⟩
  | .hbm, ⟨63, _⟩ => ⟨S8192x2048, .f32⟩
  | .hbm, ⟨64, _⟩ => ⟨S_, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S4x1x2048, .f32⟩
  | .hbm, ⟨69, _⟩ => ⟨S4x2048, .f32⟩
  | .hbm, ⟨70, _⟩ => ⟨S4x1x2048, .f32⟩
  | .hbm, ⟨71, _⟩ => ⟨S4x2048x2048, .f32⟩
  | .hbm, ⟨72, _⟩ => ⟨S8192x2048, .f32⟩
  | .hbm, ⟨73, _⟩ => ⟨S8192x2048, .f32⟩
  | _, _ => ⟨S8192x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_1 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_4 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Kernel3.lean ====
abbrev S8192x2048 : Shape := ⟨2, ![8192, 2048]⟩
abbrev S4x6x2048 : Shape := ⟨3, ![4, 6, 2048]⟩
abbrev S2048 : Shape := ⟨1, ![2048]⟩
abbrev S9728x2048 : Shape := ⟨2, ![9728, 2048]⟩
abbrev S1x2048 : Shape := ⟨2, ![1, 2048]⟩
abbrev S8192x9728 : Shape := ⟨2, ![8192, 9728]⟩
abbrev S8192x128 : Shape := ⟨2, ![8192, 128]⟩
abbrev S1024x2048 : Shape := ⟨2, ![1024, 2048]⟩
abbrev S1x6x2048 : Shape := ⟨3, ![1, 6, 2048]⟩
abbrev S512x2048 : Shape := ⟨2, ![512, 2048]⟩
abbrev S2048x512 : Shape := ⟨2, ![2048, 512]⟩
abbrev S2048x128 : Shape := ⟨2, ![2048, 128]⟩
abbrev S2048x2048 : Shape := ⟨2, ![2048, 2048]⟩
abbrev S1024 : Shape := ⟨1, ![1024]⟩
abbrev S1024x1 : Shape := ⟨2, ![1024, 1]⟩
abbrev S1x1x2048 : Shape := ⟨3, ![1, 1, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S4x6x2048, .f32⟩
  | .hbm, ⟨2, _⟩ => ⟨S2048, .f32⟩
  | .hbm, ⟨3, _⟩ => ⟨S9728x2048, .bf16⟩
  | .hbm, ⟨4, _⟩ => ⟨S1x2048, .f32⟩
  | .hbm, ⟨5, _⟩ => ⟨S8192x9728, .bf16⟩
  | .hbm, ⟨6, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S2048x512, .bf16⟩
  | .local _ .vmem, ⟨8, _⟩ => ⟨S2048x512, .bf16⟩
  | .local _ .vmem, ⟨9, _⟩ => ⟨S2048x128, .f32⟩
  | .local _ .vmem, ⟨10, _⟩ => ⟨S2048x128, .f32⟩
  | .local _ .vmem, ⟨11, _⟩ => ⟨S2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 21], ![false, false]⟩

def k0_cond3 (i : grid0.Coords) : BitVec 1 :=
  let arg1 : BitVec 32 := BitVec.ofNat 32 (i 1).val
  let c2_i32 : BitVec 32 := 2#32
  let v6 : BitVec 1 := Scalar.cmpi .sge arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c20_i32 : BitVec 32 := 20#32
  let v14 : BitVec 1 := Scalar.cmpi .eq arg1 c20_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.minsi arg1 c1_i32
  let v2 : BitVec 32 := Scalar.addi v0 v1
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S8192x2048 : Shape := ⟨2, ![8192, 2048]⟩
abbrev S4x6x2048 : Shape := ⟨3, ![4, 6, 2048]⟩
abbrev S2048 : Shape := ⟨1, ![2048]⟩
abbrev S9728x2048 : Shape := ⟨2, ![9728, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S4x1x2048 : Shape := ⟨3, ![4, 1, 2048]⟩
abbrev S4x2048 : Shape := ⟨2, ![4, 2048]⟩
abbrev S4x2048x2048 : Shape := ⟨3, ![4, 2048, 2048]⟩
abbrev S8192x9728 : Shape := ⟨2, ![8192, 9728]⟩
abbrev S8192x128 : Shape := ⟨2, ![8192, 128]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x6x2048, .f32⟩
  | .hbm, ⟨2, _⟩ => ⟨S2048, .f32⟩
  | .hbm, ⟨3, _⟩ => ⟨S9728x2048, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S4x1x2048, .f32⟩
  | .hbm, ⟨21, _⟩ => ⟨S4x2048, .f32⟩
  | .hbm, ⟨22, _⟩ => ⟨S4x1x2048, .f32⟩
  | .hbm, ⟨23, _⟩ => ⟨S4x2048x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S4x1x2048, .f32⟩
  | .hbm, ⟨30, _⟩ => ⟨S4x2048, .f32⟩
  | .hbm, ⟨31, _⟩ => ⟨S4x1x2048, .f32⟩
  | .hbm, ⟨32, _⟩ => ⟨S4x2048x2048, .f32⟩
  | .hbm, ⟨33, _⟩ => ⟨S8192x2048, .f32⟩
  | .hbm, ⟨34, _⟩ => ⟨S8192x2048, .f32⟩
  | .hbm, ⟨35, _⟩ => ⟨S9728x2048, .f32⟩
  | .hbm, ⟨36, _⟩ => ⟨S8192x9728, .f32⟩
  | .hbm, ⟨37, _⟩ => ⟨S8192x9728, .bf16⟩
  | .hbm, ⟨38, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Proof.Res.lean ====
/-
  The resources of the experts kernel's body: the eight tables, the two staging slots of each weight array (idle, or
  with a copy in flight), the weights left in HBM read under one token per slot.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The body's operands -/

abbrev hb9 : Memref sig .tc .hbm S64x2048x512 .f32 := Memref.whole main_arg9
abbrev hb10 : Memref sig .tc .hbm S64x2048x512 .f32 := Memref.whole main_arg10
abbrev hb11 : Memref sig .tc .hbm S64x512x2048 .f32 := Memref.whole main_arg11
abbrev f1M : Memref sig .tc .vmem S2x2048x512 .f32 := Memref.whole cc0_scratch0
abbrev f3M : Memref sig .tc .vmem S2x2048x512 .f32 := Memref.whole cc0_scratch1
abbrev f2M : Memref sig .tc .vmem S2x512x2048 .f32 := Memref.whole cc0_scratch2
abbrev b1M : Memref sig .tc .vmem S2048x512 .bf16 := Memref.whole cc0_scratch3
abbrev b3M : Memref sig .tc .vmem S2048x512 .bf16 := Memref.whole cc0_scratch4
abbrev b2M : Memref sig .tc .vmem S512x2048 .bf16 := Memref.whole cc0_scratch5

/-- The contents of a memref's buffer on core `c`. -/
abbrev BufOf (c : Dev nD) {sp : Space} {S : Shape} {e : EltTy} (M : Memref sig .tc sp S e) : Type := Buf (Elt F) (M.view.loc (c : Thread nD τ))
/-- A memref's buffer held by the memref's own elements at share `q`. -/
abbrev heldQ (c : Dev nD) {sp : Space} {S : Shape} {e : EltTy} (q : PosShare TreeShare) (M : Memref sig .tc sp S e) (f : BufOf (F := F) c M) : sProp 𝕄 :=
  M.view.loc (c : Thread nD τ) ↦[M.view.set]{q} f
/-- A whole buffer held at share `q`. -/
abbrev wholeQ (c : Dev nD) {sp : Space} {S : Shape} {e : EltTy} (q : PosShare TreeShare) (M : Memref sig .tc sp S e) (f : BufOf (F := F) c M) : sProp 𝕄 :=
  M.view.loc (c : Thread nD τ) ↦{q} f

/-! ## Slots and experts named by words -/

theorem inbSlotA (o : ℕ) (h : o < 2) : ∀ a, (![o, 0, 0] : Fin 3 → ℕ) a + S1x2048x512.size a ≤ S2x2048x512.size a := by
  intro a; fin_cases a
  · show o + 1 ≤ 2; omega
  · show 0 + 2048 ≤ 2048; omega
  · show 0 + 512 ≤ 512; omega
theorem inbSlotB (o : ℕ) (h : o < 2) : ∀ a, (![o, 0, 0] : Fin 3 → ℕ) a + S1x512x2048.size a ≤ S2x512x2048.size a := by
  intro a; fin_cases a
  · show o + 1 ≤ 2; omega
  · show 0 + 512 ≤ 512; omega
  · show 0 + 2048 ≤ 2048; omega
theorem inbExpA (o : ℕ) (h : o < 64) : ∀ a, (![o, 0, 0] : Fin 3 → ℕ) a + S1x2048x512.size a ≤ S64x2048x512.size a := by
  intro a; fin_cases a
  · show o + 1 ≤ 64; omega
  · show 0 + 2048 ≤ 2048; omega
  · show 0 + 512 ≤ 512; omega
theorem inbExpB (o : ℕ) (h : o < 64) : ∀ a, (![o, 0, 0] : Fin 3 → ℕ) a + S1x512x2048.size a ≤ S64x512x2048.size a := by
  intro a; fin_cases a
  · show o + 1 ≤ 64; omega
  · show 0 + 512 ≤ 512; omega
  · show 0 + 2048 ≤ 2048; omega
theorem inbCell (o k : ℕ) (h : o < 2) (hk : k < 3) : ∀ a, (![o, k] : Fin 2 → ℕ) a + S1x1.size a ≤ S2x3.size a := by
  intro a; fin_cases a
  · show o + 1 ≤ 2; omega
  · show k + 1 ≤ 3; omega

/-- Slot `o` of a staging buffer of the two input projections' shape; of the output projection's. -/
abbrev slotA (M : Memref sig .tc .vmem S2x2048x512 .f32) (o : ℕ) (h : o < 2) : Memref sig .tc .vmem S2048x512 .f32 :=
  (M.slice (Rect.unit (s := S2x2048x512) ![o, 0, 0] S1x2048x512.size (inbSlotA o h)) (fun _ => rfl)).squeeze S2048x512 squeezes_S1x2048x512_S2048x512
abbrev slotB (M : Memref sig .tc .vmem S2x512x2048 .f32) (o : ℕ) (h : o < 2) : Memref sig .tc .vmem S512x2048 .f32 :=
  (M.slice (Rect.unit (s := S2x512x2048) ![o, 0, 0] S1x512x2048.size (inbSlotB o h)) (fun _ => rfl)).squeeze S512x2048 squeezes_S1x512x2048_S512x2048
/-- Expert `o`'s matrix of a weight array. -/
abbrev expA (M : Memref sig .tc .hbm S64x2048x512 .f32) (o : ℕ) (h : o < 64) : Memref sig .tc .hbm S2048x512 .f32 :=
  (M.slice (Rect.unit (s := S64x2048x512) ![o, 0, 0] S1x2048x512.size (inbExpA o h)) (fun _ => rfl)).squeeze S2048x512 squeezes_S1x2048x512_S2048x512
abbrev expB (M : Memref sig .tc .hbm S64x512x2048 .f32) (o : ℕ) (h : o < 64) : Memref sig .tc .hbm S512x2048 .f32 :=
  (M.slice (Rect.unit (s := S64x512x2048) ![o, 0, 0] S1x512x2048.size (inbExpB o h)) (fun _ => rfl)).squeeze S512x2048 squeezes_S1x512x2048_S512x2048
/-- The cell of slot `o`, copy `k`. -/
abbrev cell (o k : ℕ) (h : o < 2) (hk : k < 3) : DmaSem sig :=
  ((cc0_scratch6.slice (Rect.unit (s := S2x3) ![o, k] S1x1.size (inbCell o k h hk))).squeeze S_ squeezes_S1x1_S_).sem

/-! The printed offsets at a word. -/
theorem off2_w (v : BitVec 32) : k0_off2 v = ![v.toNat, 0, 0] := rfl
theorem off3_w (v : BitVec 32) : k0_off3 v = ![v.toNat, 0, 0] := rfl
theorem off4_w (v : BitVec 32) : k0_off4 v = ![v.toNat, 0, 0] := rfl
theorem off5_w (v : BitVec 32) : k0_off5 v = ![v.toNat, 0, 0] := rfl
theorem off6_w (v : BitVec 32) : k0_off6 v = ![v.toNat, 0, 0] := rfl
theorem off8_w (v : BitVec 32) : k0_off8 v = ![v.toNat, 0] := rfl
theorem off9_w (v : BitVec 32) : k0_off9 v = ![v.toNat, 0, 0] := rfl
theorem off10_w (v : BitVec 32) : k0_off10 v = ![v.toNat, 0, 0] := rfl
theorem off11_w (v : BitVec 32) : k0_off11 v = ![v.toNat, 0, 0] := rfl
theorem off12_w (v : BitVec 32) : k0_off12 v = ![v.toNat, 0] := rfl
theorem off13_w (v : BitVec 32) : k0_off13 v = ![v.toNat, 0, 0] := rfl
theorem off14_w (v : BitVec 32) : k0_off14 v = ![v.toNat, 0, 0] := rfl
theorem off16_w (v : BitVec 32) : k0_off16 v = ![v.toNat, 1] := rfl
theorem off17_w (v : BitVec 32) : k0_off17 v = ![v.toNat, 0, 0] := rfl
theorem off18_w (v : BitVec 32) : k0_off18 v = ![v.toNat, 0, 0] := rfl
theorem off19_w (v : BitVec 32) : k0_off19 v = ![v.toNat, 0, 0] := rfl
theorem off20_w (v : BitVec 32) : k0_off20 v = ![v.toNat, 1] := rfl
theorem off21_w (v : BitVec 32) : k0_off21 v = ![v.toNat, 0, 0] := rfl
theorem off22_w (v : BitVec 32) : k0_off22 v = ![v.toNat, 0, 0] := rfl
theorem off24_w (v : BitVec 32) : k0_off24 v = ![v.toNat, 2] := rfl
theorem off25_w (v : BitVec 32) : k0_off25 v = ![v.toNat, 0, 0] := rfl
theorem off26_w (v : BitVec 32) : k0_off26 v = ![v.toNat, 0, 0] := rfl
theorem off27_w (v : BitVec 32) : k0_off27 v = ![v.toNat, 0, 0] := rfl
theorem off28_w (v : BitVec 32) : k0_off28 v = ![v.toNat, 2] := rfl
theorem off29_w (v : BitVec 32) : k0_off29 v = ![v.toNat, 0, 0] := rfl
theorem off30_w (v : BitVec 32) : k0_off30 v = ![v.toNat, 0, 0] := rfl

/-- The share of a weight array slot `o`'s copies read under. -/
abbrev tokQ (o : ℕ) : PosShare TreeShare := Transfers.shareTokN fullShare o

/-- One copy slot of a projection's weights at rest: staging at anything, the cell at zero, the read token. -/
def idleA (c : Dev nD) (S : Memref sig .tc .vmem S2x2048x512 .f32) (M : Memref sig .tc .hbm S64x2048x512 .f32) (k : ℕ) (hk : k < 3)
    (f : BufOf (F := F) c M) (o : ℕ) (h : o < 2) : sProp 𝕄 :=
  iprop((∃ fd, heldQ c fullShare (slotA S o h) fd) ∗ semVal ((c : Thread nD τ), SemLoc.dma (cell o k h hk)) 0 ∗ wholeQ c (tokQ o) M f)
def idleB (c : Dev nD) (S : Memref sig .tc .vmem S2x512x2048 .f32) (M : Memref sig .tc .hbm S64x512x2048 .f32) (k : ℕ) (hk : k < 3)
    (f : BufOf (F := F) c M) (o : ℕ) (h : o < 2) : sProp 𝕄 :=
  iprop((∃ fd, heldQ c fullShare (slotB S o h) fd) ∗ semVal ((c : Thread nD τ), SemLoc.dma (cell o k h hk)) 0 ∗ wholeQ c (tokQ o) M f)

/-- A table's word at an offset. -/
abbrev wordT (c : Dev nD) (M : Memref sig .tc .smem S128 .i32) (T : BufOf (F := F) c M) (o : Fin 1 → ℕ) (h : ∀ a, o a + S1.size a ≤ S128.size a) : Elt F .i32 :=
  View.readAt (Elt F) M.view (Rect.unit (s := S128) o S1.size h).toLoadRect T (Shape.Idx.first (numel1_S1.symm ▸ Nat.one_pos))

/-- A copy in flight: its destination slot at the words it lands, its source lent. -/
abbrev flyA (c : Dev nD) (S : Memref sig .tc .vmem S2x2048x512 .f32) (M : Memref sig .tc .hbm S64x2048x512 .f32) (k : ℕ) (hk : k < 3)
    (f : BufOf (F := F) c M) (o : ℕ) (h : o < 2) (e : ℕ) (he : e < 64) (fd : BufOf (F := F) c (slotA S o h)) : sProp 𝕄 :=
  iprop((Transfers.Flight countersEmb (c : Thread nD τ) (SemLoc.dma (cell o k h hk)) default 131072
      iprop((heldQ c fullShare (slotA S o h) fd) ∗ (M.view.loc (c : Thread nD τ) ↦[(expA M e he).view.set]{tokQ o} f)))
    ∗ (M.view.loc (c : Thread nD τ) ↦[Finset.univ \ (expA M e he).view.set]{tokQ o} f))
abbrev flyB (c : Dev nD) (S : Memref sig .tc .vmem S2x512x2048 .f32) (M : Memref sig .tc .hbm S64x512x2048 .f32) (k : ℕ) (hk : k < 3)
    (f : BufOf (F := F) c M) (o : ℕ) (h : o < 2) (e : ℕ) (he : e < 64) (fd : BufOf (F := F) c (slotB S o h)) : sProp 𝕄 :=
  iprop((Transfers.Flight countersEmb (c : Thread nD τ) (SemLoc.dma (cell o k h hk)) default 131072
      iprop((heldQ c fullShare (slotB S o h) fd) ∗ (M.view.loc (c : Thread nD τ) ↦[(expB M e he).view.set]{tokQ o} f)))
    ∗ (M.view.loc (c : Thread nD τ) ↦[Finset.univ \ (expB M e he).view.set]{tokQ o} f))

/-- A copy in flight whose landing words are expert `e`'s. -/
def landA (c : Dev nD) (S : Memref sig .tc .vmem S2x2048x512 .f32) (M : Memref sig .tc .hbm S64x2048x512 .f32) (k : ℕ) (hk : k < 3)
    (f : BufOf (F := F) c M) (o : ℕ) (h : o < 2) (e : ℕ) (he : e < 64) : sProp 𝕄 :=
  iprop(∃ fd, ⌜(slotA S o h).view.read (Elt F) fd = (expA M e he).view.read (Elt F) f⌝ ∗ flyA c S M k hk f o h e he fd)
def landB (c : Dev nD) (S : Memref sig .tc .vmem S2x512x2048 .f32) (M : Memref sig .tc .hbm S64x512x2048 .f32) (k : ℕ) (hk : k < 3)
    (f : BufOf (F := F) c M) (o : ℕ) (h : o < 2) (e : ℕ) (he : e < 64) : sProp 𝕄 :=
  iprop(∃ fd, ⌜(slotB S o h).view.read (Elt F) fd = (expB M e he).view.read (Elt F) f⌝ ∗ flyB c S M k hk f o h e he fd)

/-- Slot `o` with expert `e`'s three copies in flight, or (`e` no expert) at rest. -/
def slotSt (c : Dev nD) (w1 : BufOf (F := F) c hb9) (w3 : BufOf (F := F) c hb10) (w2 : BufOf (F := F) c hb11) (o : ℕ) (h : o < 2) (e : ℕ) : sProp 𝕄 :=
  if he : e < 64 then
    iprop(landA c f1M hb9 0 (by decide) w1 o h e he ∗ landA c f3M hb10 1 (by decide) w3 o h e he ∗ landB c f2M hb11 2 (by decide) w2 o h e he)
  else
    iprop(idleA c f1M hb9 0 (by decide) w1 o h ∗ idleA c f3M hb10 1 (by decide) w3 o h ∗ idleB c f2M hb11 2 (by decide) w2 o h)

/-- The compute scratches at expert `e`'s three matrices, narrowed. -/
def narrowed (c : Dev nD) (w1 : BufOf (F := F) c hb9) (w3 : BufOf (F := F) c hb10) (w2 : BufOf (F := F) c hb11) (e : ℕ) (he : e < 64) : sProp 𝕄 :=
  iprop(∃ c1 c3 c2, ⌜b1M.view.read (Elt F) c1 = truncf .bf16 ((expA hb9 e he).view.read (Elt F) w1) bitsLt_bf16_f32
      ∧ b3M.view.read (Elt F) c3 = truncf .bf16 ((expA hb10 e he).view.read (Elt F) w3) bitsLt_bf16_f32
      ∧ b2M.view.read (Elt F) c2 = truncf .bf16 ((expB hb11 e he).view.read (Elt F) w2) bitsLt_bf16_f32⌝
    ∗ heldQ c fullShare b1M c1 ∗ heldQ c fullShare b3M c3 ∗ heldQ c fullShare b2M c2)
/-- The compute scratches at anything. -/
def anyB (c : Dev nD) : sProp 𝕄 :=
  iprop((∃ c1, heldQ (F := F) c fullShare b1M c1) ∗ (∃ c3, heldQ (F := F) c fullShare b3M c3) ∗ (∃ c2, heldQ (F := F) c fullShare b2M c2))

end Cert.KernelIdeal.Hand
end
-- ==== Proof.Segs.lean ====
/-
  The body as its five segments, each with the rest of the body as its continuation: the first point's copies, the change of
  expert, the zeroed tile, the tile's two halves.
-/
module

public import proofs.«01_k».proof.Proof.Res

@[expose] public section

noncomputable section

namespace Cert.KernelIdeal.Hand

open Cert.KernelIdeal Cert.KernelIdeal.Gen
open Idealize.ShloMosaic Idealize.ShloMosaic.TcCoe
open Idealize.SL.Sem

variable {F : FTy → Type} [FloatOps F]

abbrev tM0 : Memref sig .tc .smem S128 .i32 := Memref.whole main_arg0
abbrev tM1 : Memref sig .tc .smem S128 .i32 := Memref.whole main_arg1
abbrev tM2 : Memref sig .tc .smem S128 .i32 := Memref.whole main_arg2
abbrev tM3 : Memref sig .tc .smem S128 .i32 := Memref.whole main_arg3
abbrev tM4 : Memref sig .tc .smem S128 .i32 := Memref.whole main_arg4
abbrev tM5 : Memref sig .tc .smem S128 .i32 := Memref.whole main_arg5
abbrev tM6 : Memref sig .tc .smem S128 .i32 := Memref.whole main_arg6
abbrev tM7 : Memref sig .tc .smem S128 .i32 := Memref.whole main_arg7

set_option maxRecDepth 65536 in
/-- The first point: the copies of the first two experts started, then `J`. -/
def segPro {β : Type} (i : grid0.Coords) (arg9 : Memref sig .tc .vmem S256x2048 .f32) (harg9 : arg9.IsWhole) (arg13 : Memref sig .tc .vmem S256x2048 .f32) (harg13 : arg13.IsWhole) (J : Prog (TpuEff nD τ sig (Elt F) Λ₀ .tc) β) : Prog (TpuEff nD τ sig (Elt F) Λ₀ .tc) β := do
  if k0_h1 : k0_cond1 i = 1#1 then do
    k0_part1 i tM0 (Memref.isWhole_whole _) tM1 (Memref.isWhole_whole _) tM2 (Memref.isWhole_whole _) tM3 (Memref.isWhole_whole _) tM4 (Memref.isWhole_whole _) tM5 (Memref.isWhole_whole _) tM6 (Memref.isWhole_whole _) tM7 (Memref.isWhole_whole _) arg9 harg9 hb9 (Memref.isWhole_whole _) hb10 (Memref.isWhole_whole _) hb11 (Memref.isWhole_whole _) arg13 harg13 f1M (Memref.isWhole_whole _) f3M (Memref.isWhole_whole _) f2M (Memref.isWhole_whole _) b1M (Memref.isWhole_whole _) b3M (Memref.isWhole_whole _) b2M (Memref.isWhole_whole _) cc0_scratch6 k0_h1
    pure ⟨⟩
  else do
    pure ⟨⟩
  J

set_option maxRecDepth 65536 in
/-- An expert's first item: the three matrices waited for, narrowed into the compute scratches, the slot's next copies started, then `J`. -/
def segSw {β : Type} (i : grid0.Coords) (arg9 : Memref sig .tc .vmem S256x2048 .f32) (harg9 : arg9.IsWhole) (arg13 : Memref sig .tc .vmem S256x2048 .f32) (harg13 : arg13.IsWhole) (v1 : Elt F .i32) (J : Prog (TpuEff nD τ sig (Elt F) Λ₀ .tc) β) : Prog (TpuEff nD τ sig (Elt F) Λ₀ .tc) β := do
  if k0_h3 : k0_cond3 v1 = 1#1 then do
    let ⟨v37, k0_hw5, v39, k0_hw7, v69⟩ : Σ' (v37 : Elt F .i32) (k0_hw5 : k0_chk5 v1 v37) (v39 : Elt F .i32) (k0_hw7 : k0_chk7 v1 v37 v39), FVec F S2048x512 .bf16 ← k0_part2 i tM0 (Memref.isWhole_whole _) tM1 (Memref.isWhole_whole _) tM2 (Memref.isWhole_whole _) tM3 (Memref.isWhole_whole _) tM4 (Memref.isWhole_whole _) tM5 (Memref.isWhole_whole _) tM6 (Memref.isWhole_whole _) tM7 (Memref.isWhole_whole _) arg9 harg9 hb9 (Memref.isWhole_whole _) hb10 (Memref.isWhole_whole _) hb11 (Memref.isWhole_whole _) arg13 harg13 f1M (Memref.isWhole_whole _) f3M (Memref.isWhole_whole _) f2M (Memref.isWhole_whole _) b1M (Memref.isWhole_whole _) b3M (Memref.isWhole_whole _) b2M (Memref.isWhole_whole _) cc0_scratch6 (BitVec.ofNat 32 (i 0).val) v1 k0_h3
    let v70 : Vec F S2048x512 .bf16 ← Prog.lift (.load b3M (Rect.unit (s := S2048x512) ![0, 0] S2048x512.size inb_S2048x512_S2048x512_0_0).toLoadRect (View.loadsAt_vmem h_S2048x512))
    Prog.lift (.store b3M (Rect.unit (s := S2048x512) ![0, 0] S2048x512.size inb_S2048x512_S2048x512_0_0) (k0_pay4 v69) Finset.univ (View.stores_vmem h_S2048x512 ((Memref.isWhole_whole _).storeExact_slice rfl _ packedbf16_S2048x512_S2048x512_0_0) (fun _ => rfl)) (.inl rfl))
    if k0_h5 : k0_cond5 v39 = 1#1 then do
      let v94 : DmaSems sig S1x1 := cc0_scratch6.slice (Rect.unit (s := S2x3) (k0_off20 v37) S1x1.size (k0_off20_inb v1 v37 v39 k0_hw7 k0_h3 k0_h5))
      let v95 : DmaSems sig S_ := v94.squeeze S_ squeezes_S1x1_S_
      let v96 : Memref sig .tc .vmem S1x2048x512 .f32 := f3M.slice (Rect.unit (s := S2x2048x512) (k0_off21 v37) S1x2048x512.size (k0_off21_inb v1 v37 v39 k0_hw7 k0_h3 k0_h5)) (fun _ => rfl)
      let v97 : Memref sig .tc .vmem S2048x512 .f32 := v96.squeeze S2048x512 squeezes_S1x2048x512_S2048x512
      let v98 : Memref sig .tc .hbm S1x2048x512 .f32 := hb10.slice (Rect.unit (s := S64x2048x512) (k0_off22 v39) S1x2048x512.size (k0_off22_inb v1 v37 v39 k0_hw7 k0_h3 k0_h5)) (fun _ => rfl)
      let v99 : Memref sig .tc .hbm S2048x512 .f32 := v98.squeeze S2048x512 squeezes_S1x2048x512_S2048x512
      Prog.lift (.enqueueDma v99 (.here v97) (.dma v95.sem) ((View.wordExact_bits rfl).reshape _ _) ((View.wordExact_bits rfl).reshape _ _) ⟨Or.inl rfl, trivial⟩)
      pure ⟨⟩
    else do
      pure ⟨⟩
    let v77 : Elt F .i32 ← smemLoad tM1 (Rect.unit (s := S128) (k0_off23 i) S1.size (k0_off23_inb i)) numel1_S1 rfl
    have k0_hw9 : k0_chk9 v1 v77 := (← Prog.lift (TpuEff.assume (k0_chk9 v1 v77) (k0_chk9.dec v1 v77))).down
    let v78 : DmaSems sig S1x1 := cc0_scratch6.slice (Rect.unit (s := S2x3) (k0_off24 v37) S1x1.size (k0_off24_inb v1 v37 k0_hw5 k0_h3))
    let v79 : DmaSems sig S_ := v78.squeeze S_ squeezes_S1x1_S_
    let v80 : Memref sig .tc .vmem S1x512x2048 .f32 := f2M.slice (Rect.unit (s := S2x512x2048) (k0_off25 v37) S1x512x2048.size (k0_off25_inb v1 v37 k0_hw5 k0_h3)) (fun _ => rfl)
    let v81 : Memref sig .tc .vmem S512x2048 .f32 := v80.squeeze S512x2048 squeezes_S1x512x2048_S512x2048
    let v82 : Memref sig .tc .hbm S1x512x2048 .f32 := hb11.slice (Rect.unit (s := S64x512x2048) (k0_off26 v77) S1x512x2048.size (k0_off26_inb v1 v77 k0_hw9 k0_h3)) (fun _ => rfl)
    let v83 : Memref sig .tc .hbm S512x2048 .f32 := v82.squeeze S512x2048 squeezes_S1x512x2048_S512x2048
    Prog.lift (.waitDma2 v79.sem v83 v81 ((View.wordExact_bits rfl).reshape _ _) ((View.wordExact_bits rfl).reshape _ _))
    let v85 : Vec F S1x512x2048 .f32 ← Prog.lift (.load f2M (Rect.unit (s := S2x512x2048) (k0_off27 v37) S1x512x2048.size (k0_off27_inb v1 v37 k0_hw5 k0_h3)).toLoadRect (View.loadsAt_vmem h_S1x512x2048))
    let v88 : Vec F S512x2048 .bf16 ← Prog.lift (.load b2M (Rect.unit (s := S512x2048) ![0, 0] S512x2048.size inb_S512x2048_S512x2048_0_0).toLoadRect (View.loadsAt_vmem h_S512x2048))
    Prog.lift (.store b2M (Rect.unit (s := S512x2048) ![0, 0] S512x2048.size inb_S512x2048_S512x2048_0_0) (k0_pay5 v85) Finset.univ (View.stores_vmem h_S512x2048 ((Memref.isWhole_whole _).storeExact_slice rfl _ packedbf16_S512x2048_S512x2048_0_0) (fun _ => rfl)) (.inl rfl))
    if k0_h6 : k0_cond6 v39 = 1#1 then do
      let v94 : DmaSems sig S1x1 := cc0_scratch6.slice (Rect.unit (s := S2x3) (k0_off28 v37) S1x1.size (k0_off28_inb v1 v37 v39 k0_hw7 k0_h3 k0_h6))
      let v95 : DmaSems sig S_ := v94.squeeze S_ squeezes_S1x1_S_
      let v96 : Memref sig .tc .vmem S1x512x2048 .f32 := f2M.slice (Rect.unit (s := S2x512x2048) (k0_off29 v37) S1x512x2048.size (k0_off29_inb v1 v37 v39 k0_hw7 k0_h3 k0_h6)) (fun _ => rfl)
      let v97 : Memref sig .tc .vmem S512x2048 .f32 := v96.squeeze S512x2048 squeezes_S1x512x2048_S512x2048
      let v98 : Memref sig .tc .hbm S1x512x2048 .f32 := hb11.slice (Rect.unit (s := S64x512x2048) (k0_off30 v39) S1x512x2048.size (k0_off30_inb v1 v37 v39 k0_hw7 k0_h3 k0_h6)) (fun _ => rfl)
      let v99 : Memref sig .tc .hbm S512x2048 .f32 := v98.squeeze S512x2048 squeezes_S1x512x2048_S512x2048
      Prog.lift (.enqueueDma v99 (.here v97) (.dma v95.sem) ((View.wordExact_bits rfl).reshape _ _) ((View.wordExact_bits rfl).reshape _ _) ⟨Or.inl rfl, trivial⟩)
      pure ⟨⟩
    else do
      pure ⟨⟩
    pure ⟨⟩
  else do
    pure ⟨⟩
  J

set_option maxRecDepth 65536 in
/-- A tile's first item: the block zeroed, then `J`. -/
def segZero {β : Type} (i : grid0.Coords) (arg9 : Memref sig .tc .vmem S256x2048 .f32) (harg9 : arg9.IsWhole) (arg13 : Memref sig .tc .vmem S256x2048 .f32) (harg13 : arg13.IsWhole) (v1 : Elt F .i32) (J : Prog (TpuEff nD τ sig (Elt F) Λ₀ .tc) β) : Prog (TpuEff nD τ sig (Elt F) Λ₀ .tc) β := do
  if k0_h7 : k0_cond7 v1 = 1#1 then do
    let v37 : Vec F S256x2048 .f32 ← Prog.lift (.load arg13 (Rect.unit (s := S256x2048) ![0, 0] S256x2048.size inb_S256x2048_S256x2048_0_0).toLoadRect (View.loadsAt_vmem h_S256x2048))
    Prog.lift (.store arg13 (Rect.unit (s := S256x2048) ![0, 0] S256x2048.size inb_S256x2048_S256x2048_0_0) (k0_pay6 (F := F)) Finset.univ (View.stores_vmem_bits_univ h_S256x2048 rfl) (.inl rfl))
    pure ⟨⟩
  else do
    pure ⟨⟩
  J

set_option maxRecDepth 65536 in
/-- The upper half of the tile, then `J`. -/
def segLo {β : Type} (i : grid0.Coords) (arg9 : Memref sig .tc .vmem S256x2048 .f32) (harg9 : arg9.IsWhole) (arg13 : Memref sig .tc .vmem S256x2048 .f32) (harg13 : arg13.IsWhole) (v1 v17 v19 : Elt F .i32) (J : Prog (TpuEff nD τ sig (Elt F) Λ₀ .tc) β) : Prog (TpuEff nD τ sig (Elt F) Λ₀ .tc) β := do
  if k0_h8 : k0_cond8 v1 v17 v19 = 1#1 then do
    let v36 : Vec F S128x2048 .f32 ← Prog.lift (.load arg9 (Rect.unit (s := S256x2048) ![0, 0] S128x2048.size inb_S256x2048_S128x2048_0_0).toLoadRect (View.loadsAt_vmem h_S128x2048))
    let v38 : Vec F S2048x512 .bf16 ← Prog.lift (.load b1M (Rect.unit (s := S2048x512) ![0, 0] S2048x512.size inb_S2048x512_S2048x512_0_0).toLoadRect (View.loadsAt_vmem h_S2048x512))
    let v40 : Vec F S2048x512 .bf16 ← Prog.lift (.load b3M (Rect.unit (s := S2048x512) ![0, 0] S2048x512.size inb_S2048x512_S2048x512_0_0).toLoadRect (View.loadsAt_vmem h_S2048x512))
    let v46 : Vec F S512x2048 .bf16 ← Prog.lift (.load b2M (Rect.unit (s := S512x2048) ![0, 0] S512x2048.size inb_S512x2048_S512x2048_0_0).toLoadRect (View.loadsAt_vmem h_S512x2048))
    let v56 : Vec F S128x2048 .f32 ← Prog.lift (.load arg13 (Rect.unit (s := S256x2048) ![0, 0] S128x2048.size inb_S256x2048_S128x2048_0_0).toLoadRect (View.loadsAt_vmem h_S128x2048))
    let v59 : Vec F S128x2048 .f32 ← Prog.lift (.load arg13 (Rect.unit (s := S256x2048) ![0, 0] S128x2048.size inb_S256x2048_S128x2048_0_0).toLoadRect (View.loadsAt_vmem h_S128x2048))
    Prog.lift (.store arg13 (Rect.unit (s := S256x2048) ![0, 0] S128x2048.size inb_S256x2048_S128x2048_0_0) (k0_pay7 v17 v19 v36 v38 v40 v46 v56) Finset.univ (View.stores_vmem_bits_univ h_S128x2048 rfl) (.inl rfl))
    pure ⟨⟩
  else do
    pure ⟨⟩
  J

set_option maxRecDepth 65536 in
/-- The lower half of the tile, then `J`. -/
def segHi {β : Type} (i : grid0.Coords) (arg9 : Memref sig .tc .vmem S256x2048 .f32) (harg9 : arg9.IsWhole) (arg13 : Memref sig .tc .vmem S256x2048 .f32) (harg13 : arg13.IsWhole) (v1 v17 v19 : Elt F .i32) (J : Prog (TpuEff nD τ sig (Elt F) Λ₀ .tc) β) : Prog (TpuEff nD τ sig (Elt F) Λ₀ .tc) β := do
  if k0_h9 : k0_cond9 v1 v17 v19 = 1#1 then do
    let v36 : Vec F S128x2048 .f32 ← Prog.lift (.load arg9 (Rect.unit (s := S256x2048) ![128, 0] S128x2048.size inb_S256x2048_S128x2048_128_0).toLoadRect (View.loadsAt_vmem h_S128x2048))
    let v38 : Vec F S2048x512 .bf16 ← Prog.lift (.load b1M (Rect.unit (s := S2048x512) ![0, 0] S2048x512.size inb_S2048x512_S2048x512_0_0).toLoadRect (View.loadsAt_vmem h_S2048x512))
    let v40 : Vec F S2048x512 .bf16 ← Prog.lift (.load b3M (Rect.unit (s := S2048x512) ![0, 0] S2048x512.size inb_S2048x512_S2048x512_0_0).toLoadRect (View.loadsAt_vmem h_S2048x512))
    let v46 : Vec F S512x2048 .bf16 ← Prog.lift (.load b2M (Rect.unit (s := S512x2048) ![0, 0] S512x2048.size inb_S512x2048_S512x2048_0_0).toLoadRect (View.loadsAt_vmem h_S512x2048))
    let v56 : Vec F S128x2048 .f32 ← Prog.lift (.load arg13 (Rect.unit (s := S256x2048) ![128, 0] S128x2048.size inb_S256x2048_S128x2048_128_0).toLoadRect (View.loadsAt_vmem h_S128x2048))
    let v59 : Vec F S128x2048 .f32 ← Prog.lift (.load arg13 (Rect.unit (s := S256x2048) ![128, 0] S128x2048.size inb_S256x2048_S128x2048_128_0).toLoadRect (View.loadsAt_vmem h_S128x2048))
    Prog.lift (.store arg13 (Rect.unit (s := S256x2048) ![128, 0] S128x2048.size inb_S256x2048_S128x2048_128_0) (k0_pay1 v17 v19 v36 v38 v40 v46 v56) Finset.univ (View.stores_vmem_bits_univ h_S128x2048 rfl) (.inl rfl))
    pure ⟨⟩
  else do
    pure ⟨⟩
  J

set_option maxRecDepth 65536 in
/-- The body's part before the tile's lower half, as its segments in order. -/
theorem part3_eq (i : grid0.Coords) (arg9 : Memref sig .tc .vmem S256x2048 .f32) (harg9 : arg9.IsWhole) (arg13 : Memref sig .tc .vmem S256x2048 .f32) (harg13 : arg13.IsWhole) :
    k0_part3 (F := F) i tM0 (Memref.isWhole_whole _) tM1 (Memref.isWhole_whole _) tM2 (Memref.isWhole_whole _) tM3 (Memref.isWhole_whole _) tM4 (Memref.isWhole_whole _) tM5 (Memref.isWhole_whole _) tM6 (Memref.isWhole_whole _) tM7 (Memref.isWhole_whole _) arg9 harg9 hb9 (Memref.isWhole_whole _) hb10 (Memref.isWhole_whole _) hb11 (Memref.isWhole_whole _) arg13 harg13 f1M (Memref.isWhole_whole _) f3M (Memref.isWhole_whole _) f2M (Memref.isWhole_whole _) b1M (Memref.isWhole_whole _) b3M (Memref.isWhole_whole _) b2M (Memref.isWhole_whole _) cc0_scratch6  = (do
      let v1 : Elt F .i32 ← smemLoad tM4 (Rect.unit (s := S128) (k0_off1 i) S1.size (k0_off1_inb i)) numel1_S1 rfl
      segPro i arg9 harg9 arg13 harg13 (segSw i arg9 harg9 arg13 harg13 v1 (segZero i arg9 harg9 arg13 harg13 v1 (do
        let v17 : Elt F .i32 ← smemLoad tM2 (Rect.unit (s := S128) (k0_off31 i) S1.size (k0_off31_inb i)) numel1_S1 rfl
        let v19 : Elt F .i32 ← smemLoad tM3 (Rect.unit (s := S128) (k0_off31 i) S1.size (k0_off31_inb i)) numel1_S1 rfl
        segLo i arg9 harg9 arg13 harg13 v1 v17 v19 (pure ⟨v1, v17, v19, Scalar.extui (Scalar.andi (Scalar.andi (Scalar.cmpi .ne (Scalar.andi v1 1#32) 0#32) (Scalar.cmpi .slt v17 256#32)) (Scalar.cmpi .sgt v19 128#32)), 0#32⟩)))) :
      Prog (TpuEff nD τ sig (Elt F) Λ₀ .tc) (Σ' (v1 : Elt F .i32) (v17 : Elt F .i32) (v19 : Elt F .i32) (v34 : BitVec 32), BitVec 32)) := rfl

/-- The body: that part, then the tile's lower half. -/
theorem body_eq (i : grid0.Coords) (arg9 : Memref sig .tc .vmem S256x2048 .f32) (harg9 : arg9.IsWhole) (arg13 : Memref sig .tc .vmem S256x2048 .f32) (harg13 : arg13.IsWhole) :
    cc0_experts (F := F) i tM0 (Memref.isWhole_whole _) tM1 (Memref.isWhole_whole _) tM2 (Memref.isWhole_whole _) tM3 (Memref.isWhole_whole _) tM4 (Memref.isWhole_whole _) tM5 (Memref.isWhole_whole _) tM6 (Memref.isWhole_whole _) tM7 (Memref.isWhole_whole _) arg9 harg9 hb9 (Memref.isWhole_whole _) hb10 (Memref.isWhole_whole _) hb11 (Memref.isWhole_whole _) arg13 harg13 f1M (Memref.isWhole_whole _) f3M (Memref.isWhole_whole _) f2M (Memref.isWhole_whole _) b1M (Memref.isWhole_whole _) b3M (Memref.isWhole_whole _) b2M (Memref.isWhole_whole _) cc0_scratch6  = (do
      let r ← k0_part3 (F := F) i tM0 (Memref.isWhole_whole _) tM1 (Memref.isWhole_whole _) tM2 (Memref.isWhole_whole _) tM3 (Memref.isWhole_whole _) tM4 (Memref.isWhole_whole _) tM5 (Memref.isWhole_whole _) tM6 (Memref.isWhole_whole _) tM7 (Memref.isWhole_whole _) arg9 harg9 hb9 (Memref.isWhole_whole _) hb10 (Memref.isWhole_whole _) hb11 (Memref.isWhole_whole _) arg13 harg13 f1M (Memref.isWhole_whole _) f3M (Memref.isWhole_whole _) f2M (Memref.isWhole_whole _) b1M (Memref.isWhole_whole _) b3M (Memref.isWhole_whole _) b2M (Memref.isWhole_whole _) cc0_scratch6
      segHi i arg9 harg9 arg13 harg13 r.1 r.2.1 r.2.2.1 (pure ⟨⟩)) := rfl

end Cert.KernelIdeal.Hand
end
-- ==== Proof.Plan.lean ====
/-
  The precondition `plan` read word by word: what the eight tables of work items hold.
-/
module

public import proofs.«01_k».proof.Pre_plan
public import Idealize.ShloMosaic.Lib.ReduceAll
public import Idealize.ShloMosaic.Lib.Affine

@[expose] public section

noncomputable section

namespace Cert.PlanWords

open Idealize.ShloMosaic
open Cert.Pre_plan (S128 S16384 S127 S128x127 S128x16384 S_)

/-- Item `w` of a table, row `r` of the expert list. -/
abbrev i1 (w : Fin 128) : S128.Idx := fun a => match a with | ⟨0, _⟩ => w
abbrev r1 (r : Fin 16384) : S16384.Idx := fun a => match a with | ⟨0, _⟩ => r
abbrev j1 (w : Fin 127) : S127.Idx := fun a => match a with | ⟨0, _⟩ => w
abbrev ij (w : Fin 128) (v : Fin 127) : S128x127.Idx := fun a => match a with | ⟨0, _⟩ => w | ⟨1, _⟩ => v
abbrev ir (w : Fin 128) (v : Fin 16384) : S128x16384.Idx := fun a => match a with | ⟨0, _⟩ => w | ⟨1, _⟩ => v
abbrev j0 : S_.Idx := fun a => a.elim0
/-- The item before the last ones, and the one after it. -/
abbrev lo1 (w : Fin 127) : Fin 128 := ⟨w.val, by omega⟩
abbrev hi1 (w : Fin 127) : Fin 128 := ⟨1 + w.val, by omega⟩

/-- Bit `k` of an item's flags is set. -/
abbrev bit (T4 : IVec S128 32) (k : BitVec 32) (w : Fin 128) : Prop := T4 (i1 w) &&& k ≠ 0#32

/-- What `plan` says of the tables, as it is written. -/
structure Raw (T0 T1 T2 T3 T4 T5 T6 T7 : IVec S128 32) (R : IVec S16384 32) : Prop where
  ranges : ∀ w, ((((((((0 ≤ (T0 (i1 w)).toInt ∧ (T0 (i1 w)).toInt ≤ 63) ∧ 0 ≤ (T1 (i1 w)).toInt) ∧ (T1 (i1 w)).toInt ≤ 63)
    ∧ 0 ≤ (T7 (i1 w)).toInt) ∧ (T7 (i1 w)).toInt ≤ 1) ∧ -1 ≤ (T5 (i1 w)).toInt) ∧ (T5 (i1 w)).toInt ≤ 63) ∧ -1 ≤ (T6 (i1 w)).toInt) ∧ (T6 (i1 w)).toInt ≤ 63
  piece : ∀ w, bit T4 1 w → 0 ≤ (T2 (i1 w)).toInt ∧ (T2 (i1 w)).toInt < (T3 (i1 w)).toInt ∧ (T3 (i1 w)).toInt ≤ 256 ∧ (bit T4 4 w ↔ T2 (i1 w) = 0#32)
  ends : ∀ w, bit T4 2 w → T1 (i1 w) = T1 (i1 127) → T5 (i1 w) = 4294967295#32 ∧ T6 (i1 w) = 4294967295#32
  head : bit T4 1 0 ∧ bit T4 2 0 ∧ T0 (i1 0) * 256#32 + T2 (i1 0) = 0#32 ∧ T7 (i1 0) = 0#32
  tail : bit T4 1 127 → T0 (i1 127) * 256#32 + T3 (i1 127) = 16384#32
  stepV : ∀ w : Fin 127, bit T4 1 (hi1 w) → bit T4 1 (lo1 w) ∧ T0 (i1 (hi1 w)) * 256#32 + T2 (i1 (hi1 w)) = T0 (i1 (lo1 w)) * 256#32 + T3 (i1 (lo1 w))
  stepI : ∀ w : Fin 127, ¬bit T4 1 (hi1 w) → T0 (i1 (hi1 w)) = 63#32 ∧ (bit T4 1 (lo1 w) → T0 (i1 (lo1 w)) * 256#32 + T3 (i1 (lo1 w)) = 16384#32)
  same : ∀ w : Fin 127, bit T4 2 (hi1 w) ∨ T1 (i1 (hi1 w)) = T1 (i1 (lo1 w))
  after : ∀ (w : Fin 128) (v : Fin 127), bit T4 2 w → bit T4 2 (hi1 v) → T1 (i1 w) = T1 (i1 (lo1 v)) →
    (T5 (i1 w) = T1 (i1 (hi1 v)) ∧ T6 (i1 w) = T5 (i1 (hi1 v))) ∧ T7 (i1 w) + T7 (i1 (hi1 v)) = 1#32
  rows : ∀ (w : Fin 128) (r : Fin 16384), bit T4 1 w → (T0 (i1 w) * 256#32 + T2 (i1 w)).toInt ≤ (BitVec.ofNat 32 r.val).toInt →
    (BitVec.ofNat 32 r.val).toInt < (T0 (i1 w) * 256#32 + T3 (i1 w)).toInt → R (r1 r) = T1 (i1 w)

section Reads
variable {α : Type}
theorem rd_scalar {t : Shape} (d : Fin S_.rank → Fin t.rank) (h : S_.BroadcastsInDim t d) (c : BitVec 32) (i : t.Idx) :
    broadcastInDim t d h (constantI S_ 32 c) i = c := rfl
theorem rd_c0 (c : BitVec 32) (i : S_.Idx) : constantI S_ 32 c i = c := rfl
theorem rd_last (h h') (T : S128.Idx → α) (w : Fin 128) :
    broadcastInDim S128 ![0] h (extractStridedSlice Cert.Pre_plan.S1 ![127] T h') (i1 w) = T (i1 127) :=
  congrArg T (funext fun a => by match a with | ⟨0, _⟩ => rfl)
theorem rd_hi (h) (T : S128.Idx → α) (w : Fin 127) : extractStridedSlice S127 ![1] T h (j1 w) = T (i1 (hi1 w)) :=
  congrArg T (funext fun a => by match a with | ⟨0, _⟩ => rfl)
theorem rd_lo (h) (T : S128.Idx → α) (w : Fin 127) : extractStridedSlice S127 ![0] T h (j1 w) = T (i1 (lo1 w)) :=
  congrArg T (funext fun a => by match a with | ⟨0, _⟩ => exact Fin.ext (Nat.zero_add _))
theorem rd_col (h h') (T : S128.Idx → α) (w : Fin 128) (v : Fin 127) :
    broadcastInDim S128x127 ![0, 1] h (broadcastInDim Cert.Pre_plan.S128x1 ![0] h' T) (ij w v) = T (i1 w) :=
  congrArg T (funext fun a => by match a with | ⟨0, _⟩ => rfl)
theorem rd_row (h h') (T : S127.Idx → α) (w : Fin 128) (v : Fin 127) :
    broadcastInDim S128x127 ![0, 1] h (broadcastInDim Cert.Pre_plan.S1x127 ![1] h' T) (ij w v) = T (j1 v) :=
  congrArg T (funext fun a => by match a with | ⟨0, _⟩ => rfl)
theorem rd_colR (h h') (T : S128.Idx → α) (w : Fin 128) (v : Fin 16384) :
    broadcastInDim S128x16384 ![0, 1] h (broadcastInDim Cert.Pre_plan.S128x1 ![0] h' T) (ir w v) = T (i1 w) :=
  congrArg T (funext fun a => by match a with | ⟨0, _⟩ => rfl)
theorem rd_rowR (h h') (T : S16384.Idx → α) (w : Fin 128) (v : Fin 16384) :
    broadcastInDim S128x16384 ![0, 1] h (broadcastInDim Cert.Pre_plan.S1x16384 ![1] h' T) (ir w v) = T (r1 v) :=
  congrArg T (funext fun a => by match a with | ⟨0, _⟩ => rfl)
theorem rd_iota (v : Fin 16384) : iotaInDim S16384 32 0 (r1 v) = BitVec.ofNat 32 v.val := rfl
theorem rd_one (k : Fin 128) (h : S128.Slices ![k.val] Cert.Pre_plan.S1) (h') (T : S128.Idx → α) :
    shapeCast S_ (extractStridedSlice Cert.Pre_plan.S1 ![k.val] T h) h' j0 = T (i1 k) :=
  congrArg T (funext fun a => by match a with | ⟨0, _⟩ => exact Fin.ext (by show k.val + _ = k.val; have := ((Shape.reshapeEquiv h') j0 0).isLt; have h1 : Cert.Pre_plan.S1.size 0 = 1 := rfl; exact (congrArg (k.val + ·) (Nat.lt_one_iff.1 this)).trans rfl))
theorem select_one {t : Shape} (c a b : IVec t 1) (i : t.Idx) : select c a b i = 1#1 ↔ (c i = 1#1 → a i = 1#1) ∧ (¬ c i = 1#1 → b i = 1#1) := by
  by_cases h : c i = 1#1
  · simp [select, Scalar.select, h]
  · simp [select, Scalar.select, h]
theorem ofBool_eq_bit (c d : BitVec 1) : c = d ↔ (c = 1#1 ↔ d = 1#1) := by revert c d; decide
end Reads

variable {F : FTy → Type} [FloatOps F] [Cert.Pre_plan.Facts]

theorem bit_ne (c : BitVec 1) : ¬ c = 1#1 ↔ c = 0#1 := by revert c; decide
theorem not_eq1 (c : BitVec 1) : ~~~c = 1#1 ↔ ¬ c = 1#1 := by revert c; decide

/-- Dropping the last axis of a one-axis shape leaves one index. -/
instance : Subsingleton S_.Idx := ⟨fun a b => funext fun x => x.elim0⟩

set_option maxRecDepth 16384 in
set_option maxHeartbeats 1000000 in
theorem raw_of (T0 T1 T2 T3 T4 T5 T6 T7 : IVec S128 32) (a8 a9 a10 a11) (R : IVec S16384 32)
    (h : Cert.Pre_plan.fn (F := F) T0 T1 T2 T3 T4 T5 T6 T7 a8 a9 a10 a11 R = fun _ => 1#1) : Raw T0 T1 T2 T3 T4 T5 T6 T7 R := by
  have e := congrFun h j0
  simp only [Cert.Pre_plan.fn, Cert.Pre_plan.fn_part1, Cert.Pre_plan.fn_part2, Cert.Pre_plan.fn_part3, Cert.Pre_plan.fn_part4,
    Cert.Pre_plan.fn_part5, Cert.Pre_plan.fn_part6, Cert.Pre_plan.fn_part7, Cert.Pre_plan.fn_part8, Cert.Pre_plan.fn_where] at e
  obtain ⟨⟨⟨⟨⟨e1, e2⟩, e3⟩, e4⟩, e5⟩, e6⟩ : (((((_ = 1#1) ∧ (_ = 1#1)) ∧ (_ = 1#1)) ∧ (_ = 1#1)) ∧ (_ = 1#1)) ∧ (_ = 1#1) :=
    (IntOp.andi_eq_one.1 e).imp_left fun e => (IntOp.andi_eq_one.1 e).imp_left fun e => (IntOp.andi_eq_one.1 e).imp_left fun e =>
      (IntOp.andi_eq_one.1 e).imp_left fun e => IntOp.andi_eq_one.1 e
  have e1' := fun w : Fin 128 => Host.reduce_andi_all _ _ _ _ _ e1 (i1 w)
  have e4' := fun w : Fin 127 => Host.reduce_andi_all _ _ _ _ _ e4 (j1 w)
  have e5' := fun (w : Fin 128) (v : Fin 127) => Host.reduce_andi_all _ _ _ _ _ e5 (ij w v)
  have e6' := fun (w : Fin 128) (v : Fin 16384) => Host.reduce_andi_all _ _ _ _ _ e6 (ir w v)
  clear e1 e4 e5 e6 e h
  have v1 : ∀ {s : Shape} (p q : IVec s 1) i, andi p q i = 1#1 ↔ p i = 1#1 ∧ q i = 1#1 := fun p q i => IntOp.andi_eq_one
  have v2 : ∀ {s : Shape} (p q : IVec s 1) i, ori p q i = 1#1 ↔ p i = 1#1 ∨ q i = 1#1 := fun p q i => IntOp.ori_eq_one
  have v3 : ∀ {s : Shape} (p : IVec s 1) i, noti p i = 1#1 ↔ ¬ p i = 1#1 := fun p i => IntOp.not_eq_one
  have c1 : ∀ {s : Shape} (p q : IVec s 32) i, cmpi .eq p q i = 1#1 ↔ p i = q i := fun p q i => IntOp.cmpi_eq
  have cb : ∀ {s : Shape} (p q : IVec s 1) i, cmpi .eq p q i = 1#1 ↔ (p i = 1#1 ↔ q i = 1#1) := fun p q i => IntOp.cmpi_eq.trans (ofBool_eq_bit _ _)
  have c2 : ∀ {s : Shape} {w : ℕ} (p q : IVec s w) i, cmpi .ne p q i = 1#1 ↔ p i ≠ q i := fun p q i => IntOp.cmpi_ne
  have c3 : ∀ {s : Shape} {w : ℕ} (p q : IVec s w) i, cmpi .sge p q i = 1#1 ↔ (q i).toInt ≤ (p i).toInt := fun p q i => IntOp.cmpi_sge
  have c4 : ∀ {s : Shape} {w : ℕ} (p q : IVec s w) i, cmpi .sle p q i = 1#1 ↔ (p i).toInt ≤ (q i).toInt := fun p q i => IntOp.cmpi_sle
  have c5 : ∀ {s : Shape} {w : ℕ} (p q : IVec s w) i, cmpi .slt p q i = 1#1 ↔ (p i).toInt < (q i).toInt := fun p q i => IntOp.cmpi_slt
  have o1 : ∀ {s : Shape} (p q : IVec s 32) i, andi p q i = p i &&& q i := fun p q i => rfl
  have o2 : ∀ {s : Shape} (p q : IVec s 32) i, addi p q i = p i + q i := fun p q i => rfl
  have o3 : ∀ {s : Shape} (p q : IVec s 32) i, muli p q i = p i * q i := fun p q i => rfl
  have k0 : (0#32).toInt = 0 := rfl
  have k1 : (63#32).toInt = 63 := rfl
  have k2 : (1#32).toInt = 1 := rfl
  have k3 : (4294967295#32).toInt = -1 := rfl
  have k4 : (256#32).toInt = 256 := rfl
  simp only [v1, v2, v3, c1, c2, c3, c4, c5, o1, o2, o3, rd_scalar, rd_last, rd_hi, rd_lo, rd_col, rd_row, rd_colR, rd_rowR, rd_iota,
    select_one, cb, k0, k1, k2, k3, k4] at e1' e2 e3 e4' e5' e6'
  have z0 : ∀ {w : ℕ} (T : IVec S128 w) h h', shapeCast S_ (extractStridedSlice Cert.Pre_plan.S1 ![0] T h) h' j0 = T (i1 0) := fun T h h' => rd_one 0 h h' T
  have z7 : ∀ {w : ℕ} (T : IVec S128 w) h h', shapeCast S_ (extractStridedSlice Cert.Pre_plan.S1 ![127] T h) h' j0 = T (i1 127) := fun T h h' => rd_one 127 h h' T
  simp only [z0, z7, c1, c2, o1, o2, o3, rd_scalar, rd_c0] at e2 e3
  have g1 : ∀ w, bit T4 2 w → T1 (i1 w) = T1 (i1 127) → T5 (i1 w) = 4294967295#32 ∧ T6 (i1 w) = 4294967295#32 := by
    intro w hb he
    have q := (e1' w).2
    rw [rd_last] at q
    exact q.resolve_left fun h => h ⟨hb, he⟩
  have g5 : ∀ (w : Fin 128) (v : Fin 127), bit T4 2 w → bit T4 2 (hi1 v) → T1 (i1 w) = T1 (i1 (lo1 v)) →
      (T5 (i1 w) = T1 (i1 (hi1 v)) ∧ T6 (i1 w) = T5 (i1 (hi1 v))) ∧ T7 (i1 w) + T7 (i1 (hi1 v)) = 1#32 := by
    intro w v hw hv he
    have q := e5' w v
    rw [rd_col, rd_row, rd_col, rd_row, rd_col, rd_row, rd_col, rd_row, rd_col, rd_row] at q
    simp only [rd_hi, rd_lo, c2, o1, rd_scalar] at q
    exact q.resolve_left fun h => h ⟨⟨hw, hv⟩, he⟩
  have g6 : ∀ (w : Fin 128) (r : Fin 16384), bit T4 1 w → (T0 (i1 w) * 256#32 + T2 (i1 w)).toInt ≤ (BitVec.ofNat 32 r.val).toInt →
      (BitVec.ofNat 32 r.val).toInt < (T0 (i1 w) * 256#32 + T3 (i1 w)).toInt → R (r1 r) = T1 (i1 w) := by
    intro w r hw h1 h2
    have q := e6' w r
    rw [rd_colR, rd_colR, rd_rowR, rd_colR, rd_rowR, rd_colR] at q
    simp only [c2, o1, o2, o3, rd_scalar, rd_iota] at q
    exact q.resolve_left fun h => h ⟨⟨hw, h1⟩, h2⟩
  refine ⟨fun w => (e1' w).1.1, fun w hb => ?_, g1, ⟨e2.1.1.1, e2.1.1.2, e2.1.2, e2.2⟩, fun hb => e3.resolve_left fun h => h hb,
    fun w hb => (e4' w).1.1 hb, fun w hb => ⟨((e4' w).1.2 hb).1, fun hl => ((e4' w).1.2 hb).2.resolve_left fun h => h hl⟩, fun w => (e4' w).2, g5, g6⟩
  have q := (e1' w).1.2.resolve_left fun h => h hb
  exact ⟨q.1.1.1, q.1.1.2, q.1.2, q.2⟩

end Cert.PlanWords
end
-- ==== Proof.Chk.lean ====
/-
  The words the body reads, the side conditions it assumes of them, and the branches they take.
-/
module

public import proofs.«01_k».proof.Proof.Res
public import proofs.«01_k».proof.Proof.Segs
public import proofs.«01_k».proof.Proof.Plan

@[expose] public section

set_option maxRecDepth 16384

noncomputable section

namespace Cert.KernelIdeal.Hand

open Cert.KernelIdeal Cert.KernelIdeal.Gen
open Idealize.ShloMosaic Idealize.ShloMosaic.TcCoe
open Idealize.SL.Sem
open Cert.PlanWords (i1)

variable {F : FTy → Type} [FloatOps F]

theorem coords_val (t : Fin grid0.N) : (grid0.coords t 0).val = t.val := by revert t; decide +kernel
/-- The item of a grid point. -/
abbrev it (t : Fin grid0.N) : Fin 128 := ⟨t.val, lt_of_lt_of_eq t.isLt N_0⟩

theorem wordT1 (c : Dev nD) (T : BufOf (F := F) c tM1) (o : Fin 1 → ℕ) (h : ∀ a, o a + S1.size a ≤ S128.size a) (w : Fin 128) (ho : o = ![w.val]) :
    wordT c tM1 T o h = (T : IVec S128 32) (i1 w) := by
  subst ho
  exact congrArg (T : IVec S128 32) (funext fun a => by match a with | ⟨0, _⟩ => exact Fin.ext rfl)
theorem wordT2 (c : Dev nD) (T : BufOf (F := F) c tM2) (o : Fin 1 → ℕ) (h : ∀ a, o a + S1.size a ≤ S128.size a) (w : Fin 128) (ho : o = ![w.val]) :
    wordT c tM2 T o h = (T : IVec S128 32) (i1 w) := by
  subst ho
  exact congrArg (T : IVec S128 32) (funext fun a => by match a with | ⟨0, _⟩ => exact Fin.ext rfl)
theorem wordT3 (c : Dev nD) (T : BufOf (F := F) c tM3) (o : Fin 1 → ℕ) (h : ∀ a, o a + S1.size a ≤ S128.size a) (w : Fin 128) (ho : o = ![w.val]) :
    wordT c tM3 T o h = (T : IVec S128 32) (i1 w) := by
  subst ho
  exact congrArg (T : IVec S128 32) (funext fun a => by match a with | ⟨0, _⟩ => exact Fin.ext rfl)
theorem wordT4 (c : Dev nD) (T : BufOf (F := F) c tM4) (o : Fin 1 → ℕ) (h : ∀ a, o a + S1.size a ≤ S128.size a) (w : Fin 128) (ho : o = ![w.val]) :
    wordT c tM4 T o h = (T : IVec S128 32) (i1 w) := by
  subst ho
  exact congrArg (T : IVec S128 32) (funext fun a => by match a with | ⟨0, _⟩ => exact Fin.ext rfl)
theorem wordT5 (c : Dev nD) (T : BufOf (F := F) c tM5) (o : Fin 1 → ℕ) (h : ∀ a, o a + S1.size a ≤ S128.size a) (w : Fin 128) (ho : o = ![w.val]) :
    wordT c tM5 T o h = (T : IVec S128 32) (i1 w) := by
  subst ho
  exact congrArg (T : IVec S128 32) (funext fun a => by match a with | ⟨0, _⟩ => exact Fin.ext rfl)
theorem wordT6 (c : Dev nD) (T : BufOf (F := F) c tM6) (o : Fin 1 → ℕ) (h : ∀ a, o a + S1.size a ≤ S128.size a) (w : Fin 128) (ho : o = ![w.val]) :
    wordT c tM6 T o h = (T : IVec S128 32) (i1 w) := by
  subst ho
  exact congrArg (T : IVec S128 32) (funext fun a => by match a with | ⟨0, _⟩ => exact Fin.ext rfl)
theorem wordT7 (c : Dev nD) (T : BufOf (F := F) c tM7) (o : Fin 1 → ℕ) (h : ∀ a, o a + S1.size a ≤ S128.size a) (w : Fin 128) (ho : o = ![w.val]) :
    wordT c tM7 T o h = (T : IVec S128 32) (i1 w) := by
  subst ho
  exact congrArg (T : IVec S128 32) (funext fun a => by match a with | ⟨0, _⟩ => exact Fin.ext rfl)

/-! ## Branches -/

theorem ne_ext (b : BitVec 1) : Scalar.cmpi .ne (Scalar.extui b : BitVec 32) 0#32 = b := by revert b; decide
theorem cond1_iff (t : Fin grid0.N) : k0_cond1 (grid0.coords t) = 1#1 ↔ t.val = 0 := by revert t; decide +kernel
theorem cond3_iff (v : BitVec 32) : k0_cond3 v = 1#1 ↔ v &&& 2#32 ≠ 0#32 := by
  unfold k0_cond3; dsimp only; rw [ne_ext]; exact IntOp.cmpi_ne
theorem sge_iff (n : BitVec 32) : Scalar.cmpi .sge n 0#32 = 1#1 ↔ 0 ≤ n.toInt := IntOp.cmpi_sge
theorem cond2_iff (n : BitVec 32) : k0_cond2 n = 1#1 ↔ 0 ≤ n.toInt := by unfold k0_cond2; dsimp only; rw [ne_ext]; exact sge_iff n
theorem cond4_iff (n : BitVec 32) : k0_cond4 n = 1#1 ↔ 0 ≤ n.toInt := by unfold k0_cond4; dsimp only; rw [ne_ext]; exact sge_iff n
theorem cond5_iff (n : BitVec 32) : k0_cond5 n = 1#1 ↔ 0 ≤ n.toInt := by unfold k0_cond5; dsimp only; rw [ne_ext]; exact sge_iff n
theorem cond6_iff (n : BitVec 32) : k0_cond6 n = 1#1 ↔ 0 ≤ n.toInt := by unfold k0_cond6; dsimp only; rw [ne_ext]; exact sge_iff n

/-- A next-expert word: an expert, or none. -/
abbrev NextOk (n : BitVec 32) : Prop := -1 ≤ n.toInt ∧ n.toInt ≤ 63
theorem next_lt {n : BitVec 32} (h : NextOk n) (h0 : 0 ≤ n.toInt) : n.toNat < 64 := by
  have := h.2; rw [BitVec.toInt_eq_toNat_cond] at this h0; split at this <;> omega
theorem next_ge {n : BitVec 32} (h : NextOk n) (h0 : ¬ 0 ≤ n.toInt) : ¬ n.toNat < 64 := by
  intro hl; apply h0; rw [BitVec.toInt_eq_toNat_cond]; split <;> omega
theorem lt_of_int {n : BitVec 32} (k : ℕ) (hk : k < 1000) (h0 : 0 ≤ n.toInt) (h : n.toInt ≤ k) : n.toNat < k + 1 := by
  rw [BitVec.toInt_eq_toNat_cond] at h0 h; split at h <;> omega

/-! ## Side conditions -/

theorem chk1 (i : grid0.Coords) {e : BitVec 32} (h : e.toNat < 64) : k0_chk1 i e := fun _ => inbExpA _ h
theorem chk2 (i : grid0.Coords) {e : BitVec 32} (h : e.toNat < 64) : k0_chk2 i e := fun _ => inbExpA _ h
theorem chk3 (i : grid0.Coords) {e : BitVec 32} (h : e.toNat < 64) : k0_chk3 i e := fun _ => inbExpB _ h
theorem chk4 (i : grid0.Coords) {n : BitVec 32} (h : NextOk n) : k0_chk4 i n :=
  ⟨fun _ c => inbExpA _ (next_lt h ((cond2_iff n).1 c)), fun _ c => inbExpB _ (next_lt h ((cond2_iff n).1 c))⟩
theorem chk5 (v : BitVec 32) {s : BitVec 32} (h : s.toNat < 2) : k0_chk5 v s :=
  ⟨fun _ => inbCell _ 0 h (by decide), fun _ => inbSlotA _ h, fun _ => inbSlotA _ h, fun _ => inbCell _ 1 h (by decide), fun _ => inbSlotA _ h,
    fun _ => inbSlotA _ h, fun _ => inbCell _ 2 h (by decide), fun _ => inbSlotB _ h, fun _ => inbSlotB _ h⟩
theorem chk6 (v : BitVec 32) {e : BitVec 32} (h : e.toNat < 64) : k0_chk6 v e := fun _ => inbExpA _ h
theorem chk8 (v : BitVec 32) {e : BitVec 32} (h : e.toNat < 64) : k0_chk8 v e := fun _ => inbExpA _ h
theorem chk9 (v : BitVec 32) {e : BitVec 32} (h : e.toNat < 64) : k0_chk9 v e := fun _ => inbExpB _ h
theorem chk7 (v : BitVec 32) {s n : BitVec 32} (h : s.toNat < 2) (hn : NextOk n) : k0_chk7 v s n :=
  ⟨fun _ _ => inbCell _ 0 h (by decide), fun _ _ => inbSlotA _ h, fun _ c => inbExpA _ (next_lt hn ((cond4_iff n).1 c)),
    fun _ _ => inbCell _ 1 h (by decide), fun _ _ => inbSlotA _ h, fun _ c => inbExpA _ (next_lt hn ((cond5_iff n).1 c)),
    fun _ _ => inbCell _ 2 h (by decide), fun _ _ => inbSlotB _ h, fun _ c => inbExpB _ (next_lt hn ((cond6_iff n).1 c))⟩

end Cert.KernelIdeal.Hand
end
-- ==== Proof.Pays.lean ====
module

public import proofs.«01_k».proof.Proof.Res
public import Idealize.ShloMosaic.Lib.Pipeline.Value
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the body's loads of a staging slot read, narrowed: the slot's words, narrowed. -/
theorem pay2_slot (c : Dev nD) (o : ℕ) (h : o < 2) (hb) (d : BufOf (F := F) c f1M) :
    k0_pay2 (View.readAt (Elt F) f1M.view (Rect.unit (s := S2x2048x512) ![o, 0, 0] S1x2048x512.size hb).toLoadRect d)
      = truncf .bf16 ((slotA f1M o h).view.read (Elt F) d) bitsLt_bf16_f32 := by
  unfold k0_pay2
  rw [Memref.read_squeeze_slice (hc := shapeCasts_S1x2048x512_S2048x512)]
  exact shapeCast_self _ _
theorem pay4_slot (c : Dev nD) (o : ℕ) (h : o < 2) (hb) (d : BufOf (F := F) c f3M) :
    k0_pay4 (k0_pay3 (View.readAt (Elt F) f3M.view (Rect.unit (s := S2x2048x512) ![o, 0, 0] S1x2048x512.size hb).toLoadRect d))
      = truncf .bf16 ((slotA f3M o h).view.read (Elt F) d) bitsLt_bf16_f32 := by
  unfold k0_pay4 k0_pay3
  rw [Memref.read_squeeze_slice (hc := shapeCasts_S1x2048x512_S2048x512)]
  exact shapeCast_self _ _
theorem pay5_slot (c : Dev nD) (o : ℕ) (h : o < 2) (hb) (d : BufOf (F := F) c f2M) :
    k0_pay5 (View.readAt (Elt F) f2M.view (Rect.unit (s := S2x512x2048) ![o, 0, 0] S1x512x2048.size hb).toLoadRect d)
      = truncf .bf16 ((slotB f2M o h).view.read (Elt F) d) bitsLt_bf16_f32 := by
  unfold k0_pay5
  rw [Memref.read_squeeze_slice (hc := shapeCasts_S1x512x2048_S512x2048)]
  exact shapeCast_self _ _

end Cert.KernelIdeal.Hand
end
-- ==== Proof.Sw.lean ====
module

public import proofs.«01_k».proof.Proof.Segs
public import proofs.«01_k».proof.Proof.Pays

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000 in
/-- The change of expert with a next expert to fetch: the slot's copies land and are narrowed, the next expert's start. -/
theorem sw_fly (c : Dev nD) (i : grid0.Coords) (arg9 : Memref sig .tc .vmem S256x2048 .f32) (harg9 : arg9.IsWhole) (arg13 : Memref sig .tc .vmem S256x2048 .f32) (harg13 : arg13.IsWhole)
    (v1 : Elt F .i32) (h3 : k0_cond3 v1 = 1#1) {β : Type} (J : Prog (TpuEff nD τ sig (Elt F) Λ₀ .tc) β) (Q : β → sProp 𝕄)
    (T1 : BufOf (F := F) c tM1) (T6 : BufOf (F := F) c tM6) (T7 : BufOf (F := F) c tM7)
    (s e n : BitVec 32) (hs : wordT c tM7 T7 (k0_off7 i) (k0_off7_inb i) = s) (he : wordT c tM1 T1 (k0_off15 i) (k0_off15_inb i) = e)
    (hn : wordT c tM6 T6 (k0_off7 i) (k0_off7_inb i) = n)
    (ls : s.toNat < 2) (le : e.toNat < 64) (ln : n.toNat < 64)
    (hc4 : k0_cond4 n = 1#1) (hc5 : k0_cond5 n = 1#1) (hc6 : k0_cond6 n = 1#1)
    (q5 : k0_chk5 v1 s) (q6 : k0_chk6 v1 e) (q7 : k0_chk7 v1 s n) (q8 : k0_chk8 v1 e) (q9 : k0_chk9 v1 e)
    (w1 : BufOf (F := F) c hb9) (w3 : BufOf (F := F) c hb10) (w2 : BufOf (F := F) c hb11)
 :
    iprop(wholeQ c fullShare.right tM1 T1 ∗ wholeQ c fullShare.right tM6 T6 ∗ wholeQ c fullShare.right tM7 T7
      ∗ landA c f1M hb9 0 (by decide) w1 s.toNat ls e.toNat le
      ∗ landA c f3M hb10 1 (by decide) w3 s.toNat ls e.toNat le
      ∗ landB c f2M hb11 2 (by decide) w2 s.toNat ls e.toNat le
      ∗ anyB c ∗ (∃ W, owes (c : Thread nD τ) 0 W)
      ∗ (iprop(wholeQ c fullShare.right tM1 T1 ∗ wholeQ c fullShare.right tM6 T6 ∗ wholeQ c fullShare.right tM7 T7
          ∗ landA c f1M hb9 0 (by decide) w1 s.toNat ls n.toNat ln
          ∗ landA c f3M hb10 1 (by decide) w3 s.toNat ls n.toNat ln
          ∗ landB c f2M hb11 2 (by decide) w2 s.toNat ls n.toNat ln
          ∗ narrowed c w1 w3 w2 e.toNat le ∗ (∃ W, owes (c : Thread nD τ) 0 W))
        -∗ wp frame (wpE (defs₀ (F := F)) Variants.none c none) Set.univ J Q))
      ⊢ wp frame (wpE (defs₀ (F := F)) Variants.none c none) Set.univ (segSw i arg9 harg9 arg13 harg13 v1 J) Q := by
  unfold segSw
  rw [k0_part2_eq_skeleton]
  unfold k0_part2_skel
  rw [dif_pos h3]
  dsimp -zeta -zetaHave -proj only [off8_w, off9_w, off10_w, off11_w, off12_w, off13_w, off14_w, off16_w, off17_w, off18_w, off19_w, off20_w, off21_w, off22_w, off24_w, off25_w, off26_w, off27_w, off28_w, off29_w, off30_w]
  istart
  unfold landA landB anyB
  iintro ⟨HT1, HT6, HT7, ⟨%d1, %l1, F1, R1⟩, ⟨%d3, %l3, F3, R3⟩, ⟨%d2, %l2, F2, R2⟩, ⟨⟨%c1, B1⟩, ⟨%c3, B3⟩, %c2, B2⟩, ⟨%W, HO⟩, HK⟩
  sl_exec
  rw [show sw_fly.sl.r c i T7 = s from hs]
  sl_exec
  rw [show sw_fly.sl.r_1 c i T6 = n from hn]
  sl_exec
  rw [show sw_fly.sl.r_2 c i T1 = e from he]
  sl_exec
  rw [show sw_fly.sl.r_3 c i T1 = e from he]
  sl_exec
  rw [show sw_fly.sl.r_4 c i T1 = e from he]
  sl_exec
  iapply HK
  isplitl [HT1]; · iexact HT1
  isplitl [HT6]; · iexact HT6
  isplitl [HT7]; · iexact HT7
  isplitl [F1 R1]
  · iexists _
    isplitr; swap
    · isplitl [F1]; · iexact F1
      iexact R1
    · ipureintro
      rw [View.read_writes_whole]; rfl
  isplitl [F3 R3]
  · iexists _
    isplitr; swap
    · isplitl [F3]; · iexact F3
      iexact R3
    · ipureintro
      rw [View.read_writes_whole]; rfl
  isplitl [F2 R2]
  · iexists _
    isplitr; swap
    · isplitl [F2]; · iexact F2
      iexact R2
    · ipureintro
      rw [View.read_writes_whole]; rfl
  isplitr [HO]
  · unfold narrowed
    iexists _, _, _
    isplitr; swap
    · isplitl [B1]; · iexact B1
      isplitl [B3]; · iexact B3
      iexact B2
    · ipureintro
      refine ⟨?_, ?_, ?_⟩
      · rw [View.read_writes_full, ← l1]; exact pay2_slot c _ ls _ d1
      · rw [View.read_writes_full, ← l3]; exact pay4_slot c _ ls _ d3
      · rw [View.read_writes_full, ← l2]; exact pay5_slot c _ ls _ d2
  · iexists _; iexact HO
end Cert.KernelIdeal.Hand
end
-- ==== Proof.SwIdle.lean ====
module

public import proofs.«01_k».proof.Proof.Segs
public import proofs.«01_k».proof.Proof.Pays

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000 in
/-- The change of expert with none left to fetch: the slot's copies land and are narrowed, the slot is left at rest. -/
theorem sw_idle (c : Dev nD) (i : grid0.Coords) (arg9 : Memref sig .tc .vmem S256x2048 .f32) (harg9 : arg9.IsWhole) (arg13 : Memref sig .tc .vmem S256x2048 .f32) (harg13 : arg13.IsWhole)
    (v1 : Elt F .i32) (h3 : k0_cond3 v1 = 1#1) {β : Type} (J : Prog (TpuEff nD τ sig (Elt F) Λ₀ .tc) β) (Q : β → sProp 𝕄)
    (T1 : BufOf (F := F) c tM1) (T6 : BufOf (F := F) c tM6) (T7 : BufOf (F := F) c tM7)
    (s e n : BitVec 32) (hs : wordT c tM7 T7 (k0_off7 i) (k0_off7_inb i) = s) (he : wordT c tM1 T1 (k0_off15 i) (k0_off15_inb i) = e)
    (hn : wordT c tM6 T6 (k0_off7 i) (k0_off7_inb i) = n)
    (ls : s.toNat < 2) (le : e.toNat < 64)
    (hc4 : ¬ k0_cond4 n = 1#1) (hc5 : ¬ k0_cond5 n = 1#1) (hc6 : ¬ k0_cond6 n = 1#1)
    (q5 : k0_chk5 v1 s) (q6 : k0_chk6 v1 e) (q7 : k0_chk7 v1 s n) (q8 : k0_chk8 v1 e) (q9 : k0_chk9 v1 e)
    (w1 : BufOf (F := F) c hb9) (w3 : BufOf (F := F) c hb10) (w2 : BufOf (F := F) c hb11)
 :
    iprop(wholeQ c fullShare.right tM1 T1 ∗ wholeQ c fullShare.right tM6 T6 ∗ wholeQ c fullShare.right tM7 T7
      ∗ landA c f1M hb9 0 (by decide) w1 s.toNat ls e.toNat le
      ∗ landA c f3M hb10 1 (by decide) w3 s.toNat ls e.toNat le
      ∗ landB c f2M hb11 2 (by decide) w2 s.toNat ls e.toNat le
      ∗ anyB c ∗ (∃ W, owes (c : Thread nD τ) 0 W)
      ∗ (iprop(wholeQ c fullShare.right tM1 T1 ∗ wholeQ c fullShare.right tM6 T6 ∗ wholeQ c fullShare.right tM7 T7
          ∗ idleA c f1M hb9 0 (by decide) w1 s.toNat ls
          ∗ idleA c f3M hb10 1 (by decide) w3 s.toNat ls
          ∗ idleB c f2M hb11 2 (by decide) w2 s.toNat ls
          ∗ narrowed c w1 w3 w2 e.toNat le ∗ (∃ W, owes (c : Thread nD τ) 0 W))
        -∗ wp frame (wpE (defs₀ (F := F)) Variants.none c none) Set.univ J Q))
      ⊢ wp frame (wpE (defs₀ (F := F)) Variants.none c none) Set.univ (segSw i arg9 harg9 arg13 harg13 v1 J) Q := by
  unfold segSw
  rw [k0_part2_eq_skeleton]
  unfold k0_part2_skel
  rw [dif_pos h3]
  dsimp -zeta -zetaHave -proj only [off8_w, off9_w, off10_w, off11_w, off12_w, off13_w, off14_w, off16_w, off17_w, off18_w, off19_w, off20_w, off21_w, off22_w, off24_w, off25_w, off26_w, off27_w, off28_w, off29_w, off30_w]
  istart
  unfold landA landB anyB idleA idleB
  iintro ⟨HT1, HT6, HT7, ⟨%d1, %l1, F1, R1⟩, ⟨%d3, %l3, F3, R3⟩, ⟨%d2, %l2, F2, R2⟩, ⟨⟨%c1, B1⟩, ⟨%c3, B3⟩, %c2, B2⟩, ⟨%W, HO⟩, HK⟩
  sl_exec
  rw [show sw_idle.sl.r c i T7 = s from hs]
  sl_exec
  rw [show sw_idle.sl.r_1 c i T6 = n from hn]
  sl_exec
  rw [show sw_idle.sl.r_2 c i T1 = e from he]
  sl_exec
  rw [show sw_idle.sl.r_3 c i T1 = e from he]
  sl_exec
  rw [show sw_idle.sl.r_4 c i T1 = e from he]
  sl_exec
  iapply HK
  isplitl [HT1]; · iexact HT1
  isplitl [HT6]; · iexact HT6
  isplitl [HT7]; · iexact HT7
  isplitl [F1 R1 F1_dst]
  · isplitl [F1_dst]; · iexists _; iexact F1_dst
    isplitl [F1]; · iexact F1
    iexact R1
  isplitl [F3 R3 F3_dst]
  · isplitl [F3_dst]; · iexists _; iexact F3_dst
    isplitl [F3]; · iexact F3
    iexact R3
  isplitl [F2 R2 F2_dst]
  · isplitl [F2_dst]; · iexists _; iexact F2_dst
    isplitl [F2]; · iexact F2
    iexact R2
  isplitr [HO]
  · unfold narrowed
    iexists _, _, _
    isplitr; swap
    · isplitl [B1]; · iexact B1
      isplitl [B3]; · iexact B3
      iexact B2
    · ipureintro
      refine ⟨?_, ?_, ?_⟩
      · rw [View.read_writes_full, ← l1]; exact pay2_slot c _ ls _ d1
      · rw [View.read_writes_full, ← l3]; exact pay4_slot c _ ls _ d3
      · rw [View.read_writes_full, ← l2]; exact pay5_slot c _ ls _ d2
  · iexists _; iexact HO
end Cert.KernelIdeal.Hand
end
-- ==== Proof.Pro.lean ====
module

public import proofs.«01_k».proof.Proof.Segs
public import proofs.«01_k».proof.Proof.Pays

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000 in
/-- The first point with two experts to fetch: the six copies started. -/
theorem pro_fly (c : Dev nD) (i : grid0.Coords) (arg9 : Memref sig .tc .vmem S256x2048 .f32) (harg9 : arg9.IsWhole) (arg13 : Memref sig .tc .vmem S256x2048 .f32) (harg13 : arg13.IsWhole)
    (h1 : k0_cond1 i = 1#1) {β : Type} (J : Prog (TpuEff nD τ sig (Elt F) Λ₀ .tc) β) (Q : β → sProp 𝕄)
    (T1 : BufOf (F := F) c tM1) (T5 : BufOf (F := F) c tM5)
    (e n : BitVec 32) (he : wordT c tM1 T1 ![0] inb_S128_S1_0 = e) (hn : wordT c tM5 T5 ![0] inb_S128_S1_0 = n)
    (le : e.toNat < 64) (ln : n.toNat < 64) (hc2 : k0_cond2 n = 1#1)
    (q1 : k0_chk1 i e) (q2 : k0_chk2 i e) (q3 : k0_chk3 i e) (q4 : k0_chk4 i n)
    (w1 : BufOf (F := F) c hb9) (w3 : BufOf (F := F) c hb10) (w2 : BufOf (F := F) c hb11) :
    iprop(wholeQ c fullShare.right tM1 T1 ∗ wholeQ c fullShare.right tM5 T5
      ∗ (idleA c f1M hb9 0 (by decide) w1 0 (by decide)
          ∗ idleA c f3M hb10 1 (by decide) w3 0 (by decide)
          ∗ idleB c f2M hb11 2 (by decide) w2 0 (by decide))
      ∗ (idleA c f1M hb9 0 (by decide) w1 1 (by decide)
          ∗ idleA c f3M hb10 1 (by decide) w3 1 (by decide)
          ∗ idleB c f2M hb11 2 (by decide) w2 1 (by decide))
      ∗ (∃ W, owes (c : Thread nD τ) 0 W)
      ∗ (iprop(wholeQ c fullShare.right tM1 T1 ∗ wholeQ c fullShare.right tM5 T5
          ∗ (landA c f1M hb9 0 (by decide) w1 0 (by decide) e.toNat le
          ∗ landA c f3M hb10 1 (by decide) w3 0 (by decide) e.toNat le
          ∗ landB c f2M hb11 2 (by decide) w2 0 (by decide) e.toNat le)
          ∗ (landA c f1M hb9 0 (by decide) w1 1 (by decide) n.toNat ln
          ∗ landA c f3M hb10 1 (by decide) w3 1 (by decide) n.toNat ln
          ∗ landB c f2M hb11 2 (by decide) w2 1 (by decide) n.toNat ln)
          ∗ (∃ W, owes (c : Thread nD τ) 0 W)) -∗ wp frame (wpE (defs₀ (F := F)) Variants.none c none) Set.univ J Q))
      ⊢ wp frame (wpE (defs₀ (F := F)) Variants.none c none) Set.univ (segPro i arg9 harg9 arg13 harg13 J) Q := by
  unfold segPro
  rw [dif_pos h1]
  rw [k0_part1_eq_skeleton]
  unfold k0_part1_skel
  dsimp -zeta -zetaHave -proj only [off2_w, off3_w, off4_w, off5_w, off6_w]
  unfold idleA idleB landA landB
  istart
  iintro ⟨HT1, HT5, ⟨⟨⟨%d1, D1⟩, F1, R1⟩, ⟨⟨%d3, D3⟩, F3, R3⟩, ⟨%d2, D2⟩, F2, R2⟩, ⟨⟨⟨%g1, G1⟩, E1, S1⟩, ⟨⟨%g3, G3⟩, E3, S3⟩, ⟨%g2, G2⟩, E2, S2⟩, ⟨%W, HO⟩, HK⟩
  sl_exec
  rw [show pro_fly.sl.r c T1 = e from he]
  sl_exec
  rw [show pro_fly.sl.r_1 c T1 = e from he]
  sl_exec
  rw [show pro_fly.sl.r_2 c T1 = e from he]
  sl_exec
  rw [show pro_fly.sl.r_3 c T5 = n from hn]
  sl_exec
  iapply HK
  isplitl [HT1]; · iexact HT1
  isplitl [HT5]; · iexact HT5
  isplitl [F1 R1 F3 R3 F2 R2]
  · skip
    isplitl [F1 R1]
    · iexists _
      isplitr; swap
      · isplitl [F1]; · iexact F1
        iexact R1
      · ipureintro
        rw [View.read_writes_whole]; rfl
    isplitl [F3 R3]
    · iexists _
      isplitr; swap
      · isplitl [F3]; · iexact F3
        iexact R3
      · ipureintro
        rw [View.read_writes_whole]; rfl
    iexists _
    isplitr; swap
    · isplitl [F2]; · iexact F2
      iexact R2
    · ipureintro
      rw [View.read_writes_whole]; rfl
  isplitr [HO]; swap
  · iexists _; iexact HO
  isplitl [E1 S1]
  · iexists _
    isplitr; swap
    · isplitl [E1]; · iexact E1
      iexact S1
    · ipureintro
      rw [View.read_writes_whole]; rfl
  isplitl [E3 S3]
  · iexists _
    isplitr; swap
    · isplitl [E3]; · iexact E3
      iexact S3
    · ipureintro
      rw [View.read_writes_whole]; rfl
  iexists _
  isplitr; swap
  · isplitl [E2]; · iexact E2
    iexact S2
  · ipureintro
    rw [View.read_writes_whole]; rfl

set_option maxHeartbeats 4000000 in
/-- The first point with one expert only: its three copies started. -/
theorem pro_idle (c : Dev nD) (i : grid0.Coords) (arg9 : Memref sig .tc .vmem S256x2048 .f32) (harg9 : arg9.IsWhole) (arg13 : Memref sig .tc .vmem S256x2048 .f32) (harg13 : arg13.IsWhole)
    (h1 : k0_cond1 i = 1#1) {β : Type} (J : Prog (TpuEff nD τ sig (Elt F) Λ₀ .tc) β) (Q : β → sProp 𝕄)
    (T1 : BufOf (F := F) c tM1) (T5 : BufOf (F := F) c tM5)
    (e n : BitVec 32) (he : wordT c tM1 T1 ![0] inb_S128_S1_0 = e) (hn : wordT c tM5 T5 ![0] inb_S128_S1_0 = n)
    (le : e.toNat < 64) (hc2 : ¬ k0_cond2 n = 1#1)
    (q1 : k0_chk1 i e) (q2 : k0_chk2 i e) (q3 : k0_chk3 i e) (q4 : k0_chk4 i n)
    (w1 : BufOf (F := F) c hb9) (w3 : BufOf (F := F) c hb10) (w2 : BufOf (F := F) c hb11) :
    iprop(wholeQ c fullShare.right tM1 T1 ∗ wholeQ c fullShare.right tM5 T5
      ∗ (idleA c f1M hb9 0 (by decide) w1 0 (by decide)
          ∗ idleA c f3M hb10 1 (by decide) w3 0 (by decide)
          ∗ idleB c f2M hb11 2 (by decide) w2 0 (by decide))
      ∗ (idleA c f1M hb9 0 (by decide) w1 1 (by decide)
          ∗ idleA c f3M hb10 1 (by decide) w3 1 (by decide)
          ∗ idleB c f2M hb11 2 (by decide) w2 1 (by decide))
      ∗ (∃ W, owes (c : Thread nD τ) 0 W)
      ∗ (iprop(wholeQ c fullShare.right tM1 T1 ∗ wholeQ c fullShare.right tM5 T5
          ∗ (landA c f1M hb9 0 (by decide) w1 0 (by decide) e.toNat le
          ∗ landA c f3M hb10 1 (by decide) w3 0 (by decide) e.toNat le
          ∗ landB c f2M hb11 2 (by decide) w2 0 (by decide) e.toNat le)
          ∗ (idleA c f1M hb9 0 (by decide) w1 1 (by decide)
          ∗ idleA c f3M hb10 1 (by decide) w3 1 (by decide)
          ∗ idleB c f2M hb11 2 (by decide) w2 1 (by decide))
          ∗ (∃ W, owes (c : Thread nD τ) 0 W)) -∗ wp frame (wpE (defs₀ (F := F)) Variants.none c none) Set.univ J Q))
      ⊢ wp frame (wpE (defs₀ (F := F)) Variants.none c none) Set.univ (segPro i arg9 harg9 arg13 harg13 J) Q := by
  unfold segPro
  rw [dif_pos h1]
  rw [k0_part1_eq_skeleton]
  unfold k0_part1_skel
  dsimp -zeta -zetaHave -proj only [off2_w, off3_w, off4_w, off5_w, off6_w]
  unfold idleA idleB landA landB
  istart
  iintro ⟨HT1, HT5, ⟨⟨⟨%d1, D1⟩, F1, R1⟩, ⟨⟨%d3, D3⟩, F3, R3⟩, ⟨%d2, D2⟩, F2, R2⟩, ⟨⟨⟨%g1, G1⟩, E1, S1⟩, ⟨⟨%g3, G3⟩, E3, S3⟩, ⟨%g2, G2⟩, E2, S2⟩, ⟨%W, HO⟩, HK⟩
  sl_exec
  rw [show pro_idle.sl.r c T1 = e from he]
  sl_exec
  rw [show pro_idle.sl.r_1 c T1 = e from he]
  sl_exec
  rw [show pro_idle.sl.r_2 c T1 = e from he]
  sl_exec
  rw [show pro_idle.sl.r_3 c T5 = n from hn]
  sl_exec
  iapply HK
  isplitl [HT1]; · iexact HT1
  isplitl [HT5]; · iexact HT5
  isplitl [F1 R1 F3 R3 F2 R2]
  · skip
    isplitl [F1 R1]
    · iexists _
      isplitr; swap
      · isplitl [F1]; · iexact F1
        iexact R1
      · ipureintro
        rw [View.read_writes_whole]; rfl
    isplitl [F3 R3]
    · iexists _
      isplitr; swap
      · isplitl [F3]; · iexact F3
        iexact R3
      · ipureintro
        rw [View.read_writes_whole]; rfl
    iexists _
    isplitr; swap
    · isplitl [F2]; · iexact F2
      iexact R2
    · ipureintro
      rw [View.read_writes_whole]; rfl
  isplitr [HO]; swap
  · iexists _; iexact HO
  isplitl [E1 S1 G1]
  · isplitl [G1]; · iexists _; iexact G1
    isplitl [E1]; · iexact E1
    iexact S1
  isplitl [E3 S3 G3]
  · isplitl [G3]; · iexists _; iexact G3
    isplitl [E3]; · iexact E3
    iexact S3
  isplitl [G2]; · iexists _; iexact G2
  isplitl [E2]; · iexact E2
  iexact S2

end Cert.KernelIdeal.Hand
end
-- ==== Proof.Tile.lean ====
module

public import proofs.«01_k».proof.Proof.Segs
public import proofs.«01_k».proof.Proof.Pays
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The tile's two halves' rows. -/
abbrev rLo : Rect S256x2048 := Rect.unit (s := S256x2048) ![0, 0] S128x2048.size inb_S256x2048_S128x2048_0_0
abbrev rHi : Rect S256x2048 := Rect.unit (s := S256x2048) ![128, 0] S128x2048.size inb_S256x2048_S128x2048_128_0

/-- What a buffer reads after one more store: the payload laid over what it read before. -/
theorem View.read_writes_cons_overlay {κ : Kind} {sp : Space} {s : Shape} {e : EltTy} {Val : EltTy → Type} (v : View sig κ sp s e) (f : v.ty.Contents Val) (r : Rect s)
    (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [r.overlay_of_not_mem _ _ hy]
    exact View.read_slice_write_of_not_mem r _ _ _ (by rwa [Rect.map_emb_univ])

/-- The tile after the point's zeroing, if it is the tile's first. -/
def zeroF (v1 : BitVec 32) (Y : S256x2048.Idx → Elt F .f32) : S256x2048.Idx → Elt F .f32 :=
  if k0_cond7 v1 = 1#1 then k0_pay6 else Y

set_option maxHeartbeats 4000000 in
theorem zero_wp (c : Dev nD) (i : grid0.Coords) (arg9 : Memref sig .tc .vmem S256x2048 .f32) (harg9 : arg9.IsWhole) (arg13 : Memref sig .tc .vmem S256x2048 .f32) (harg13 : arg13.IsWhole)
    (v1 : Elt F .i32) {β : Type} (J : Prog (TpuEff nD τ sig (Elt F) Λ₀ .tc) β) (Q : β → sProp 𝕄) (Y : S256x2048.Idx → Elt F .f32) :
    iprop(owns (c : Thread nD τ) arg13 fullShare Y ∗ (owns (c : Thread nD τ) arg13 fullShare (zeroF v1 Y) -∗ wp frame (wpE (defs₀ (F := F)) Variants.none c none) Set.univ J Q))
      ⊢ wp frame (wpE (defs₀ (F := F)) Variants.none c none) Set.univ (segZero i arg9 harg9 arg13 harg13 v1 J) Q := by
  unfold segZero zeroF
  by_cases h : k0_cond7 v1 = 1#1
  · rw [dif_pos h, if_pos h]
    unfold owns
    istart
    iintro ⟨⟨%fy, %hy, HY⟩, HK⟩
    sl_exec
    iapply HK
    iexists _; isplitr; swap; · iexact HY
    ipureintro
    rw [View.read_writes_full]
  · rw [dif_neg h, if_neg h]
    istart
    iintro ⟨HY, HK⟩
    try sl_exec
    iapply HK
    iexact HY

/-- What the upper half of the tile holds after it. -/
def loF (v1 v17 v19 : BitVec 32) (X : S256x2048.Idx → Elt F .f32) (B1 B3 : S2048x512.Idx → Elt F .bf16) (B2 : S512x2048.Idx → Elt F .bf16)
    (Y : S256x2048.Idx → Elt F .f32) : S256x2048.Idx → Elt F .f32 :=
  if k0_cond8 v1 v17 v19 = 1#1 then rLo.overlay Y (k0_pay7 v17 v19 (View.ld X rLo) B1 B3 B2 (View.ld Y rLo)) else Y

set_option maxHeartbeats 4000000 in
theorem lo_wp (c : Dev nD) (i : grid0.Coords) (arg9 : Memref sig .tc .vmem S256x2048 .f32) (harg9 : arg9.IsWhole) (arg13 : Memref sig .tc .vmem S256x2048 .f32) (harg13 : arg13.IsWhole)
    (v1 v17 v19 : Elt F .i32) {β : Type} (J : Prog (TpuEff nD τ sig (Elt F) Λ₀ .tc) β) (Q : β → sProp 𝕄)
    (X Y : S256x2048.Idx → Elt F .f32) (B1 B3 : S2048x512.Idx → Elt F .bf16) (B2 : S512x2048.Idx → Elt F .bf16) :
    iprop(owns (c : Thread nD τ) arg9 fullShare X ∗ owns (c : Thread nD τ) arg13 fullShare Y ∗ owns (c : Thread nD τ) b1M fullShare B1
      ∗ owns (c : Thread nD τ) b3M fullShare B3 ∗ owns (c : Thread nD τ) b2M fullShare B2
      ∗ (iprop(owns (c : Thread nD τ) arg9 fullShare X ∗ owns (c : Thread nD τ) arg13 fullShare (loF v1 v17 v19 X B1 B3 B2 Y) ∗ owns (c : Thread nD τ) b1M fullShare B1
      ∗ owns (c : Thread nD τ) b3M fullShare B3 ∗ owns (c : Thread nD τ) b2M fullShare B2) -∗ wp frame (wpE (defs₀ (F := F)) Variants.none c none) Set.univ J Q))
      ⊢ wp frame (wpE (defs₀ (F := F)) Variants.none c none) Set.univ (segLo i arg9 harg9 arg13 harg13 v1 v17 v19 J) Q := by
  unfold segLo loF
  by_cases h : k0_cond8 v1 v17 v19 = 1#1
  · rw [dif_pos h, if_pos h]
    unfold owns
    istart
    iintro ⟨⟨%fx, %hx, HX⟩, ⟨%fy, %hy, HY⟩, ⟨%f1, %h1, H1⟩, ⟨%f3, %h3, H3⟩, ⟨%f2, %h2, H2⟩, HK⟩
    sl_exec
    iapply HK
    isplitl [HX]; · iexists _; isplitr; · ipureintro; exact hx
                    iexact HX
    isplitl [HY]
    · iexists _; isplitr; swap; · iexact HY
      ipureintro
      subst hx hy h1 h3 h2
      rw [View.read_writes_cons_overlay, View.writes_nil]
      have e1 : View.readAt (Elt F) b1M.view (Rect.unit (s := S2048x512) ![0, 0] S2048x512.size inb_S2048x512_S2048x512_0_0).toLoadRect f1 = b1M.view.read (Elt F) f1 := View.readAt_full _ _ _
      have e3 : View.readAt (Elt F) b3M.view (Rect.unit (s := S2048x512) ![0, 0] S2048x512.size inb_S2048x512_S2048x512_0_0).toLoadRect f3 = b3M.view.read (Elt F) f3 := View.readAt_full _ _ _
      have e2 : View.readAt (Elt F) b2M.view (Rect.unit (s := S512x2048) ![0, 0] S512x2048.size inb_S512x2048_S512x2048_0_0).toLoadRect f2 = b2M.view.read (Elt F) f2 := View.readAt_full _ _ _
      rw [e1, e3, e2]
      rfl
    isplitl [H1]; · iexists _; isplitr; · ipureintro; exact h1
                    iexact H1
    isplitl [H3]; · iexists _; isplitr; · ipureintro; exact h3
                    iexact H3
    iexists _; isplitr; · ipureintro; exact h2
    iexact H2
  · rw [dif_neg h, if_neg h]
    istart
    iintro ⟨HX, HY, H1, H3, H2, HK⟩
    try sl_exec
    iapply HK
    iframe

/-- What the lower half of the tile holds after it. -/
def hiF (v1 v17 v19 : BitVec 32) (X : S256x2048.Idx → Elt F .f32) (B1 B3 : S2048x512.Idx → Elt F .bf16) (B2 : S512x2048.Idx → Elt F .bf16)
    (Y : S256x2048.Idx → Elt F .f32) : S256x2048.Idx → Elt F .f32 :=
  if k0_cond9 v1 v17 v19 = 1#1 then rHi.overlay Y (k0_pay1 v17 v19 (View.ld X rHi) B1 B3 B2 (View.ld Y rHi)) else Y

set_option maxHeartbeats 4000000 in
theorem hi_wp (c : Dev nD) (i : grid0.Coords) (arg9 : Memref sig .tc .vmem S256x2048 .f32) (harg9 : arg9.IsWhole) (arg13 : Memref sig .tc .vmem S256x2048 .f32) (harg13 : arg13.IsWhole)
    (v1 v17 v19 : Elt F .i32) {β : Type} (J : Prog (TpuEff nD τ sig (Elt F) Λ₀ .tc) β) (Q : β → sProp 𝕄)
    (X Y : S256x2048.Idx → Elt F .f32) (B1 B3 : S2048x512.Idx → Elt F .bf16) (B2 : S512x2048.Idx → Elt F .bf16) :
    iprop(owns (c : Thread nD τ) arg9 fullShare X ∗ owns (c : Thread nD τ) arg13 fullShare Y ∗ owns (c : Thread nD τ) b1M fullShare B1
      ∗ owns (c : Thread nD τ) b3M fullShare B3 ∗ owns (c : Thread nD τ) b2M fullShare B2
      ∗ (iprop(owns (c : Thread nD τ) arg9 fullShare X ∗ owns (c : Thread nD τ) arg13 fullShare (hiF v1 v17 v19 X B1 B3 B2 Y) ∗ owns (c : Thread nD τ) b1M fullShare B1
      ∗ owns (c : Thread nD τ) b3M fullShare B3 ∗ owns (c : Thread nD τ) b2M fullShare B2) -∗ wp frame (wpE (defs₀ (F := F)) Variants.none c none) Set.univ J Q))
      ⊢ wp frame (wpE (defs₀ (F := F)) Variants.none c none) Set.univ (segHi i arg9 harg9 arg13 harg13 v1 v17 v19 J) Q := by
  unfold segHi hiF
  by_cases h : k0_cond9 v1 v17 v19 = 1#1
  · rw [dif_pos h, if_pos h]
    unfold owns
    istart
    iintro ⟨⟨%fx, %hx, HX⟩, ⟨%fy, %hy, HY⟩, ⟨%f1, %h1, H1⟩, ⟨%f3, %h3, H3⟩, ⟨%f2, %h2, H2⟩, HK⟩
    sl_exec
    iapply HK
    isplitl [HX]; · iexists _; isplitr; · ipureintro; exact hx
                    iexact HX
    isplitl [HY]
    · iexists _; isplitr; swap; · iexact HY
      ipureintro
      subst hx hy h1 h3 h2
      rw [View.read_writes_cons_overlay, View.writes_nil]
      have e1 : View.readAt (Elt F) b1M.view (Rect.unit (s := S2048x512) ![0, 0] S2048x512.size inb_S2048x512_S2048x512_0_0).toLoadRect f1 = b1M.view.read (Elt F) f1 := View.readAt_full _ _ _
      have e3 : View.readAt (Elt F) b3M.view (Rect.unit (s := S2048x512) ![0, 0] S2048x512.size inb_S2048x512_S2048x512_0_0).toLoadRect f3 = b3M.view.read (Elt F) f3 := View.readAt_full _ _ _
      have e2 : View.readAt (Elt F) b2M.view (Rect.unit (s := S512x2048) ![0, 0] S512x2048.size inb_S512x2048_S512x2048_0_0).toLoadRect f2 = b2M.view.read (Elt F) f2 := View.readAt_full _ _ _
      rw [e1, e3, e2]
      rfl
    isplitl [H1]; · iexists _; isplitr; · ipureintro; exact h1
                    iexact H1
    isplitl [H3]; · iexists _; isplitr; · ipureintro; exact h3
                    iexact H3
    iexists _; isplitr; · ipureintro; exact h2
    iexact H2
  · rw [dif_neg h, if_neg h]
    istart
    iintro ⟨HX, HY, H1, H3, H2, HK⟩
    try sl_exec
    iapply HK
    iframe

end Cert.KernelIdeal.Hand
end
-- ==== Proof.Slots.lean ====
/-
  The two segments that start and land copies, over the slots' states: the first point's fetches, an expert's change.
-/
module

public import proofs.«01_k».proof.Proof.Chk
public import proofs.«01_k».proof.Proof.Sw
public import proofs.«01_k».proof.Proof.SwIdle
public import proofs.«01_k».proof.Proof.Pro
public import proofs.«01_k».proof.Proof.Tile

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.PlanWords (i1)

variable {F : FTy → Type} [FloatOps F]

local notation "𝕄" => MT nD τ sig Unit (Elt F) ℕ (Pipeline.UD sig nD τ) ℕ

/-- Slot `o` (modulo two) with expert `e`'s copies in flight, or at rest; the compute scratches at expert `e`'s (modulo 64) matrices. -/
def slotW (c : Dev nD) (w1 : BufOf (F := F) c hb9) (w3 : BufOf (F := F) c hb10) (w2 : BufOf (F := F) c hb11) (o e : ℕ) : sProp 𝕄 :=
  slotSt c w1 w3 w2 (o % 2) (Nat.mod_lt _ (by decide)) e
def narW (c : Dev nD) (w1 : BufOf (F := F) c hb9) (w3 : BufOf (F := F) c hb10) (w2 : BufOf (F := F) c hb11) (e : ℕ) : sProp 𝕄 :=
  narrowed c w1 w3 w2 (e % 64) (Nat.mod_lt _ (by decide))

variable (c : Dev nD) (w1 : BufOf (F := F) c hb9) (w3 : BufOf (F := F) c hb10) (w2 : BufOf (F := F) c hb11)

theorem narW_eq {e : ℕ} (h : e < 64) : narW c w1 w3 w2 e = narrowed c w1 w3 w2 e h := by
  unfold narW; simp only [Nat.mod_eq_of_lt h]
theorem slotW_fly {o e : ℕ} (ho : o < 2) (he : e < 64) : slotW c w1 w3 w2 o e
    = iprop(landA c f1M hb9 0 (by decide) w1 o ho e he ∗ landA c f3M hb10 1 (by decide) w3 o ho e he ∗ landB c f2M hb11 2 (by decide) w2 o ho e he) := by
  unfold slotW slotSt; simp only [Nat.mod_eq_of_lt ho, dif_pos he]
theorem slotW_idle {o e : ℕ} (ho : o < 2) (he : ¬ e < 64) : slotW c w1 w3 w2 o e
    = iprop(idleA c f1M hb9 0 (by decide) w1 o ho ∗ idleA c f3M hb10 1 (by decide) w3 o ho ∗ idleB c f2M hb11 2 (by decide) w2 o ho) := by
  unfold slotW slotSt; simp only [Nat.mod_eq_of_lt ho, dif_neg he]
theorem narW_any (e : ℕ) : narW c w1 w3 w2 e ⊢ anyB (F := F) c := by
  unfold narW narrowed anyB
  iintro ⟨%c1, %c3, %c2, -, H1, H3, H2⟩
  isplitl [H1]; · iexists _; iexact H1
  isplitl [H3]; · iexists _; iexact H3
  iexists _; iexact H2

/-- An expert's first item. -/
theorem sw_wp (i : grid0.Coords) (arg9 : Memref sig .tc .vmem S256x2048 .f32) (harg9 : arg9.IsWhole) (arg13 : Memref sig .tc .vmem S256x2048 .f32) (harg13 : arg13.IsWhole)
    (v1 : Elt F .i32) (h3 : k0_cond3 v1 = 1#1) {β : Type} (J : Prog (TpuEff nD τ sig (Elt F) Λ₀ .tc) β) (Q : β → sProp 𝕄)
    (T1 : BufOf (F := F) c tM1) (T6 : BufOf (F := F) c tM6) (T7 : BufOf (F := F) c tM7)
    (s e n : BitVec 32) (hs : wordT c tM7 T7 (k0_off7 i) (k0_off7_inb i) = s) (he : wordT c tM1 T1 (k0_off15 i) (k0_off15_inb i) = e)
    (hn : wordT c tM6 T6 (k0_off7 i) (k0_off7_inb i) = n) (ls : s.toNat < 2) (le : e.toNat < 64) (ok : NextOk n) :
    iprop(wholeQ c fullShare.right tM1 T1 ∗ wholeQ c fullShare.right tM6 T6 ∗ wholeQ c fullShare.right tM7 T7
      ∗ slotW c w1 w3 w2 s.toNat e.toNat ∗ anyB c ∗ (∃ W, owes (c : Thread nD τ) 0 W)
      ∗ (iprop(wholeQ c fullShare.right tM1 T1 ∗ wholeQ c fullShare.right tM6 T6 ∗ wholeQ c fullShare.right tM7 T7
          ∗ slotW c w1 w3 w2 s.toNat n.toNat ∗ narW c w1 w3 w2 e.toNat ∗ (∃ W, owes (c : Thread nD τ) 0 W))
        -∗ wp frame (wpE (defs₀ (F := F)) Variants.none c none) Set.univ J Q))
      ⊢ wp frame (wpE (defs₀ (F := F)) Variants.none c none) Set.univ (segSw i arg9 harg9 arg13 harg13 v1 J) Q := by
  rw [slotW_fly c w1 w3 w2 ls le, narW_eq c w1 w3 w2 le]
  by_cases h0 : 0 ≤ n.toInt
  · rw [slotW_fly c w1 w3 w2 ls (next_lt ok h0)]
    iintro ⟨H1, H6, H7, ⟨L1, L3, L2⟩, HB, HO, HK⟩
    iapply (sw_fly c i arg9 harg9 arg13 harg13 v1 h3 J Q T1 T6 T7 s e n hs he hn ls le (next_lt ok h0) ((cond4_iff n).2 h0) ((cond5_iff n).2 h0) ((cond6_iff n).2 h0)
      (chk5 v1 ls) (chk6 v1 le) (chk7 v1 ls ok) (chk8 v1 le) (chk9 v1 le) w1 w3 w2)
    isplitl [H1]; · iexact H1
    isplitl [H6]; · iexact H6
    isplitl [H7]; · iexact H7
    isplitl [L1]; · iexact L1
    isplitl [L3]; · iexact L3
    isplitl [L2]; · iexact L2
    isplitl [HB]; · iexact HB
    isplitl [HO]; · iexact HO
    iintro ⟨H1, H6, H7, L1, L3, L2, N, HO⟩
    iapply HK
    isplitl [H1]; · iexact H1
    isplitl [H6]; · iexact H6
    isplitl [H7]; · iexact H7
    isplitl [L1 L3 L2]
    · isplitl [L1]; · iexact L1
      isplitl [L3]; · iexact L3
      iexact L2
    isplitl [N]; · iexact N
    iexact HO
  · rw [slotW_idle c w1 w3 w2 ls (next_ge ok h0)]
    iintro ⟨H1, H6, H7, ⟨L1, L3, L2⟩, HB, HO, HK⟩
    iapply (sw_idle c i arg9 harg9 arg13 harg13 v1 h3 J Q T1 T6 T7 s e n hs he hn ls le (fun h => h0 ((cond4_iff n).1 h)) (fun h => h0 ((cond5_iff n).1 h)) (fun h => h0 ((cond6_iff n).1 h))
      (chk5 v1 ls) (chk6 v1 le) (chk7 v1 ls ok) (chk8 v1 le) (chk9 v1 le) w1 w3 w2)
    isplitl [H1]; · iexact H1
    isplitl [H6]; · iexact H6
    isplitl [H7]; · iexact H7
    isplitl [L1]; · iexact L1
    isplitl [L3]; · iexact L3
    isplitl [L2]; · iexact L2
    isplitl [HB]; · iexact HB
    isplitl [HO]; · iexact HO
    iintro ⟨H1, H6, H7, L1, L3, L2, N, HO⟩
    iapply HK
    isplitl [H1]; · iexact H1
    isplitl [H6]; · iexact H6
    isplitl [H7]; · iexact H7
    isplitl [L1 L3 L2]
    · isplitl [L1]; · iexact L1
      isplitl [L3]; · iexact L3
      iexact L2
    isplitl [N]; · iexact N
    iexact HO

/-- An item that is not its expert's first changes nothing of the weights. -/
theorem sw_skip (i : grid0.Coords) (arg9 : Memref sig .tc .vmem S256x2048 .f32) (harg9 : arg9.IsWhole) (arg13 : Memref sig .tc .vmem S256x2048 .f32) (harg13 : arg13.IsWhole)
    (v1 : Elt F .i32) (h3 : ¬ k0_cond3 v1 = 1#1) {β : Type} (J : Prog (TpuEff nD τ sig (Elt F) Λ₀ .tc) β) (Q : β → sProp 𝕄) :
    wp frame (wpE (defs₀ (F := F)) Variants.none c none) Set.univ J Q
      ⊢ wp frame (wpE (defs₀ (F := F)) Variants.none c none) Set.univ (segSw i arg9 harg9 arg13 harg13 v1 J) Q := by
  unfold segSw
  rw [dif_neg h3]
theorem pro_skip (i : grid0.Coords) (arg9 : Memref sig .tc .vmem S256x2048 .f32) (harg9 : arg9.IsWhole) (arg13 : Memref sig .tc .vmem S256x2048 .f32) (harg13 : arg13.IsWhole)
    (h1 : ¬ k0_cond1 i = 1#1) {β : Type} (J : Prog (TpuEff nD τ sig (Elt F) Λ₀ .tc) β) (Q : β → sProp 𝕄) :
    wp frame (wpE (defs₀ (F := F)) Variants.none c none) Set.univ J Q
      ⊢ wp frame (wpE (defs₀ (F := F)) Variants.none c none) Set.univ (segPro i arg9 harg9 arg13 harg13 J) Q := by
  unfold segPro
  rw [dif_neg h1]

/-- The first point's fetches. -/
theorem pro_wp (i : grid0.Coords) (arg9 : Memref sig .tc .vmem S256x2048 .f32) (harg9 : arg9.IsWhole) (arg13 : Memref sig .tc .vmem S256x2048 .f32) (harg13 : arg13.IsWhole)
    (h1 : k0_cond1 i = 1#1) {β : Type} (J : Prog (TpuEff nD τ sig (Elt F) Λ₀ .tc) β) (Q : β → sProp 𝕄)
    (T1 : BufOf (F := F) c tM1) (T5 : BufOf (F := F) c tM5)
    (e n : BitVec 32) (he : wordT c tM1 T1 ![0] inb_S128_S1_0 = e) (hn : wordT c tM5 T5 ![0] inb_S128_S1_0 = n)
    (le : e.toNat < 64) (ok : NextOk n) :
    iprop(wholeQ c fullShare.right tM1 T1 ∗ wholeQ c fullShare.right tM5 T5
      ∗ slotW c w1 w3 w2 0 64 ∗ slotW c w1 w3 w2 1 64 ∗ (∃ W, owes (c : Thread nD τ) 0 W)
      ∗ (iprop(wholeQ c fullShare.right tM1 T1 ∗ wholeQ c fullShare.right tM5 T5
          ∗ slotW c w1 w3 w2 0 e.toNat ∗ slotW c w1 w3 w2 1 n.toNat ∗ (∃ W, owes (c : Thread nD τ) 0 W))
        -∗ wp frame (wpE (defs₀ (F := F)) Variants.none c none) Set.univ J Q))
      ⊢ wp frame (wpE (defs₀ (F := F)) Variants.none c none) Set.univ (segPro i arg9 harg9 arg13 harg13 J) Q := by
  rw [slotW_idle c w1 w3 w2 (o := 0) (e := 64) (by decide) (by decide), slotW_idle c w1 w3 w2 (o := 1) (e := 64) (by decide) (by decide), slotW_fly c w1 w3 w2 (o := 0) (by decide) le]
  by_cases h0 : 0 ≤ n.toInt
  · rw [slotW_fly c w1 w3 w2 (o := 1) (by decide) (next_lt ok h0)]
    exact pro_fly c i arg9 harg9 arg13 harg13 h1 J Q T1 T5 e n he hn le (next_lt ok h0) ((cond2_iff n).2 h0) (chk1 i le) (chk2 i le) (chk3 i le) (chk4 i ok) w1 w3 w2
  · rw [slotW_idle c w1 w3 w2 (o := 1) (by decide) (next_ge ok h0)]
    exact pro_idle c i arg9 harg9 arg13 harg13 h1 J Q T1 T5 e n he hn le (fun h => h0 ((cond2_iff n).1 h)) (chk1 i le) (chk2 i le) (chk3 i le) (chk4 i ok) w1 w3 w2

end Cert.KernelIdeal.Hand
end
-- ==== Proof.Walk.lean ====
/-
  One grid point of the experts kernel: the tables read, the weights' slots moved on, the tile's rows written.
-/
module

public import proofs.«01_k».proof.Proof.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.PlanWords (i1)

variable {F : FTy → Type} [FloatOps F]

local notation "𝕄" => MT nD τ sig Unit (Elt F) ℕ (Pipeline.UD sig nD τ) ℕ

variable (c : Dev nD) (w1 : BufOf (F := F) c hb9) (w3 : BufOf (F := F) c hb10) (w2 : BufOf (F := F) c hb11)

/-- Expert `e`'s (modulo 64) matrices, narrowed. -/
def mB1 (e : ℕ) : S2048x512.Idx → Elt F .bf16 := truncf .bf16 ((expA hb9 (e % 64) (Nat.mod_lt _ (by decide))).view.read (Elt F) w1) bitsLt_bf16_f32
def mB3 (e : ℕ) : S2048x512.Idx → Elt F .bf16 := truncf .bf16 ((expA hb10 (e % 64) (Nat.mod_lt _ (by decide))).view.read (Elt F) w3) bitsLt_bf16_f32
def mB2 (e : ℕ) : S512x2048.Idx → Elt F .bf16 := truncf .bf16 ((expB hb11 (e % 64) (Nat.mod_lt _ (by decide))).view.read (Elt F) w2) bitsLt_bf16_f32

theorem narW_owns (e : ℕ) : narW c w1 w3 w2 e ⊢ iprop(owns (c : Thread nD τ) b1M fullShare (mB1 c w1 e) ∗ owns (c : Thread nD τ) b3M fullShare (mB3 c w3 e)
    ∗ owns (c : Thread nD τ) b2M fullShare (mB2 c w2 e)) := by
  unfold narW narrowed owns mB1 mB3 mB2
  iintro ⟨%c1, %c3, %c2, %h, H1, H3, H2⟩
  isplitl [H1]; · iexists c1; isplitr; · ipureintro; exact h.1
                  iexact H1
  isplitl [H3]; · iexists c3; isplitr; · ipureintro; exact h.2.1
                  iexact H3
  iexists c2; isplitr; · ipureintro; exact h.2.2
  iexact H2
theorem owns_narW (e : ℕ) : iprop(owns (c : Thread nD τ) b1M fullShare (mB1 c w1 e) ∗ owns (c : Thread nD τ) b3M fullShare (mB3 c w3 e)
    ∗ owns (c : Thread nD τ) b2M fullShare (mB2 c w2 e)) ⊢ narW c w1 w3 w2 e := by
  unfold narW narrowed owns mB1 mB3 mB2
  iintro ⟨⟨%c1, %h1, H1⟩, ⟨%c3, %h3, H3⟩, ⟨%c2, %h2, H2⟩⟩
  iexists c1; iexists c3; iexists c2
  isplitr; · ipureintro; exact ⟨h1, h3, h2⟩
  isplitl [H1]; · iexact H1
  isplitl [H3]; · iexact H3
  iexact H2

/-- What a point leaves of the tile: the rows of its piece computed, the others as they were (or zero at the tile's first piece). -/
def outF (v1 v17 v19 : BitVec 32) (e : ℕ) (X Y : S256x2048.Idx → Elt F .f32) : S256x2048.Idx → Elt F .f32 :=
  hiF v1 v17 v19 X (mB1 c w1 e) (mB3 c w3 e) (mB2 c w2 e) (loF v1 v17 v19 X (mB1 c w1 e) (mB3 c w3 e) (mB2 c w2 e) (zeroF v1 Y))

/-! ## Reading a table's word -/

theorem load2_wp (T : BufOf (F := F) c tM2) (o : Fin 1 → ℕ) (h : ∀ a, o a + S1.size a ≤ S128.size a) {β : Type} (K : Elt F .i32 → Prog (TpuEff nD τ sig (Elt F) Λ₀ .tc) β) (Q : β → sProp 𝕄) :
    iprop(wholeQ c fullShare.right tM2 T ∗ (wholeQ c fullShare.right tM2 T -∗ wp frame (wpE (defs₀ (F := F)) Variants.none c none) Set.univ (K (wordT c tM2 T o h)) Q))
      ⊢ wp frame (wpE (defs₀ (F := F)) Variants.none c none) Set.univ (do let v : Elt F .i32 ← smemLoad tM2 (Rect.unit (s := S128) o S1.size h) numel1_S1 rfl; K v) Q := by
  iintro ⟨HT, HK⟩
  sl_exec
  iapply HK
  iexact HT

theorem load3_wp (T : BufOf (F := F) c tM3) (o : Fin 1 → ℕ) (h : ∀ a, o a + S1.size a ≤ S128.size a) {β : Type} (K : Elt F .i32 → Prog (TpuEff nD τ sig (Elt F) Λ₀ .tc) β) (Q : β → sProp 𝕄) :
    iprop(wholeQ c fullShare.right tM3 T ∗ (wholeQ c fullShare.right tM3 T -∗ wp frame (wpE (defs₀ (F := F)) Variants.none c none) Set.univ (K (wordT c tM3 T o h)) Q))
      ⊢ wp frame (wpE (defs₀ (F := F)) Variants.none c none) Set.univ (do let v : Elt F .i32 ← smemLoad tM3 (Rect.unit (s := S128) o S1.size h) numel1_S1 rfl; K v) Q := by
  iintro ⟨HT, HK⟩
  sl_exec
  iapply HK
  iexact HT

theorem load4_wp (T : BufOf (F := F) c tM4) (o : Fin 1 → ℕ) (h : ∀ a, o a + S1.size a ≤ S128.size a) {β : Type} (K : Elt F .i32 → Prog (TpuEff nD τ sig (Elt F) Λ₀ .tc) β) (Q : β → sProp 𝕄) :
    iprop(wholeQ c fullShare.right tM4 T ∗ (wholeQ c fullShare.right tM4 T -∗ wp frame (wpE (defs₀ (F := F)) Variants.none c none) Set.univ (K (wordT c tM4 T o h)) Q))
      ⊢ wp frame (wpE (defs₀ (F := F)) Variants.none c none) Set.univ (do let v : Elt F .i32 ← smemLoad tM4 (Rect.unit (s := S128) o S1.size h) numel1_S1 rfl; K v) Q := by
  iintro ⟨HT, HK⟩
  sl_exec
  iapply HK
  iexact HT

/-! ## The slots from point to point -/

/-- The first item of the expert current before item `n`. -/
def cur (T4 : IVec S128 32) : ℕ → Fin 128
  | 0 => 0
  | n + 1 => if h : n < 128 then (if Cert.PlanWords.bit T4 2 ⟨n, h⟩ then ⟨n, h⟩ else cur T4 n) else cur T4 n

/-- The weights' slots and the compute scratches before item `n`. -/
def slotsAt (T1 T4 T5 T6 T7 : IVec S128 32) : ℕ → sProp 𝕄
  | 0 => iprop(slotW c w1 w3 w2 0 64 ∗ slotW c w1 w3 w2 1 64 ∗ anyB c)
  | n + 1 => iprop(slotW c w1 w3 w2 (T7 (i1 (cur T4 (n + 1)))).toNat (T6 (i1 (cur T4 (n + 1)))).toNat
      ∗ slotW c w1 w3 w2 (1 - (T7 (i1 (cur T4 (n + 1)))).toNat) (T5 (i1 (cur T4 (n + 1)))).toNat
      ∗ narW c w1 w3 w2 (T1 (i1 (cur T4 (n + 1)))).toNat)

theorem slotsAt_succ (T1 T4 T5 T6 T7 : IVec S128 32) (n : ℕ) : slotsAt c w1 w3 w2 T1 T4 T5 T6 T7 (n + 1)
    = iprop(slotW c w1 w3 w2 (T7 (i1 (cur T4 (n + 1)))).toNat (T6 (i1 (cur T4 (n + 1)))).toNat
      ∗ slotW c w1 w3 w2 (1 - (T7 (i1 (cur T4 (n + 1)))).toNat) (T5 (i1 (cur T4 (n + 1)))).toNat
      ∗ narW c w1 w3 w2 (T1 (i1 (cur T4 (n + 1)))).toNat) := rfl

section Words
variable {T0 T1 T2 T3 T4 T5 T6 T7 : IVec S128 32} {R : IVec Cert.Pre_plan.S16384 32} (hr : Cert.PlanWords.Raw T0 T1 T2 T3 T4 T5 T6 T7 R)
include hr

theorem e_lt (w : Fin 128) : (T1 (i1 w)).toNat < 64 :=
  lt_of_int 63 (by decide) (hr.ranges w).1.1.1.1.1.1.1.2 (hr.ranges w).1.1.1.1.1.1.2
theorem s_lt (w : Fin 128) : (T7 (i1 w)).toNat < 2 :=
  lt_of_int 1 (by decide) (hr.ranges w).1.1.1.1.1.2 (hr.ranges w).1.1.1.1.2
theorem n_ok (w : Fin 128) : NextOk (T5 (i1 w)) := ⟨(hr.ranges w).1.1.1.2, (hr.ranges w).1.1.2⟩
theorem n2_ok (w : Fin 128) : NextOk (T6 (i1 w)) := ⟨(hr.ranges w).1.2, (hr.ranges w).2⟩
theorem t_lt (w : Fin 128) : (T0 (i1 w)).toNat < 64 :=
  lt_of_int 63 (by decide) (hr.ranges w).1.1.1.1.1.1.1.1.1 (hr.ranges w).1.1.1.1.1.1.1.1.2

theorem cur_succ (n : ℕ) (h : n < 128) : cur T4 (n + 1) = if Cert.PlanWords.bit T4 2 ⟨n, h⟩ then ⟨n, h⟩ else cur T4 n := by
  rw [cur, dif_pos h]
/-- The current expert's first item is marked, and is of the expert of the item just done. -/
theorem cur_spec (n : ℕ) (h : n < 128) : Cert.PlanWords.bit T4 2 (cur T4 (n + 1)) ∧ T1 (i1 (cur T4 (n + 1))) = T1 (i1 ⟨n, h⟩) := by
  induction n with
  | zero =>
    have e : cur T4 (0 + 1) = ⟨0, h⟩ := by rw [cur_succ hr 0 h]; exact if_pos hr.head.2.1
    rw [e]; exact ⟨hr.head.2.1, rfl⟩
  | succ n ih =>
    rw [cur_succ hr (n + 1) h]
    split
    · next hb => exact ⟨hb, rfl⟩
    · next hb =>
      obtain ⟨i1', i2⟩ := ih (by omega)
      refine ⟨i1', i2.trans ?_⟩
      have := (hr.same ⟨n, by omega⟩)
      have e : Cert.PlanWords.hi1 ⟨n, by omega⟩ = ⟨n + 1, h⟩ := Fin.ext (Nat.add_comm _ _)
      rw [e] at this
      exact (this.resolve_left hb).symm
/-- At a later expert's first item the tables at the current one name this expert and the one after it. -/
theorem cur_next (n : ℕ) (h : n + 1 < 128) (hb : Cert.PlanWords.bit T4 2 ⟨n + 1, h⟩) :
    T5 (i1 (cur T4 (n + 1))) = T1 (i1 ⟨n + 1, h⟩) ∧ T6 (i1 (cur T4 (n + 1))) = T5 (i1 ⟨n + 1, h⟩)
      ∧ (T7 (i1 (cur T4 (n + 1)))).toNat = 1 - (T7 (i1 ⟨n + 1, h⟩)).toNat ∧ 1 - (T7 (i1 (cur T4 (n + 1)))).toNat = (T7 (i1 ⟨n + 1, h⟩)).toNat := by
  have e : Cert.PlanWords.hi1 ⟨n, by omega⟩ = ⟨n + 1, h⟩ := Fin.ext (Nat.add_comm _ _)
  obtain ⟨c1, c2⟩ := cur_spec hr n (by omega)
  have q := hr.after (cur T4 (n + 1)) ⟨n, by omega⟩ c1 (e ▸ hb) c2
  rw [e] at q
  have l1 := s_lt hr (cur T4 (n + 1))
  have l2 := s_lt hr ⟨n + 1, h⟩
  have q3 := congrArg BitVec.toNat q.2
  rw [BitVec.toNat_add] at q3
  have : (1#32).toNat = 1 := rfl
  exact ⟨q.1.1, q.1.2, by omega, by omega⟩
/-- After the last item no expert is left. -/
theorem cur_last (n : ℕ) (hn : n = 127) : T5 (i1 (cur T4 (n + 1))) = 4294967295#32 ∧ T6 (i1 (cur T4 (n + 1))) = 4294967295#32 := by
  obtain ⟨c1, c2⟩ := cur_spec hr n (by omega)
  exact hr.ends _ c1 (c2.trans (congrArg (fun w => T1 (i1 w)) (Fin.ext hn)))

/-- Before an expert's first item after the first: its copies in flight in its slot, the next expert's in the other. -/
theorem slots_first (n : ℕ) (h : n + 1 < 128) (hb : Cert.PlanWords.bit T4 2 ⟨n + 1, h⟩) :
    slotsAt c w1 w3 w2 T1 T4 T5 T6 T7 (n + 1) ⊢ iprop(slotW c w1 w3 w2 (T7 (i1 ⟨n + 1, h⟩)).toNat (T1 (i1 ⟨n + 1, h⟩)).toNat
      ∗ slotW c w1 w3 w2 (1 - (T7 (i1 ⟨n + 1, h⟩)).toNat) (T5 (i1 ⟨n + 1, h⟩)).toNat ∗ anyB c) := by
  obtain ⟨q1, q2, q3, q4⟩ := cur_next hr n h hb
  rw [slotsAt_succ, q1, q2, q3, show 1 - (1 - (T7 (i1 ⟨n + 1, h⟩)).toNat) = (T7 (i1 ⟨n + 1, h⟩)).toNat by have := s_lt hr ⟨n + 1, h⟩; omega]
  iintro ⟨A, B, N⟩
  isplitl [B]; · iexact B
  isplitl [A]; · iexact A
  iapply (narW_any c w1 w3 w2)
  iexact N
theorem slots_after (n : ℕ) (h : n < 128) (hb : Cert.PlanWords.bit T4 2 ⟨n, h⟩) :
    iprop(slotW c w1 w3 w2 (T7 (i1 ⟨n, h⟩)).toNat (T6 (i1 ⟨n, h⟩)).toNat
      ∗ slotW c w1 w3 w2 (1 - (T7 (i1 ⟨n, h⟩)).toNat) (T5 (i1 ⟨n, h⟩)).toNat ∗ narW c w1 w3 w2 (T1 (i1 ⟨n, h⟩)).toNat) = slotsAt c w1 w3 w2 T1 T4 T5 T6 T7 (n + 1) := by
  rw [slotsAt_succ, cur_succ hr n h, if_pos hb]
theorem slots_skip (n : ℕ) (h : n + 1 < 128) (hb : ¬ Cert.PlanWords.bit T4 2 ⟨n + 1, h⟩) :
    slotsAt c w1 w3 w2 T1 T4 T5 T6 T7 (n + 1 + 1) = slotsAt c w1 w3 w2 T1 T4 T5 T6 T7 (n + 1) := by
  rw [slotsAt_succ, slotsAt_succ, cur_succ hr (n + 1) h, if_neg hb]
theorem slots_last (n : ℕ) (hn : n = 127) :
    slotsAt c w1 w3 w2 T1 T4 T5 T6 T7 (n + 1) ⊢ iprop(slotW c w1 w3 w2 0 64 ∗ slotW c w1 w3 w2 1 64 ∗ anyB (F := F) c) := by
  obtain ⟨q1, q2⟩ := cur_last hr n hn
  have l1 := s_lt hr (cur T4 (n + 1))
  have idle : ∀ o (ho : o < 2), slotW c w1 w3 w2 o (4294967295#32).toNat = slotW c w1 w3 w2 o 64 := fun o ho => by
    rw [slotW_idle c w1 w3 w2 ho (by decide), slotW_idle c w1 w3 w2 ho (by decide)]
  rw [slotsAt_succ, q1, q2, idle _ l1, idle _ (by omega)]
  rcases (by omega : (T7 (i1 (cur T4 (n + 1)))).toNat = 0 ∨ (T7 (i1 (cur T4 (n + 1)))).toNat = 1) with h | h
  · rw [h]
    iintro ⟨A, B, N⟩
    isplitl [A]; · iexact A
    isplitl [B]; · iexact B
    iapply (narW_any c w1 w3 w2)
    iexact N
  · rw [h]
    iintro ⟨A, B, N⟩
    isplitl [B]; · iexact B
    isplitl [A]; · iexact A
    iapply (narW_any c w1 w3 w2)
    iexact N
end Words

end Cert.KernelIdeal.Hand
end
-- ==== Proof.Point.lean ====
/-
  One grid point of the experts kernel, whole.
-/
module

public import proofs.«01_k».proof.Proof.Walk

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.PlanWords (i1)

variable {F : FTy → Type} [FloatOps F]

local notation "𝕄" => MT nD τ sig Unit (Elt F) ℕ (Pipeline.UD sig nD τ) ℕ

variable (c : Dev nD) (w1 : BufOf (F := F) c hb9) (w3 : BufOf (F := F) c hb10) (w2 : BufOf (F := F) c hb11)
variable {T0 T1 T2 T3 T4 T5 T6 T7 : IVec S128 32} {R : IVec Cert.Pre_plan.S16384 32} (hr : Cert.PlanWords.Raw T0 T1 T2 T3 T4 T5 T6 T7 R)
include hr

/-- The weights' moves of one point: the first point's fetches and an expert's change, whichever the point makes. -/
theorem moves_wp (t : Fin grid0.N) (arg9 : Memref sig .tc .vmem S256x2048 .f32) (harg9 : arg9.IsWhole) (arg13 : Memref sig .tc .vmem S256x2048 .f32) (harg13 : arg13.IsWhole)
    (v1 : Elt F .i32) (hv : v1 = T4 (i1 (it t))) {β : Type} (J : Prog (TpuEff nD τ sig (Elt F) Λ₀ .tc) β) (Q : β → sProp 𝕄) :
    iprop(wholeQ c fullShare.right tM1 T1 ∗ wholeQ c fullShare.right tM5 T5 ∗ wholeQ c fullShare.right tM6 T6 ∗ wholeQ c fullShare.right tM7 T7
      ∗ slotsAt c w1 w3 w2 T1 T4 T5 T6 T7 t.val ∗ (∃ W, owes (c : Thread nD τ) 0 W)
      ∗ (iprop(wholeQ c fullShare.right tM1 T1 ∗ wholeQ c fullShare.right tM5 T5 ∗ wholeQ c fullShare.right tM6 T6 ∗ wholeQ c fullShare.right tM7 T7
          ∗ slotsAt c w1 w3 w2 T1 T4 T5 T6 T7 (t.val + 1) ∗ (∃ W, owes (c : Thread nD τ) 0 W)) -∗ wp frame (wpE (defs₀ (F := F)) Variants.none c none) Set.univ (J) Q))
      ⊢ wp frame (wpE (defs₀ (F := F)) Variants.none c none) Set.univ (segPro (grid0.coords t) arg9 harg9 arg13 harg13 (segSw (grid0.coords t) arg9 harg9 arg13 harg13 v1 J)) Q := by
  have ht : t.val < 128 := (it t).isLt
  have o7 : k0_off7 (grid0.coords t) = ![(it t).val] := (k0_off7_eq _).trans (congrArg (fun n => ![n]) (coords_val t))
  have o15 : k0_off15 (grid0.coords t) = ![(it t).val] := (k0_off15_eq _).trans (congrArg (fun n => ![n]) (coords_val t))
  have a7 := wordT7 (F := F) c T7 (k0_off7 (grid0.coords t)) (k0_off7_inb _) (it t) o7
  have a6 := wordT6 (F := F) c T6 (k0_off7 (grid0.coords t)) (k0_off7_inb _) (it t) o7
  have a1 := wordT1 (F := F) c T1 (k0_off15 (grid0.coords t)) (k0_off15_inb _) (it t) o15
  by_cases h3 : k0_cond3 v1 = 1#1
  · have hb : Cert.PlanWords.bit T4 2 (it t) := by rw [cond3_iff, hv] at h3; exact h3
    have sw := sw_wp c w1 w3 w2 (grid0.coords t) arg9 harg9 arg13 harg13 v1 h3 J Q T1 T6 T7 _ _ _ a7 a1 a6 (s_lt hr _) (e_lt hr _) (n2_ok hr _)
    have post := slots_after c w1 w3 w2 hr t.val ht hb
    by_cases h1 : t.val = 0
    · have pr := pro_wp c w1 w3 w2 (grid0.coords t) arg9 harg9 arg13 harg13 ((cond1_iff t).2 h1) (segSw (grid0.coords t) arg9 harg9 arg13 harg13 v1 J) Q T1 T5 _ _
        (wordT1 (F := F) c T1 ![0] inb_S128_S1_0 0 rfl) (wordT5 (F := F) c T5 ![0] inb_S128_S1_0 0 rfl) (e_lt hr _) (n_ok hr _)
      have z : it t = 0 := Fin.ext h1
      have z7 : (T7 (i1 (it t))).toNat = 0 := by rw [z]; exact congrArg BitVec.toNat hr.head.2.2.2
      rw [← post, show (⟨t.val, ht⟩ : Fin 128) = it t from rfl]
      rw [z7] at sw ⊢
      rw [← z] at pr
      rw [h1]
      unfold slotsAt
      iintro ⟨H1, H5, H6, H7, ⟨A, B, N⟩, HO, HK⟩
      iapply pr
      isplitl [H1]; · iexact H1
      isplitl [H5]; · iexact H5
      isplitl [A]; · iexact A
      isplitl [B]; · iexact B
      isplitl [HO]; · iexact HO
      iintro ⟨H1, H5, A, B, HO⟩
      iapply sw
      isplitl [H1]; · iexact H1
      isplitl [H6]; · iexact H6
      isplitl [H7]; · iexact H7
      isplitl [A]; · iexact A
      isplitl [N]; · iexact N
      isplitl [HO]; · iexact HO
      iintro ⟨H1, H6, H7, A, N, HO⟩
      iapply HK
      isplitl [H1]; · iexact H1
      isplitl [H5]; · iexact H5
      isplitl [H6]; · iexact H6
      isplitl [H7]; · iexact H7
      isplitl [A B N]
      · isplitl [A]; · iexact A
        isplitl [B]; · iexact B
        iexact N
      iexact HO
    · obtain ⟨n, hn⟩ := Nat.exists_eq_succ_of_ne_zero h1
      have ht' : n + 1 < 128 := by omega
      have z : it t = ⟨n + 1, ht'⟩ := Fin.ext hn
      have fst := slots_first c w1 w3 w2 hr n ht' (z ▸ hb)
      rw [← z] at fst
      refine .trans ?_ (pro_skip c (grid0.coords t) arg9 harg9 arg13 harg13 (fun h => h1 ((cond1_iff t).1 h)) _ Q)
      rw [← post, show (⟨t.val, ht⟩ : Fin 128) = it t from rfl, show t.val = n + 1 from hn]
      iintro ⟨H1, H5, H6, H7, HS, HO, HK⟩
      ihave HS2 := fst $$ HS
      icases HS2 with ⟨A, B, N⟩
      iapply sw
      isplitl [H1]; · iexact H1
      isplitl [H6]; · iexact H6
      isplitl [H7]; · iexact H7
      isplitl [A]; · iexact A
      isplitl [N]; · iexact N
      isplitl [HO]; · iexact HO
      iintro ⟨H1, H6, H7, A, N, HO⟩
      iapply HK
      isplitl [H1]; · iexact H1
      isplitl [H5]; · iexact H5
      isplitl [H6]; · iexact H6
      isplitl [H7]; · iexact H7
      isplitl [A B N]
      · isplitl [A]; · iexact A
        isplitl [B]; · iexact B
        iexact N
      iexact HO
  · have hb : ¬ Cert.PlanWords.bit T4 2 (it t) := by rw [cond3_iff, hv] at h3; exact h3
    have h1 : t.val ≠ 0 := fun h => hb (by rw [show it t = 0 from Fin.ext h]; exact hr.head.2.1)
    obtain ⟨n, hn⟩ := Nat.exists_eq_succ_of_ne_zero h1
    have ht' : n + 1 < 128 := by omega
    have z : it t = ⟨n + 1, ht'⟩ := Fin.ext hn
    refine .trans ?_ (pro_skip c (grid0.coords t) arg9 harg9 arg13 harg13 (fun h => h1 ((cond1_iff t).1 h)) _ Q)
    refine .trans ?_ (sw_skip c (grid0.coords t) arg9 harg9 arg13 harg13 v1 h3 J Q)
    rw [show t.val = n + 1 from hn, slots_skip c w1 w3 w2 hr n ht' (z ▸ hb)]
    iintro ⟨H1, H5, H6, H7, HS, HO, HK⟩
    iapply HK
    isplitl [H1]; · iexact H1
    isplitl [H5]; · iexact H5
    isplitl [H6]; · iexact H6
    isplitl [H7]; · iexact H7
    isplitl [HS]; · iexact HS
    iexact HO

/-- The compute scratches taken out of the slots' state after a point, and put back. -/
theorem slots_open (n : ℕ) (h : n < 128) : slotsAt c w1 w3 w2 T1 T4 T5 T6 T7 (n + 1)
    ⊢ iprop(owns (c : Thread nD τ) b1M fullShare (mB1 c w1 (T1 (i1 ⟨n, h⟩)).toNat) ∗ owns (c : Thread nD τ) b3M fullShare (mB3 c w3 (T1 (i1 ⟨n, h⟩)).toNat)
        ∗ owns (c : Thread nD τ) b2M fullShare (mB2 c w2 (T1 (i1 ⟨n, h⟩)).toNat)
        ∗ (iprop(owns (c : Thread nD τ) b1M fullShare (mB1 c w1 (T1 (i1 ⟨n, h⟩)).toNat) ∗ owns (c : Thread nD τ) b3M fullShare (mB3 c w3 (T1 (i1 ⟨n, h⟩)).toNat)
        ∗ owns (c : Thread nD τ) b2M fullShare (mB2 c w2 (T1 (i1 ⟨n, h⟩)).toNat)) -∗ slotsAt c w1 w3 w2 T1 T4 T5 T6 T7 (n + 1))) := by
  rw [slotsAt_succ, (cur_spec hr n h).2]
  iintro ⟨A, B, N⟩
  ihave N2 := (narW_owns c w1 w3 w2 (T1 (i1 ⟨n, h⟩)).toNat) $$ N
  icases N2 with ⟨B1, B3, B2⟩
  isplitl [B1]; · iexact B1
  isplitl [B3]; · iexact B3
  isplitl [B2]; · iexact B2
  iintro HN
  isplitl [A]; · iexact A
  isplitl [B]; · iexact B
  iapply (owns_narW c w1 w3 w2 (T1 (i1 ⟨n, h⟩)).toNat)
  iexact HN

/-- The point. -/
theorem body_wp (t : Fin grid0.N) (arg9 : Memref sig .tc .vmem S256x2048 .f32) (harg9 : arg9.IsWhole) (arg13 : Memref sig .tc .vmem S256x2048 .f32) (harg13 : arg13.IsWhole)
    (X Y : S256x2048.Idx → Elt F .f32) (Q : PUnit → sProp 𝕄) :
    iprop(wholeQ c fullShare.right tM1 T1 ∗ wholeQ c fullShare.right tM2 T2 ∗ wholeQ c fullShare.right tM3 T3 ∗ wholeQ c fullShare.right tM4 T4 ∗ wholeQ c fullShare.right tM5 T5 ∗ wholeQ c fullShare.right tM6 T6 ∗ wholeQ c fullShare.right tM7 T7 ∗ slotsAt c w1 w3 w2 T1 T4 T5 T6 T7 t.val ∗ (∃ W, owes (c : Thread nD τ) 0 W)
      ∗ owns (c : Thread nD τ) arg9 fullShare X ∗ owns (c : Thread nD τ) arg13 fullShare Y
      ∗ (iprop(wholeQ c fullShare.right tM1 T1 ∗ wholeQ c fullShare.right tM2 T2 ∗ wholeQ c fullShare.right tM3 T3 ∗ wholeQ c fullShare.right tM4 T4 ∗ wholeQ c fullShare.right tM5 T5 ∗ wholeQ c fullShare.right tM6 T6 ∗ wholeQ c fullShare.right tM7 T7 ∗ slotsAt c w1 w3 w2 T1 T4 T5 T6 T7 (t.val + 1) ∗ (∃ W, owes (c : Thread nD τ) 0 W)
          ∗ owns (c : Thread nD τ) arg9 fullShare X
          ∗ owns (c : Thread nD τ) arg13 fullShare (outF c w1 w3 w2 (T4 (i1 (it t))) (T2 (i1 (it t))) (T3 (i1 (it t))) (T1 (i1 (it t))).toNat X Y)) -∗ Q ⟨⟩))
      ⊢ wp frame (wpE (defs₀ (F := F)) Variants.none c none) Set.univ (cc0_experts (F := F) (grid0.coords t) tM0 (Memref.isWhole_whole _) tM1 (Memref.isWhole_whole _) tM2 (Memref.isWhole_whole _) tM3 (Memref.isWhole_whole _) tM4 (Memref.isWhole_whole _) tM5 (Memref.isWhole_whole _) tM6 (Memref.isWhole_whole _) tM7 (Memref.isWhole_whole _) arg9 harg9 hb9 (Memref.isWhole_whole _) hb10 (Memref.isWhole_whole _) hb11 (Memref.isWhole_whole _) arg13 harg13 f1M (Memref.isWhole_whole _) f3M (Memref.isWhole_whole _) f2M (Memref.isWhole_whole _) b1M (Memref.isWhole_whole _) b3M (Memref.isWhole_whole _) b2M (Memref.isWhole_whole _) cc0_scratch6) Q := by
  have ht : t.val < 128 := (it t).isLt
  have o1 : k0_off1 (grid0.coords t) = ![(it t).val] := (k0_off1_eq _).trans (congrArg (fun n => ![n]) (coords_val t))
  have o31 : k0_off31 (grid0.coords t) = ![(it t).val] := (k0_off31_eq _).trans (congrArg (fun n => ![n]) (coords_val t))
  have a4 := wordT4 (F := F) c T4 (k0_off1 (grid0.coords t)) (k0_off1_inb _) (it t) o1
  have a2 := wordT2 (F := F) c T2 (k0_off31 (grid0.coords t)) (k0_off31_inb _) (it t) o31
  have a3 := wordT3 (F := F) c T3 (k0_off31 (grid0.coords t)) (k0_off31_inb _) (it t) o31
  rw [body_eq, wp_bind, part3_eq]
  iintro ⟨H1, H2, H3, H4, H5, H6, H7, HS, HO, HX, HY, HK⟩
  iapply (load4_wp c T4 (k0_off1 (grid0.coords t)) (k0_off1_inb _))
  isplitl [H4]; · iexact H4
  iintro H4
  rw [a4]
  iapply (moves_wp c w1 w3 w2 hr t arg9 harg9 arg13 harg13 _ rfl)
  isplitl [H1]; · iexact H1
  isplitl [H5]; · iexact H5
  isplitl [H6]; · iexact H6
  isplitl [H7]; · iexact H7
  isplitl [HS]; · iexact HS
  isplitl [HO]; · iexact HO
  iintro ⟨H1, H5, H6, H7, HS, HO⟩
  iapply (zero_wp c (grid0.coords t) arg9 harg9 arg13 harg13)
  isplitl [HY]; · iexact HY
  iintro HY
  iapply (load2_wp c T2 (k0_off31 (grid0.coords t)) (k0_off31_inb _))
  isplitl [H2]; · iexact H2
  iintro H2
  rw [a2]
  iapply (load3_wp c T3 (k0_off31 (grid0.coords t)) (k0_off31_inb _))
  isplitl [H3]; · iexact H3
  iintro H3
  rw [a3]
  ihave HS2 := (slots_open c w1 w3 w2 hr t.val ht) $$ HS
  icases HS2 with ⟨B1, B3, B2, HB⟩
  iapply (lo_wp c (grid0.coords t) arg9 harg9 arg13 harg13)
  isplitl [HX]; · iexact HX
  isplitl [HY]; · iexact HY
  isplitl [B1]; · iexact B1
  isplitl [B3]; · iexact B3
  isplitl [B2]; · iexact B2
  iintro ⟨HX, HY, B1, B3, B2⟩
  rw [wp_pure]
  imodintro
  iapply (hi_wp c (grid0.coords t) arg9 harg9 arg13 harg13)
  isplitl [HX]; · iexact HX
  isplitl [HY]; · iexact HY
  isplitl [B1]; · iexact B1
  isplitl [B3]; · iexact B3
  isplitl [B2]; · iexact B2
  iintro ⟨HX, HY, B1, B3, B2⟩
  rw [wp_pure]
  imodintro
  iapply HK
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HB B1 B3 B2]
  · iapply HB
    isplitl [B1]; · iexact B1
    isplitl [B3]; · iexact B3
    iexact B2
  isplitl [HO]; · iexact HO
  isplitl [HX]; · iexact HX
  iexact HY

end Cert.KernelIdeal.Hand
end
-- ==== Proof.Cover.lean ====
/-
  The plan in natural numbers: which rows an item covers, and that the items cover every row in order.
-/
module

public import proofs.«01_k».proof.Proof.Plan

@[expose] public section

set_option maxRecDepth 16384

namespace Cert.PlanWords

open Idealize.ShloMosaic Cert.Pre_plan

variable {T0 T1 T2 T3 T4 T5 T6 T7 : IVec S128 32} {R : IVec S16384 32} (hr : Raw T0 T1 T2 T3 T4 T5 T6 T7 R)

theorem nat_of_int {b : BitVec 32} {k : ℕ} (h0 : 0 ≤ b.toInt) (h1 : b.toInt ≤ k) : b.toNat ≤ k ∧ (b.toNat : ℤ) = b.toInt := by
  have h := BitVec.toInt_eq_toNat_cond b
  have := b.isLt
  split at h <;> omega

include hr

/-- A tile index is below 64, an expert's too. -/
theorem tile_le (w : Fin 128) : (T0 (i1 w)).toNat ≤ 63 := (nat_of_int (k := 63) (hr.ranges w).1.1.1.1.1.1.1.1.1 (hr.ranges w).1.1.1.1.1.1.1.1.2).1
theorem exp_le (w : Fin 128) : (T1 (i1 w)).toNat ≤ 63 := (nat_of_int (k := 63) (hr.ranges w).1.1.1.1.1.1.1.2 (hr.ranges w).1.1.1.1.1.1.2).1

/-- A valid item's rows: not none, inside the tile, and the tile's first exactly where the item says so. -/
theorem piece_nat (w : Fin 128) (h : bit T4 1#32 w) : (T2 (i1 w)).toNat < (T3 (i1 w)).toNat ∧ (T3 (i1 w)).toNat ≤ 256
    ∧ (bit T4 4#32 w ↔ (T2 (i1 w)).toNat = 0) := by
  obtain ⟨a, b, c, d⟩ := hr.piece w h
  have e2 := nat_of_int (k := 256) a (by omega)
  have e3 := nat_of_int (k := 256) (b := T3 (i1 w)) (by omega) c
  refine ⟨by omega, e3.1, d.trans ⟨fun h => by rw [h]; rfl, fun h => BitVec.eq_of_toNat_eq h⟩⟩

/-- Where an item's rows begin and end, without wrapping. -/
theorem pos_nat (w : Fin 128) (b : BitVec 32) (hb : b.toNat ≤ 256) : (T0 (i1 w) * 256#32 + b).toNat = 256 * (T0 (i1 w)).toNat + b.toNat := by
  have := tile_le hr w
  rw [BitVec.toNat_add, BitVec.toNat_mul, show (256#32).toNat = 256 from rfl]
  omega

/-- The first item is valid and begins at the first row. -/
theorem head_nat : bit T4 1#32 0 ∧ (T0 (i1 0)).toNat = 0 ∧ (T2 (i1 0)).toNat = 0 := by
  obtain ⟨a, -, b, -⟩ := hr.head
  obtain ⟨p1, p2, -⟩ := piece_nat hr 0 a
  have h := pos_nat hr 0 (T2 (i1 0)) (by omega)
  rw [b] at h
  have h0 : (0#32 : BitVec 32).toNat = 0 := rfl
  refine ⟨a, by omega, by omega⟩

theorem tail_nat (h : bit T4 1#32 127) : (T0 (i1 127)).toNat = 63 ∧ (T3 (i1 127)).toNat = 256 := by
  obtain ⟨p1, p2, -⟩ := piece_nat hr 127 h
  have e := pos_nat hr 127 (T3 (i1 127)) p2
  rw [hr.tail h] at e
  have h0 : (16384#32 : BitVec 32).toNat = 16384 := rfl
  have := tile_le hr 127
  omega

/-- A valid item follows a valid one and begins where that one ends. -/
theorem stepV_nat (v : Fin 127) (h : bit T4 1#32 (hi1 v)) : bit T4 1#32 (lo1 v)
    ∧ 256 * (T0 (i1 (hi1 v))).toNat + (T2 (i1 (hi1 v))).toNat = 256 * (T0 (i1 (lo1 v))).toNat + (T3 (i1 (lo1 v))).toNat := by
  obtain ⟨a, b⟩ := hr.stepV v h
  obtain ⟨p1, p2, -⟩ := piece_nat hr _ h
  obtain ⟨q1, q2, -⟩ := piece_nat hr _ a
  have e := congrArg BitVec.toNat b
  rw [pos_nat hr _ _ (by omega), pos_nat hr _ _ q2] at e
  exact ⟨a, e⟩

/-- An item that is not valid is at the last tile, and the last valid one ends at the last row. -/
theorem stepI_nat (v : Fin 127) (h : ¬bit T4 1#32 (hi1 v)) : (T0 (i1 (hi1 v))).toNat = 63
    ∧ (bit T4 1#32 (lo1 v) → (T0 (i1 (lo1 v))).toNat = 63 ∧ (T3 (i1 (lo1 v))).toNat = 256) := by
  obtain ⟨a, b⟩ := hr.stepI v h
  refine ⟨by rw [a]; rfl, fun hv => ?_⟩
  obtain ⟨q1, q2, -⟩ := piece_nat hr _ hv
  have e := pos_nat hr (lo1 v) (T3 (i1 (lo1 v))) q2
  rw [b hv] at e
  have h0 : (16384#32 : BitVec 32).toNat = 16384 := rfl
  have := tile_le hr (lo1 v)
  omega

/-- An item that is not valid is at the last tile. -/
theorem inv_tile (w : Fin 128) (h : ¬bit T4 1#32 w) : (T0 (i1 w)).toNat = 63 := by
  obtain ⟨n, hn⟩ := w
  match n, hn with
  | 0, _ => exact absurd (head_nat hr).1 h
  | n + 1, hn =>
    have e : (⟨n + 1, hn⟩ : Fin 128) = hi1 ⟨n, by omega⟩ := Fin.ext (Nat.add_comm _ _)
    rw [e] at h ⊢
    exact (stepI_nat hr _ h).1

/-- Where the tile changes the next item is valid and begins its tile, and the one before reaches its own tile's end. -/
theorem start_nat (v : Fin 127) (h : (T0 (i1 (hi1 v))).toNat ≠ (T0 (i1 (lo1 v))).toNat) :
    bit T4 1#32 (hi1 v) ∧ bit T4 4#32 (hi1 v) ∧ bit T4 1#32 (lo1 v) ∧ (T3 (i1 (lo1 v))).toNat = 256 := by
  by_cases hv : bit T4 1#32 (hi1 v)
  · obtain ⟨a, b⟩ := stepV_nat hr v hv
    obtain ⟨p1, p2, p3⟩ := piece_nat hr _ hv
    obtain ⟨q1, q2, -⟩ := piece_nat hr _ a
    exact ⟨hv, p3.2 (by omega), a, by omega⟩
  · obtain ⟨a, b⟩ := stepI_nat hr v hv
    by_cases hl : bit T4 1#32 (lo1 v)
    · exact absurd (a.trans (b hl).1.symm) h
    · exact absurd (a.trans (inv_tile hr _ hl).symm) h

/-- Where the tile stays the next valid item begins at the end of the one before. -/
theorem stay_nat (v : Fin 127) (h : (T0 (i1 (hi1 v))).toNat = (T0 (i1 (lo1 v))).toNat) (hv : bit T4 1#32 (hi1 v)) :
    bit T4 1#32 (lo1 v) ∧ (T2 (i1 (hi1 v))).toNat = (T3 (i1 (lo1 v))).toNat ∧ ¬bit T4 4#32 (hi1 v) := by
  obtain ⟨a, b⟩ := stepV_nat hr v hv
  obtain ⟨p1, p2, p3⟩ := piece_nat hr _ hv
  obtain ⟨q1, q2, -⟩ := piece_nat hr _ a
  exact ⟨a, by omega, fun h4 => by have := p3.1 h4; omega⟩

/-- The rows of a valid item are its expert's. -/
theorem rows_nat (w : Fin 128) (h : bit T4 1#32 w) (x : ℕ) (h0 : (T2 (i1 w)).toNat ≤ x) (h1 : x < (T3 (i1 w)).toNat) (r : Fin 16384)
    (e : r.val = 256 * (T0 (i1 w)).toNat + x) : R (r1 r) = T1 (i1 w) := by
  obtain ⟨p1, p2, -⟩ := piece_nat hr w h
  have a := pos_nat hr w (T2 (i1 w)) (by omega)
  have b := pos_nat hr w (T3 (i1 w)) p2
  have t := tile_le hr w
  have hR : (BitVec.ofNat 32 r.val).toNat = r.val := by rw [BitVec.toNat_ofNat]; have := r.isLt; omega
  refine hr.rows w r h ?_ ?_
  · rw [BitVec.toInt_eq_toNat_of_lt (by omega), BitVec.toInt_eq_toNat_of_lt (by omega)]; omega
  · rw [BitVec.toInt_eq_toNat_of_lt (by omega), BitVec.toInt_eq_toNat_of_lt (by omega)]; omega

end Cert.PlanWords
-- ==== Proof.Start.lean ====
/-
  What the launch hands the experts' body, and what the body hands back: the slots, the cells, the weights' read tokens.
-/
module

public import proofs.«01_k».proof.Proof.Point
public import proofs.«01_k».proof.Proof.Cover

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.PlanWords (i1)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers when the region is entered: the launch's. -/
abbrev V (c : Dev nD) (b : Ref sig .tc) : Buf (Elt F) ((c : Thread nD τ).loc b) := m ((c : Thread nD τ).loc b)

/-- The body's own cells: three to a slot. -/
abbrev osem0 : Fin 6 → SemLoc sig := fun j => (![SemLoc.dma 4, SemLoc.dma 5, SemLoc.dma 6, SemLoc.dma 7, SemLoc.dma 8, SemLoc.dma 9] : Fin 6 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cell 0 0 (by decide) (by decide))) 0 ∗ semVal ((c : Thread nD τ), SemLoc.dma (cell 0 1 (by decide) (by decide))) 0
          ∗ semVal ((c : Thread nD τ), SemLoc.dma (cell 0 2 (by decide) (by decide))) 0
          ∗ semVal ((c : Thread nD τ), SemLoc.dma (cell 1 0 (by decide) (by decide))) 0 ∗ semVal ((c : Thread nD τ), SemLoc.dma (cell 1 1 (by decide) (by decide))) 0
          ∗ semVal ((c : Thread nD τ), SemLoc.dma (cell 1 2 (by decide) (by decide))) 0) := by
  rw [Pipeline.ownSems0_eq_of_list c osem0 [0, 1, 2, 3, 4, 5] (by decide) (by decide)]; rfl

/-- The arrays the body copies from itself: the three weights. -/
def H0 : Finset (Ref sig .tc) := {main_arg9, main_arg10, main_arg11}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop(wholeQ c fullShare hb9 (V m c main_arg9) ∗ wholeQ c fullShare hb10 (V m c main_arg10) ∗ wholeQ c fullShare hb11 (V m c main_arg11)) :=
  BI.bigSep_eq_bigSepL_of_eq [main_arg9, main_arg10, main_arg11] (by decide) (by decide) _

/-! ## A staging ring is its two slots -/

theorem inbA (o : Fin 2) : ∀ a, (![o.val, 0, 0] : Fin 3 → ℕ) a + S1x2048x512.size a ≤ S2x2048x512.size a := inbSlotA o.val o.isLt
theorem inbB (o : Fin 2) : ∀ a, (![o.val, 0, 0] : Fin 3 → ℕ) a + S1x512x2048.size a ≤ S2x512x2048.size a := inbSlotB o.val o.isLt
abbrev setA (o : Fin 2) : Finset S2x2048x512.Idx := (Rect.unit (s := S2x2048x512) ![o.val, 0, 0] S1x2048x512.size (inbA o)).set
abbrev setB (o : Fin 2) : Finset S2x512x2048.Idx := (Rect.unit (s := S2x512x2048) ![o.val, 0, 0] S1x512x2048.size (inbB o)).set

theorem setA_disjoint (o o' : Fin 2) (h : o ≠ o') : Disjoint (setA o) (setA o') :=
  Ring.lead_disjoint (s := S2x2048x512) (0 : Fin 3) 1 (fun j : Fin 2 => (![j.val, 0, 0] : Fin 3 → Nat)) S1x2048x512.size inbA (fun j => by simp) rfl o o' h
theorem setA_cover : Finset.univ.biUnion setA = Finset.univ :=
  Ring.lead_cover (s := S2x2048x512) (0 : Fin 3) 1 (fun j : Fin 2 => (![j.val, 0, 0] : Fin 3 → Nat)) S1x2048x512.size inbA (fun j => by simp)
    (fun j a ha => by fin_cases a <;> first | exact absurd rfl ha | rfl) rfl (fun a ha => by fin_cases a <;> first | exact absurd rfl ha | rfl) rfl
theorem setB_disjoint (o o' : Fin 2) (h : o ≠ o') : Disjoint (setB o) (setB o') :=
  Ring.lead_disjoint (s := S2x512x2048) (0 : Fin 3) 1 (fun j : Fin 2 => (![j.val, 0, 0] : Fin 3 → Nat)) S1x512x2048.size inbB (fun j => by simp) rfl o o' h
theorem setB_cover : Finset.univ.biUnion setB = Finset.univ :=
  Ring.lead_cover (s := S2x512x2048) (0 : Fin 3) 1 (fun j : Fin 2 => (![j.val, 0, 0] : Fin 3 → Nat)) S1x512x2048.size inbB (fun j => by simp)
    (fun j a ha => by fin_cases a <;> first | exact absurd rfl ha | rfl) rfl (fun a ha => by fin_cases a <;> first | exact absurd rfl ha | rfl) rfl

section
variable (r : Ref sig .tc) (c : Dev nD)
theorem f1_set (o : Fin 2) : (slotA f1M o.val o.isLt).view.set = setA o := by
  simp only [Memref.view_squeeze, View.set_reshape]; exact View.set_slice_whole _ _
theorem f3_set (o : Fin 2) : (slotA f3M o.val o.isLt).view.set = setA o := by
  simp only [Memref.view_squeeze, View.set_reshape]; exact View.set_slice_whole _ _
theorem f2_set (o : Fin 2) : (slotB f2M o.val o.isLt).view.set = setB o := by
  simp only [Memref.view_squeeze, View.set_reshape]; exact View.set_slice_whole _ _

/-- A slot held, by its elements in the ring. -/
def p1 (o : Fin 2) (f : Buf (Elt F) ((c : Thread nD τ).loc cc0_scratch0)) : sProp 𝕄 := heldQ c fullShare (slotA f1M o.val o.isLt) f
def p3 (o : Fin 2) (f : Buf (Elt F) ((c : Thread nD τ).loc cc0_scratch1)) : sProp 𝕄 := heldQ c fullShare (slotA f3M o.val o.isLt) f
def p2 (o : Fin 2) (f : Buf (Elt F) ((c : Thread nD τ).loc cc0_scratch2)) : sProp 𝕄 := heldQ c fullShare (slotB f2M o.val o.isLt) f
theorem p1_eq (o : Fin 2) (f) : p1 (F := F) c o f = ((c : Thread nD τ).loc cc0_scratch0 ↦[setA o]{fullShare} f : sProp 𝕄) :=
  congrArg (fun s : Finset (Idx ((c : Thread nD τ).loc cc0_scratch0)) => ((c : Thread nD τ).loc cc0_scratch0 ↦[s]{fullShare} f : sProp 𝕄)) (f1_set o)
theorem p3_eq (o : Fin 2) (f) : p3 (F := F) c o f = ((c : Thread nD τ).loc cc0_scratch1 ↦[setA o]{fullShare} f : sProp 𝕄) :=
  congrArg (fun s : Finset (Idx ((c : Thread nD τ).loc cc0_scratch1)) => ((c : Thread nD τ).loc cc0_scratch1 ↦[s]{fullShare} f : sProp 𝕄)) (f3_set o)
theorem p2_eq (o : Fin 2) (f) : p2 (F := F) c o f = ((c : Thread nD τ).loc cc0_scratch2 ↦[setB o]{fullShare} f : sProp 𝕄) :=
  congrArg (fun s : Finset (Idx ((c : Thread nD τ).loc cc0_scratch2)) => ((c : Thread nD τ).loc cc0_scratch2 ↦[s]{fullShare} f : sProp 𝕄)) (f2_set o)
theorem in1 : iprop(∃ f, (c : Thread nD τ).loc cc0_scratch0 ↦{fullShare} f) ⊢ (iprop((∃ f, p1 (F := F) c 0 f) ∗ ∃ f, p1 (F := F) c 1 f) : sProp 𝕄) :=
  Ring.slots2_split (U := Pipeline.UD sig nD τ) (ℓ := (c : Thread nD τ).loc cc0_scratch0) (q := fullShare) setA setA_disjoint setA_cover _ _ (p1_eq c 0) (p1_eq c 1)
theorem in3 : iprop(∃ f, (c : Thread nD τ).loc cc0_scratch1 ↦{fullShare} f) ⊢ (iprop((∃ f, p3 (F := F) c 0 f) ∗ ∃ f, p3 (F := F) c 1 f) : sProp 𝕄) :=
  Ring.slots2_split (U := Pipeline.UD sig nD τ) (ℓ := (c : Thread nD τ).loc cc0_scratch1) (q := fullShare) setA setA_disjoint setA_cover _ _ (p3_eq c 0) (p3_eq c 1)
theorem in2 : iprop(∃ f, (c : Thread nD τ).loc cc0_scratch2 ↦{fullShare} f) ⊢ (iprop((∃ f, p2 (F := F) c 0 f) ∗ ∃ f, p2 (F := F) c 1 f) : sProp 𝕄) :=
  Ring.slots2_split (U := Pipeline.UD sig nD τ) (ℓ := (c : Thread nD τ).loc cc0_scratch2) (q := fullShare) setB setB_disjoint setB_cover _ _ (p2_eq c 0) (p2_eq c 1)
theorem out1 : (iprop((∃ f, p1 (F := F) c 0 f) ∗ ∃ f, p1 (F := F) c 1 f) : sProp 𝕄) ⊢ iprop(∃ f, (c : Thread nD τ).loc cc0_scratch0 ↦{fullShare} f) :=
  Ring.slots2_join (U := Pipeline.UD sig nD τ) (ℓ := (c : Thread nD τ).loc cc0_scratch0) (q := fullShare) setA setA_disjoint setA_cover _ _ (p1_eq c 0) (p1_eq c 1)
theorem out3 : (iprop((∃ f, p3 (F := F) c 0 f) ∗ ∃ f, p3 (F := F) c 1 f) : sProp 𝕄) ⊢ iprop(∃ f, (c : Thread nD τ).loc cc0_scratch1 ↦{fullShare} f) :=
  Ring.slots2_join (U := Pipeline.UD sig nD τ) (ℓ := (c : Thread nD τ).loc cc0_scratch1) (q := fullShare) setA setA_disjoint setA_cover _ _ (p3_eq c 0) (p3_eq c 1)
theorem out2 : (iprop((∃ f, p2 (F := F) c 0 f) ∗ ∃ f, p2 (F := F) c 1 f) : sProp 𝕄) ⊢ iprop(∃ f, (c : Thread nD τ).loc cc0_scratch2 ↦{fullShare} f) :=
  Ring.slots2_join (U := Pipeline.UD sig nD τ) (ℓ := (c : Thread nD τ).loc cc0_scratch2) (q := fullShare) setB setB_disjoint setB_cover _ _ (p2_eq c 0) (p2_eq c 1)
end

/-- A whole buffer, by its elements or whole. -/
theorem held_whole {c : Dev nD} {sp : Space} {S : Shape} {e : EltTy} (M : Memref sig .tc sp S e) (hM : M.view.set = Finset.univ) (f : BufOf (F := F) c M) :
    wholeQ c fullShare M f ⊣⊢ heldQ c fullShare M f := by
  unfold heldQ wholeQ; rw [hM]

/-- A whole array is two read tokens and the rest. -/
theorem toks_in {c : Dev nD} {sp : Space} {S : Shape} {e : EltTy} (M : Memref sig .tc sp S e) (f : BufOf (F := F) c M) :
    wholeQ c fullShare M f ⊢ iprop(wholeQ c (Transfers.shareDrop fullShare 2) M f ∗ wholeQ c (tokQ 0) M f ∗ wholeQ c (tokQ 1) M f) := by
  refine (Transfers.pointsTo_toks_range fullShare 2).1.trans (sep_mono .rfl ?_)
  rw [BI.bigSep_eq_bigSepL_of_eq [0, 1] (by decide) (by decide)]
  exact .rfl
theorem toks_out {c : Dev nD} {sp : Space} {S : Shape} {e : EltTy} (M : Memref sig .tc sp S e) (f : BufOf (F := F) c M) :
    iprop(wholeQ c (Transfers.shareDrop fullShare 2) M f ∗ wholeQ c (tokQ 0) M f ∗ wholeQ c (tokQ 1) M f) ⊢ wholeQ c fullShare M f := by
  refine .trans (sep_mono .rfl ?_) (Transfers.pointsTo_toks_range fullShare 2).2
  rw [BI.bigSep_eq_bigSepL_of_eq [0, 1] (by decide) (by decide)]
  exact .rfl

/-- What stays of the three weight arrays beside their tokens, and the random register. -/
def restQ (c : Dev nD) : sProp 𝕄 :=
  iprop((∃ r, prngReg c r) ∗ wholeQ c (Transfers.shareDrop fullShare 2) hb9 (V m c main_arg9) ∗ wholeQ c (Transfers.shareDrop fullShare 2) hb10 (V m c main_arg10)
    ∗ wholeQ c (Transfers.shareDrop fullShare 2) hb11 (V m c main_arg11))

/-- The launch's resources are both slots at rest, the compute scratches, and the rest. -/
theorem start_in (c : Dev nD) : (Pipeline.ΦD osem0 spec0 H0 (V m) c : sProp 𝕄)
    ⊢ iprop((slotW c (V m c main_arg9) (V m c main_arg10) (V m c main_arg11) 0 64 ∗ slotW c (V m c main_arg9) (V m c main_arg10) (V m c main_arg11) 1 64 ∗ anyB (F := F) c)
      ∗ restQ m c) := by
  rw [Pipeline.ΦD_eq, scopedRest0_eq, ownSems00_eq, hbmPts0_eq, slotW_idle (ho := by decide) (he := by decide), slotW_idle (ho := by decide) (he := by decide)]
  unfold idleA idleB anyB restQ
  iintro ⟨⟨S0, S1, S2, ⟨%g3, S3⟩, ⟨%g4, S4⟩, ⟨%g5, S5⟩⟩, Hg, ⟨q00, q01, q02, q10, q11, q12⟩, ⟨A9, A10, A11⟩⟩
  ihave S0 := (in1 c) $$ S0
  icases S0 with ⟨a0, a1⟩
  ihave S1 := (in3 c) $$ S1
  icases S1 with ⟨b0, b1⟩
  ihave S2 := (in2 c) $$ S2
  icases S2 with ⟨d0, d1⟩
  ihave A9 := (toks_in hb9 (V m c main_arg9)) $$ A9
  icases A9 with ⟨x9, y9, z9⟩
  ihave A10 := (toks_in hb10 (V m c main_arg10)) $$ A10
  icases A10 with ⟨x10, y10, z10⟩
  ihave A11 := (toks_in hb11 (V m c main_arg11)) $$ A11
  icases A11 with ⟨x11, y11, z11⟩
  isplitr [Hg x9 x10 x11]
  · isplitl [a0 b0 d0 q00 q01 q02 y9 y10 y11]
    · isplitl [a0 q00 y9]
      · isplitl [a0]; · iexact a0
        isplitl [q00]; · iexact q00
        iexact y9
      isplitl [b0 q01 y10]
      · isplitl [b0]; · iexact b0
        isplitl [q01]; · iexact q01
        iexact y10
      isplitl [d0]; · iexact d0
      isplitl [q02]; · iexact q02
      iexact y11
    isplitl [a1 b1 d1 q10 q11 q12 z9 z10 z11]
    · isplitl [a1 q10 z9]
      · isplitl [a1]; · iexact a1
        isplitl [q10]; · iexact q10
        iexact z9
      isplitl [b1 q11 z10]
      · isplitl [b1]; · iexact b1
        isplitl [q11]; · iexact q11
        iexact z10
      isplitl [d1]; · iexact d1
      isplitl [q12]; · iexact q12
      iexact z11
    isplitl [S3]
    · iexists g3
      iapply (held_whole b1M (View.set_whole _) g3).1
      iexact S3
    isplitl [S4]
    · iexists g4
      iapply (held_whole b3M (View.set_whole _) g4).1
      iexact S4
    iexists g5
    iapply (held_whole b2M (View.set_whole _) g5).1
    iexact S5
  isplitl [Hg]; · iexact Hg
  isplitl [x9]; · iexact x9
  isplitl [x10]; · iexact x10
  iexact x11

/-- And back. -/
theorem start_out (c : Dev nD) :
    iprop((slotW c (V m c main_arg9) (V m c main_arg10) (V m c main_arg11) 0 64 ∗ slotW c (V m c main_arg9) (V m c main_arg10) (V m c main_arg11) 1 64 ∗ anyB (F := F) c)
      ∗ restQ m c) ⊢ (Pipeline.ΦD osem0 spec0 H0 (V m) c : sProp 𝕄) := by
  rw [Pipeline.ΦD_eq, scopedRest0_eq, ownSems00_eq, hbmPts0_eq, slotW_idle (ho := by decide) (he := by decide), slotW_idle (ho := by decide) (he := by decide)]
  unfold idleA idleB anyB restQ
  iintro ⟨⟨⟨⟨a0, q00, y9⟩, ⟨b0, q01, y10⟩, ⟨d0, q02, y11⟩⟩, ⟨⟨a1, q10, z9⟩, ⟨b1, q11, z10⟩, ⟨d1, q12, z11⟩⟩, ⟨⟨%g3, S3⟩, ⟨%g4, S4⟩, ⟨%g5, S5⟩⟩⟩, Hg, x9, x10, x11⟩
  isplitl [a0 b0 d0 a1 b1 d1 S3 S4 S5]
  · isplitl [a0 a1]
    · iapply (out1 c)
      isplitl [a0]; · iexact a0
      iexact a1
    isplitl [b0 b1]
    · iapply (out3 c)
      isplitl [b0]; · iexact b0
      iexact b1
    isplitl [d0 d1]
    · iapply (out2 c)
      isplitl [d0]; · iexact d0
      iexact d1
    isplitl [S3]
    · iexists g3
      iapply (held_whole b1M (View.set_whole _) g3).2
      iexact S3
    isplitl [S4]
    · iexists g4
      iapply (held_whole b3M (View.set_whole _) g4).2
      iexact S4
    iexists g5
    iapply (held_whole b2M (View.set_whole _) g5).2
    iexact S5
  isplitl [Hg]; · iexact Hg
  isplitl [q00 q01 q02 q10 q11 q12]
  · isplitl [q00]; · iexact q00
    isplitl [q01]; · iexact q01
    isplitl [q02]; · iexact q02
    isplitl [q10]; · iexact q10
    isplitl [q11]; · iexact q11
    iexact q12
  isplitl [x9 y9 z9]
  · iapply (toks_out hb9 (V m c main_arg9))
    isplitl [x9]; · iexact x9
    isplitl [y9]; · iexact y9
    iexact z9
  isplitl [x10 y10 z10]
  · iapply (toks_out hb10 (V m c main_arg10))
    isplitl [x10]; · iexact x10
    isplitl [y10]; · iexact y10
    iexact z10
  iapply (toks_out hb11 (V m c main_arg11))
  isplitl [x11]; · iexact x11
  isplitl [y11]; · iexact y11
  iexact z11

end Cert.KernelIdeal.Hand
end
-- ==== Proof.Run.lean ====
/-
  The run of the experts kernel: the result's tile point by point, the pipeline's proof data, and the frame.
-/
module

public import proofs.«01_k».proof.Proof.Start
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.PlanWords (i1 bit hi1 lo1)

/-! ## The body's conditions, in words -/

theorem cond7_iff (v : BitVec 32) : k0_cond7 v = 1#1 ↔ v &&& 1#32 ≠ 0#32 ∧ v &&& 4#32 ≠ 0#32 := by
  unfold k0_cond7; dsimp only; rw [ne_ext]
  exact IntOp.andi_eq_one.trans (and_congr IntOp.cmpi_ne IntOp.cmpi_ne)
theorem cond8_iff (v l h : BitVec 32) : k0_cond8 v l h = 1#1 ↔ (v &&& 1#32 ≠ 0#32 ∧ l.toInt < 128) ∧ 0 < h.toInt := by
  unfold k0_cond8; dsimp only; rw [ne_ext]
  exact IntOp.andi_eq_one.trans (and_congr (IntOp.andi_eq_one.trans (and_congr IntOp.cmpi_ne IntOp.cmpi_slt)) IntOp.cmpi_sgt)
theorem cond9_iff (v l h : BitVec 32) : k0_cond9 v l h = 1#1 ↔ (v &&& 1#32 ≠ 0#32 ∧ l.toInt < 256) ∧ 128 < h.toInt := by
  unfold k0_cond9; dsimp only; rw [ne_ext]
  exact IntOp.andi_eq_one.trans (and_congr (IntOp.andi_eq_one.trans (and_congr IntOp.cmpi_ne IntOp.cmpi_slt)) IntOp.cmpi_sgt)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The tables -/

/-- The tables' contents at launch. -/
def tbl : pre0.Contents (Elt F) := fun k => V m 0 (pre0.ref k)
abbrev T0 : IVec S128 32 := V m 0 main_arg0
abbrev T1 : IVec S128 32 := V m 0 main_arg1
abbrev T2 : IVec S128 32 := V m 0 main_arg2
abbrev T3 : IVec S128 32 := V m 0 main_arg3
abbrev T4 : IVec S128 32 := V m 0 main_arg4
abbrev T5 : IVec S128 32 := V m 0 main_arg5
abbrev T6 : IVec S128 32 := V m 0 main_arg6
abbrev T7 : IVec S128 32 := V m 0 main_arg7
abbrev RW : IVec Cert.Pre_plan.S16384 32 := V m 0 main_arg12
/-- The tables are a plan of the rows. -/
abbrev IsPlan : Prop := Cert.PlanWords.Raw (T0 m) (T1 m) (T2 m) (T3 m) (T4 m) (T5 m) (T6 m) (T7 m) (RW m)

theorem dev_zero (c : Dev nD) : c = 0 := Subsingleton.elim _ _

theorem tbl_pre (c : Dev nD) (k : Fin pre0.K) : V m c (pre0.ref k) = tbl m k := by
  obtain rfl := dev_zero c; rfl

/-- The grid coordinate as an item's number. -/
abbrev wi (i : grid0.Coords) : Fin 128 := ⟨(i 0).val, (i 0).isLt⟩
theorem wi_coords (t : Fin grid0.N) : wi (grid0.coords t) = it t := Fin.ext (coords_val t)

/-- Both windows' block row is the item's tile. -/
theorem tr0_eq (pf : pre0.Contents (Elt F)) (i : grid0.Coords) :
    cc0_transform_0 k0_off1_inb numel1_S1 pf i = ![((pf 0 : IVec S128 32) (i1 (wi i))).toNat, 0] := by
  have e : (pf.at 0 (Rect.unit (s := S128) (k0_off1 i) S1.size (k0_off1_inb i)) numel1_S1 : BitVec 32) = (pf 0 : IVec S128 32) (i1 (wi i)) := by
    refine congrArg (pf 0 : IVec S128 32) (funext fun a => ?_)
    match a with
    | ⟨0, _⟩ => exact Fin.ext (by
        have h := congrFun (k0_off1_eq i) 0
        show k0_off1 i 0 + 1 * 0 = (i 0).val
        rw [h]; rfl)
  show ![(pf.at 0 (Rect.unit (s := S128) (k0_off1 i) S1.size (k0_off1_inb i)) numel1_S1 : BitVec 32).toNat, 0] = _
  rw [e]
theorem tr4_eq (pf : pre0.Contents (Elt F)) (i : grid0.Coords) :
    cc0_transform_4 k0_off1_inb numel1_S1 pf i = ![((pf 0 : IVec S128 32) (i1 (wi i))).toNat, 0] := tr0_eq pf i

theorem atD_eq (pf : pre0.Contents (Elt F)) (i : grid0.Coords) (o : Fin 1 → ℕ) (ho : o = ![(i 0).val]) (T : IVec S128 32) :
    (if h : ∀ a : Fin 1, o a + 1 ≤ S128.size a then T (fun a => ⟨o a, h a⟩) else default) = T (i1 (wi i)) := by
  subst ho
  rw [dif_pos (fun a => by match a with | ⟨0, _⟩ => exact (i 0).isLt)]
  exact congrArg T (funext fun a => by match a with | ⟨0, _⟩ => rfl)

variable (hr : IsPlan m)
include hr

theorem ok_tbl : ok0 (tbl m) := by
  have hb : ∀ i : grid0.Coords, ∀ a, (![((tbl m 0 : IVec S128 32) (i1 (wi i))).toNat, 0] a + 1) * S256x2048.size a ≤ S16384x2048.size a := fun i a => by
    have := Cert.PlanWords.tile_le hr (wi i)
    match a with
    | ⟨0, _⟩ => show ((T0 m (i1 (wi i))).toNat + 1) * 256 ≤ 16384; omega
    | ⟨1, _⟩ => show (0 + 1) * 2048 ≤ 2048; omega
  refine ⟨fun i => ⟨fun a => ?_, Or.inl rfl⟩, fun i => ⟨fun a => ?_, Or.inl rfl⟩⟩
  · rw [tr0_eq]; exact hb i a
  · rw [tr4_eq]; exact hb i a

/-- The tables, admissible. -/
def adm (_ : Fin 1) : (pcfg0 (F := F)).Adm := ⟨tbl m, ok_tbl m hr⟩
abbrev cfgA : Pipeline.Cfg sig Λ₀ := cfg0 (adm m hr 0)

theorem index0 (t : Fin grid0.N) : ((cfgA m hr).win 0).index t = ![(T0 m (i1 (it t))).toNat, 0] := by
  rw [← wi_coords t]; exact tr0_eq (tbl m) (grid0.coords t)
theorem index1 (t : Fin grid0.N) : ((cfgA m hr).win 1).index t = ![(T0 m (i1 (it t))).toNat, 0] := by
  rw [← wi_coords t]; exact tr4_eq (tbl m) (grid0.coords t)

/-- The input tile of a point. -/
def xblk (c : Dev nD) (t : Fin grid0.N) : S256x2048.Idx → Elt F .f32 := (((cfgA m hr).win 0).blk t).view.read (Elt F) (V m c main_arg8)

/-- One point's change of the result's tile. -/
def stepY (c : Dev nD) (t : Fin grid0.N) (Y : S256x2048.Idx → Elt F .f32) : S256x2048.Idx → Elt F .f32 :=
  outF c (V m c main_arg9) (V m c main_arg10) (V m c main_arg11) (T4 m (i1 (it t))) (T2 m (i1 (it t))) (T3 m (i1 (it t))) (T1 m (i1 (it t))).toNat (xblk m hr c t) Y

/-- The result's tile before point `n`. -/
def outAt (c : Dev nD) : ℕ → (S256x2048.Idx → Elt F .f32)
  | 0 => k0_pay6
  | n + 1 => if h : n < grid0.N then stepY m hr c ⟨n, h⟩ (outAt c n) else outAt c n
theorem outAt_succ (c : Dev nD) (t : Fin grid0.N) : outAt m hr c (t.val + 1) = stepY m hr c t (outAt m hr c t.val) := by
  show (if h : t.val < grid0.N then stepY m hr c ⟨t.val, h⟩ (outAt m hr c t.val) else outAt m hr c t.val) = _
  rw [dif_pos t.isLt]

/-- A point that begins a tile forgets what the buffer held. -/
theorem step_fresh (c : Dev nD) (t : Fin grid0.N) (h : k0_cond7 (T4 m (i1 (it t))) = 1#1) (Y Y' : S256x2048.Idx → Elt F .f32) :
    stepY m hr c t Y = stepY m hr c t Y' := by
  unfold stepY outF zeroF; rw [if_pos h, if_pos h]
/-- A point with no row of its own leaves the buffer. -/
theorem step_idle (c : Dev nD) (t : Fin grid0.N) (h7 : ¬k0_cond7 (T4 m (i1 (it t))) = 1#1)
    (h8 : ¬k0_cond8 (T4 m (i1 (it t))) (T2 m (i1 (it t))) (T3 m (i1 (it t))) = 1#1)
    (h9 : ¬k0_cond9 (T4 m (i1 (it t))) (T2 m (i1 (it t))) (T3 m (i1 (it t))) = 1#1) (Y : S256x2048.Idx → Elt F .f32) : stepY m hr c t Y = Y := by
  unfold stepY outF hiF loF zeroF; rw [if_neg h9, if_neg h8, if_neg h7]

/-- Every point begins a tile or stays at the tile of the point before. -/
theorem start_or (t : Fin grid0.N) : k0_cond7 (T4 m (i1 (it t))) = 1#1
    ∨ ∃ h : t.val ≠ 0, T0 m (i1 (it t)) = T0 m (i1 (it ⟨t.val - 1, Nat.lt_of_le_of_lt (Nat.sub_le _ _) t.isLt⟩)) := by
  obtain ⟨n, hn⟩ := t
  have hN : n < 128 := lt_of_lt_of_eq hn N_0
  match n, hn, hN with
  | 0, hn, _ =>
    obtain ⟨a, b, d⟩ := Cert.PlanWords.head_nat hr
    exact Or.inl ((cond7_iff _).2 ⟨a, (Cert.PlanWords.piece_nat hr 0 a).2.2.2 d⟩)
  | n + 1, hn, hN =>
    have e1 : it ⟨n + 1, hn⟩ = hi1 ⟨n, by omega⟩ := Fin.ext (Nat.add_comm _ _)
    have e0 : it ⟨n, Nat.lt_of_succ_lt hn⟩ = lo1 ⟨n, by omega⟩ := Fin.ext rfl
    by_cases h : (T0 m (i1 (hi1 ⟨n, by omega⟩))).toNat = (T0 m (i1 (lo1 ⟨n, by omega⟩))).toNat
    · refine Or.inr ⟨Nat.succ_ne_zero n, ?_⟩
      show T0 m (i1 (it ⟨n + 1, hn⟩)) = T0 m (i1 (it ⟨n, Nat.lt_of_succ_lt hn⟩))
      rw [e1, e0]; exact BitVec.eq_of_toNat_eq h
    · obtain ⟨a, b, -, -⟩ := Cert.PlanWords.start_nat hr _ h
      rw [e1]; exact Or.inl ((cond7_iff _).2 ⟨a, b⟩)

/-! ## The proof data -/

/-- Between points: the tables, the slots and the compute scratches as the plan has them, the rest. -/
def PhiS (c : Dev nD) (n : ℕ) : sProp 𝕄 :=
  iprop(Pipeline.ΦT pre0 (tbl m) c
    ∗ slotsAt c (V m c main_arg9) (V m c main_arg10) (V m c main_arg11) (T1 m) (T4 m) (T5 m) (T6 m) (T7 m) n ∗ restQ m c)

def dats (_ : Fin 1) (c : Dev nD) : Dat τ (Elt F) Unit ℕ (Pipeline.UD sig nD τ) ℕ (cfgA m hr) c where
  A w := V m c (Pipeline.arrRef spec0 w)
  after w t := match w with
    | ⟨0, _⟩ => xblk m hr c t
    | ⟨1, _⟩ => outAt m hr c (t.val + 1)
  Φ t := PhiS m c t.val
  q _ := fullShare
  owed _ := 0

theorem A_eq (c : Dev nD) (w : Fin (cfgA m hr).W) : (dats m hr 0 c).A w = V m c (Pipeline.arrRef spec0 w) := by dsimp only [dats]
theorem after0 (c : Dev nD) (t : Fin (cfgA m hr).N) : (dats m hr 0 c).after 0 t = xblk m hr c t := rfl
theorem after1 (c : Dev nD) (t : Fin (cfgA m hr).N) : (dats m hr 0 c).after 1 t = outAt m hr c (t.val + 1) := rfl

/-- The body finds the input tile of its point. -/
theorem before0 (c : Dev nD) (t : Fin (cfgA m hr).N) (d) : (dats m hr 0 c).before 0 t d = xblk m hr c t :=
  (dats m hr 0 c).before_in_eq_fetched 0 rfl (fun _ => rfl) (fun _ _ _ => rfl) (fun _ => rfl) t d

/-- Where the result's window is idle. -/
theorem idle1 (t : Fin grid0.N) : (cfgA m hr).idle 1 ((cfgA m hr).grid.coords t) = true ↔ (¬k0_cond7 (T4 m (i1 (it t))) = 1#1
    ∧ ¬k0_cond8 (T4 m (i1 (it t))) (T2 m (i1 (it t))) (T3 m (i1 (it t))) = 1#1) ∧ ¬k0_cond9 (T4 m (i1 (it t))) (T2 m (i1 (it t))) (T3 m (i1 (it t))) = 1#1 := by
  have a4 : (tbl m).atD 4 (k0_off1 (grid0.coords t)) = T4 m (i1 (it t)) := by
    rw [← wi_coords t]; exact atD_eq (tbl m) (grid0.coords t) _ (k0_off1_eq _) (T4 m)
  have a2 : (tbl m).atD 2 (k0_off31 (grid0.coords t)) = T2 m (i1 (it t)) := by
    rw [← wi_coords t]; exact atD_eq (tbl m) (grid0.coords t) _ (k0_off31_eq _) (T2 m)
  have a3 : (tbl m).atD 3 (k0_off31 (grid0.coords t)) = T3 m (i1 (it t)) := by
    rw [← wi_coords t]; exact atD_eq (tbl m) (grid0.coords t) _ (k0_off31_eq _) (T3 m)
  show (!(k0_cond7 ((tbl m).atD 4 (k0_off1 (grid0.coords t))) == 1#1)
    && !(k0_cond8 ((tbl m).atD 4 (k0_off1 (grid0.coords t))) ((tbl m).atD 2 (k0_off31 (grid0.coords t))) ((tbl m).atD 3 (k0_off31 (grid0.coords t))) == 1#1)
    && !(k0_cond9 ((tbl m).atD 4 (k0_off1 (grid0.coords t))) ((tbl m).atD 2 (k0_off31 (grid0.coords t))) ((tbl m).atD 3 (k0_off31 (grid0.coords t))) == 1#1)) = true ↔ _
  rw [a4, a2, a3]
  simp only [Bool.and_eq_true, Bool.not_eq_true', beq_eq_false_iff_ne, ne_eq]

/-- Where the tile stays nothing is written back. -/
theorem flush_stay (t : Fin grid0.N) (h0 : t.val ≠ 0) (h : T0 m (i1 (it t)) = T0 m (i1 (it ⟨t.val - 1, Nat.lt_of_le_of_lt (Nat.sub_le _ _) t.isLt⟩))) :
    ((cfgA m hr).win 1).flush ⟨t.val - 1, Nat.lt_of_le_of_lt (Nat.sub_le _ _) t.isLt⟩ = false := by
  rw [← Bool.not_eq_true]
  intro hf
  have ht : t.val < grid0.N := t.isLt
  rcases (Pipeline.Window.flush_out _ rfl _).1 hf with h1 | ⟨h1, h2⟩
  · have h1 : t.val - 1 + 1 = grid0.N := h1
    omega
  · refine h2 ?_
    have e : (⟨t.val - 1 + 1, h1⟩ : Fin grid0.N) = t := Fin.ext (Nat.succ_pred_eq_of_ne_zero h0)
    refine (index1 m hr _).trans (Eq.trans ?_ (index1 m hr _).symm)
    rw [e, h]

/-- Where the tile stays the body finds what the points before left. -/
theorem before_stay (c : Dev nD) (n : ℕ) : ∀ (t : Fin grid0.N), t.val = n → ∀ (h0 : t.val ≠ 0)
    (h : T0 m (i1 (it t)) = T0 m (i1 (it ⟨t.val - 1, Nat.lt_of_le_of_lt (Nat.sub_le _ _) t.isLt⟩))) (d),
    (dats m hr 0 c).before 1 t d = outAt m hr c t.val := by
  induction n using Nat.strong_induction_on with
  | _ n ih =>
  intro t hn h0 h d
  have hs : outAt m hr c t.val = stepY m hr c ⟨t.val - 1, Nat.lt_of_le_of_lt (Nat.sub_le _ _) t.isLt⟩ (outAt m hr c (t.val - 1)) := by
    have := outAt_succ m hr c ⟨t.val - 1, Nat.lt_of_le_of_lt (Nat.sub_le _ _) t.isLt⟩
    rwa [show (⟨t.val - 1, Nat.lt_of_le_of_lt (Nat.sub_le _ _) t.isLt⟩ : Fin grid0.N).val + 1 = t.val from Nat.succ_pred_eq_of_ne_zero h0] at this
  rw [(dats m hr 0 c).before_of_pos 1 t h0 (Pipeline.Window.fetch_out _ rfl t) d]
  have hf := flush_stay m hr t h0 h
  rw [if_neg (by rw [hf]; exact Bool.false_ne_true)]
  unfold Dat.left
  cases hi : (cfgA m hr).idle 1 ((cfgA m hr).grid.coords ⟨t.val - 1, Nat.lt_of_le_of_lt (Nat.sub_le _ _) t.isLt⟩) with
  | true =>
    obtain ⟨⟨i7, i8⟩, i9⟩ := (idle1 m hr _).1 hi
    rcases start_or m hr ⟨t.val - 1, Nat.lt_of_le_of_lt (Nat.sub_le _ _) t.isLt⟩ with h7 | ⟨g0, g⟩
    · exact absurd h7 i7
    · rw [hs, step_idle m hr c _ i7 i8 i9]
      have h0' : t.val - 1 ≠ 0 := g0
      exact ih (t.val - 1) (by omega) _ rfl g0 g d
  | false =>
    show (dats m hr 0 c).after 1 _ = _
    rw [after1]
    rw [show (⟨t.val - 1, Nat.lt_of_le_of_lt (Nat.sub_le _ _) t.isLt⟩ : Fin grid0.N).val + 1 = t.val from Nat.succ_pred_eq_of_ne_zero h0]

/-- The point's step from what the body finds is the tile after the point. -/
theorem out_eq (c : Dev nD) (t : Fin grid0.N) (d) : stepY m hr c t ((dats m hr 0 c).before 1 t d) = outAt m hr c (t.val + 1) := by
  rw [outAt_succ]
  rcases start_or m hr t with h | ⟨h0, h⟩
  · exact step_fresh m hr c t h _ _
  · rw [before_stay m hr c t.val t rfl h0 h d]

/-! ## The body obligation -/

omit hr in
theorem PhiT0_eq (c : Dev nD) : (Pipeline.ΦT (U := Pipeline.UD sig nD τ) pre0 (tbl m) c : sProp 𝕄)
    = iprop(wholeQ c fullShare.right tM0 (T0 m) ∗ wholeQ c fullShare.right tM1 (T1 m) ∗ wholeQ c fullShare.right tM2 (T2 m) ∗ wholeQ c fullShare.right tM3 (T3 m)
      ∗ wholeQ c fullShare.right tM4 (T4 m) ∗ wholeQ c fullShare.right tM5 (T5 m) ∗ wholeQ c fullShare.right tM6 (T6 m) ∗ wholeQ c fullShare.right tM7 (T7 m)) :=
  bigSep_univ_eq_bigSepL [(0 : Fin 8), 1, 2, 3, 4, 5, 6, 7] (by decide) (by decide) _

abbrev st0 (t : Fin (cfgA m hr).N) : Memref sig .tc .vmem S256x2048 .f32 := ((cfgA m hr).win 0).stage ((cfgA m hr).slots t 0)
abbrev st1 (t : Fin (cfgA m hr).N) : Memref sig .tc .vmem S256x2048 .f32 := ((cfgA m hr).win 1).stage ((cfgA m hr).slots t 1)

def bodyPre (c : Dev nD) (t : Fin (cfgA m hr).N) : sProp 𝕄 :=
  iprop((dats m hr 0 c).Φ t.castSucc ∗ (dats m hr 0 c).owesAt () t.castSucc
    ∗ (∃ d, owns (c : Thread nD τ) (st0 m hr t) fullShare ((dats m hr 0 c).before 0 t d))
    ∗ (∃ d, owns (c : Thread nD τ) (st1 m hr t) fullShare ((dats m hr 0 c).before 1 t d)))
def bodyPost (c : Dev nD) (t : Fin (cfgA m hr).N) : sProp 𝕄 :=
  iprop((dats m hr 0 c).Φ t.succ ∗ (dats m hr 0 c).owesAt () t.succ
    ∗ owns (c : Thread nD τ) (st0 m hr t) fullShare ((dats m hr 0 c).after 0 t)
    ∗ (dats m hr 0 c).leavesExact 1 t)

/-- What the body leaves in the result's buffer is what the proof data says. -/
theorem leaves1 (c : Dev nD) (t : Fin (cfgA m hr).N) (d) :
    owns (c : Thread nD τ) (st1 m hr t) fullShare (stepY m hr c t ((dats m hr 0 c).before 1 t d)) ⊢ ((dats m hr 0 c).leavesExact 1 t : sProp 𝕄) := by
  unfold Dat.leavesExact
  cases hi : (cfgA m hr).idle 1 ((cfgA m hr).grid.coords t) with
  | false => rw [out_eq, after1]; exact .rfl
  | true =>
    cases hf : ((cfgA m hr).win 1).flush t with
    | true => rw [out_eq, after1]; exact .rfl
    | false =>
      obtain ⟨⟨i7, i8⟩, i9⟩ := (idle1 m hr t).1 hi
      have e : ∀ Y Y' : S256x2048.Idx → Elt F .f32, Y = Y' → (owns (c : Thread nD τ) (st1 m hr t) fullShare Y ⊢ (owns (c : Thread nD τ) (st1 m hr t) fullShare Y' : sProp 𝕄)) :=
        fun _ _ h => h ▸ .rfl
      refine (e _ _ (step_idle m hr c t i7 i8 i9 _)).trans ?_
      dsimp only
      iintro H
      iexists d
      iexact H

/-- The body at a point. -/
abbrev bodyAt (t : Fin (cfgA m hr).N) : Prog (TpuEff nD τ sig (Elt F) Λ₀ .tc) PUnit :=
  defs₀ (F := F) .tc (cfgA m hr).body ((cfgA m hr).bodyArgs t ((cfgA m hr).slots t))
theorem bodyAt_eq (t : Fin (cfgA m hr).N) : ∃ h0 h1, bodyAt m hr t = cc0_experts (F := F) (grid0.coords t) tM0 (Memref.isWhole_whole _) tM1 (Memref.isWhole_whole _) tM2 (Memref.isWhole_whole _) tM3 (Memref.isWhole_whole _)
    tM4 (Memref.isWhole_whole _) tM5 (Memref.isWhole_whole _) tM6 (Memref.isWhole_whole _) tM7 (Memref.isWhole_whole _) (st0 m hr t) h0 hb9 (Memref.isWhole_whole _) hb10 (Memref.isWhole_whole _) hb11 (Memref.isWhole_whole _)
    (st1 m hr t) h1 f1M (Memref.isWhole_whole _) f3M (Memref.isWhole_whole _) f2M (Memref.isWhole_whole _) b1M (Memref.isWhole_whole _) b3M (Memref.isWhole_whole _) b2M (Memref.isWhole_whole _) cc0_scratch6 := by
  refine ⟨?_, ?_, ?_⟩
  rotate_left 2
  · unfold bodyAt defs₀; rw [Defs.onTc_tc]; rfl

theorem sound_body (c : Dev nD) (t : Fin (cfgA m hr).N) :
    bodyPre m hr c t ⊢ wp frame (wpE (defs₀ (F := F)) Variants.none c none) Set.univ (bodyAt m hr t) (fun _ => bodyPost m hr c t) := by
  obtain ⟨h0, h1, e⟩ := bodyAt_eq m hr t
  rw [e]
  unfold bodyPre bodyPost
  rw [show (dats m hr 0 c).Φ t.castSucc = PhiS m c t.val from rfl, show (dats m hr 0 c).Φ t.succ = PhiS m c (t.val + 1) from rfl]
  unfold Dat.owesAt Pipeline.owesWithin PhiS
  rw [show (dats m hr 0 c).owed t.castSucc = 0 from rfl, show (dats m hr 0 c).owed t.succ = 0 from rfl, PhiT0_eq]
  iintro ⟨⟨⟨K0, K1, K2, K3, K4, K5, K6, K7⟩, HS, HR⟩, ⟨%W, -, HW⟩, ⟨%d0, HX⟩, ⟨%d1, HY⟩⟩
  rw [before0]
  iapply (body_wp c (V m c main_arg9) (V m c main_arg10) (V m c main_arg11) hr t (st0 m hr t) h0 (st1 m hr t) h1)
  isplitl [K1]; · iexact K1
  isplitl [K2]; · iexact K2
  isplitl [K3]; · iexact K3
  isplitl [K4]; · iexact K4
  isplitl [K5]; · iexact K5
  isplitl [K6]; · iexact K6
  isplitl [K7]; · iexact K7
  isplitl [HS]; · iexact HS
  isplitl [HW]; · iexists W; iexact HW
  isplitl [HX]; · iexact HX
  isplitl [HY]; · iexact HY
  iintro ⟨K1, K2, K3, K4, K5, K6, K7, HS, ⟨%W', HW⟩, HX, HY⟩
  isplitr [HW HX HY]
  · isplitr [HS HR]
    · isplitl [K0]; · iexact K0
      isplitl [K1]; · iexact K1
      isplitl [K2]; · iexact K2
      isplitl [K3]; · iexact K3
      isplitl [K4]; · iexact K4
      isplitl [K5]; · iexact K5
      isplitl [K6]; · iexact K6
      iexact K7
    isplitl [HS]; · iexact HS
    iexact HR
  isplitl [HW]
  · iexists W'
    isplitr; · ipureintro; exact fun _ _ => Or.inl trivial
    iexact HW
  isplitl [HX]; · iexact HX
  iapply (leaves1 m hr c t d1)
  iexact HY

theorem body_obligation (c : Dev nD) : BodyObligation (dats m hr 0 c) (defs₀ (F := F)) Variants.none () Set.univ := fun t => by
  rw [bigSep_W0, bigSep_W0]
  exact triple_restated (sound_body m hr c t) rfl .rfl fun _ => .rfl

/-! ## The run and the frame -/

abbrev admA : (p : Fin 1) → (pcfgs (F := F) p).Adm := fun _ => adm m hr 0

set_option backward.isDefEq.respectTransparency.types false in
theorem run_main : θ_run defs (onTc (τ := τ) (main (F := F))) (s₀ m ρ)
    (fun r => Pipeline.FramePost (Pipeline.pin pcfgs (admA m hr)) (dats m hr) 0 (V m) r ∧ r.2.sem = fun _ => 0) :=
  Pipeline.θ_run_frameP_dma (Q' := _) pcfgs (admA m hr) (dats m hr) (0 : Fin 1) launch0 osem0 defs₀ Variants.none ownSemFacts0 H0 H0_sub m ρ main
    (hbody := fun c => (body_obligation m hr c).loose) (hshare := fun c => (dats m hr 0 c).share_full fun _ => rfl)
    (howed := fun _ _ => rfl) (V := V m)
    (hmain := Pipeline.hmainP_region pcfgs 0 defs₀ Variants.none m main fun c => (main_chain c).trans rfl) (hA := A_eq m hr)
    (hpf := fun c k => tbl_pre m c k)
    (hin := fun c => by
      show _ ⊢ PhiS m c 0
      unfold PhiS
      iintro ⟨HD, HT⟩
      isplitl [HT]; · iexact HT
      iapply (start_in m c)
      iexact HD)
    (hout := fun c => by
      show PhiS m c (127 + 1) ⊢ _
      unfold PhiS
      iintro ⟨-, HS, HR⟩
      iapply (start_out m c)
      isplitl [HS]
      · iapply (slots_last c (V m c main_arg9) (V m c main_arg10) (V m c main_arg11) hr 127 rfl)
        iexact HS
      iexact HR)

/-- The frame at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => by
    have g : ∀ b : Ref sig .tc, b ∈ Pipeline.restRefs sig spec0 → r.2.mem ((c.tc : Thread nD τ).loc b) = m ((c.tc : Thread nD τ).loc b) := fun b hb => (h.1 c).2 b hb
    exact ⟨g main_arg0 (by decide), g main_arg1 (by decide), g main_arg2 (by decide), g main_arg3 (by decide), g main_arg4 (by decide), g main_arg5 (by decide),
      g main_arg6 (by decide), g main_arg7 (by decide), ((h.1 c).1 0).trans ((dats m hr 0 c).arrAt_in 0 rfl _), g main_arg9 (by decide), g main_arg10 (by decide), g main_arg11 (by decide), g main_arg12 (by decide)⟩, h.2⟩)
    (run_main m ρ hr)

end Cert.KernelIdeal.Hand
end
-- ==== Proof.Same.lean ====
/- The kernel and its reading over the extended reals have one text: each piece of the one is the same piece of the other,
   so a run of the one is a run of the other. -/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Same

open Idealize.ShloMosaic Idealize.SL.Sem

attribute [local instance] Cert.Kernel.Gen.facts Cert.KernelIdeal.Gen.facts

variable {F : FTy → Type} [FloatOps F]

set_option maxHeartbeats 1000000 in
theorem part1_eq : Cert.Kernel.k0_part1 (F := F) = Cert.KernelIdeal.k0_part1 (F := F) := rfl
set_option maxHeartbeats 1000000 in
theorem part2_eq : Cert.Kernel.k0_part2 (F := F) = Cert.KernelIdeal.k0_part2 (F := F) := rfl
set_option maxHeartbeats 1000000 in
theorem part3_eq : Cert.Kernel.k0_part3 (F := F) = Cert.KernelIdeal.k0_part3 (F := F) := rfl

set_option maxHeartbeats 1000000 in
/-- The two kernel functions. -/
theorem body_eq : Cert.Kernel.cc0_experts (F := F) = Cert.KernelIdeal.cc0_experts (F := F) := by
  unfold Cert.Kernel.cc0_experts Cert.KernelIdeal.cc0_experts
  rfl

set_option maxHeartbeats 1000000 in
/-- The two mains. -/
theorem main_eq : Cert.Kernel.main (F := F) = Cert.KernelIdeal.main (F := F) := rfl

set_option maxHeartbeats 1000000 in
/-- The two tables of kernel bodies. -/
theorem defs₀_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) =>
    show Cert.Kernel.cc0_experts (F := F) _ _ _ _ _ _ _ _ _ _ _ _ _ _ _ _ _ _ _ _ _ _ _ _ _ _ _ _ _ _ _ _ _ _ _ _ _ _ _ _ = _
    rw [body_eq]
    rfl

set_option maxHeartbeats 1000000 in
/-- The two body tables. -/
theorem defs_eq : Cert.Kernel.defs (F := F) = Cert.KernelIdeal.defs (F := F) := by
  unfold Cert.Kernel.defs Cert.KernelIdeal.defs
  rw [defs₀_eq]
  rfl

set_option maxHeartbeats 1000000 in
/-- A run of the one program is a run of the other. -/
theorem run_same (s : MemSt Cert.KernelIdeal.nD Cert.KernelIdeal.τ Cert.KernelIdeal.sig (Elt F))
    (P : (PUnit × MemSt Cert.KernelIdeal.nD Cert.KernelIdeal.τ Cert.KernelIdeal.sig (Elt F)) → Prop)
    (h : θ_run (Cert.KernelIdeal.defs (F := F)) (onTc (τ := Cert.KernelIdeal.τ) (Cert.KernelIdeal.main (F := F))) s P) :
    θ_run (Cert.Kernel.defs (F := F)) (onTc (τ := Cert.Kernel.τ) (Cert.Kernel.main (F := F))) s P := by
  rw [defs_eq, main_eq]
  exact h

end Cert.Same

end
-- ==== Proof.ValTile.lean ====
/- What one item's two stores put into a tile, over the extended reals: row by row, the expert's SwiGLU of the row where
   the item owns the row, and what the tile held elsewhere. -/
module

public import proofs.«01_k».proof.Proof.Run
public import Idealize.ShloMosaic.Lib.Pointwise

@[expose] public section

set_option maxRecDepth 16384

noncomputable section

namespace Cert.KernelIdeal.Hand

open Cert.KernelIdeal Cert.KernelIdeal.Gen
open Idealize.ShloMosaic
open Cert.PlanWords

/-- The gated two-layer map of one row: `silu (x W1) * (x W3)`, then `W2`. -/
def ffn (x : Fin 2048 → EReal) (W1 W3 : Fin 2048 → Fin 512 → EReal) (W2 : Fin 512 → Fin 2048 → EReal) (j : Fin 2048) : EReal :=
  ∑ f : Fin 512, (∑ d, x d * W1 d f) * Ideal.logistic (∑ d, x d * W1 d f) * (∑ d, x d * W3 d f) * W2 f j

/-- The mask word of row `n`: the item owns the row. -/
theorem mask_iff (w l h : BitVec 32) (n : ℕ) (hw : w.toInt = n) :
    IntOp.andi (IntOp.cmpi .sge w l) (IntOp.cmpi .slt w h) = 1#1 ↔ l.toInt ≤ n ∧ (n : ℤ) < h.toInt := by
  rw [IntOp.andi_eq_one, IntOp.cmpi_sge, IntOp.cmpi_slt, hw]

theorem row_word (k n : ℕ) (hn : k + n < 256) : (IntOp.addi (BitVec.ofNat 32 k) (BitVec.ofNat 32 n)).toInt = ((k + n : ℕ) : ℤ) := by
  unfold IntOp.addi
  rw [← BitVec.ofNat_add, BitVec.toInt_eq_toNat_of_lt (by rw [BitVec.toNat_ofNat]; omega), BitVec.toNat_ofNat, Nat.mod_eq_of_lt (by omega)]

theorem pay7_at (l h : BitVec 32) (X Y : Vec Ideal S128x2048 .f32) (B1 B3 : Vec Ideal S2048x512 .bf16) (B2 : Vec Ideal S512x2048 .bf16)
    (x : Fin 128) (j : Fin 2048) :
    k0_pay7 (F := Ideal) l h X B1 B3 B2 Y (ix2 x j)
      = if l.toInt ≤ x.val ∧ (x.val : ℤ) < h.toInt then
          ffn (fun d => X (ix2 x d)) (fun d f => B1 (ix2 d f)) (fun d f => B3 (ix2 d f)) (fun f j => B2 (ix2 f j)) j
        else Y (ix2 x j) := by
  have e := mask_iff _ l h _ (row_word 0 x.val (by omega))
  rw [Nat.zero_add] at e
  unfold ffn
  pointwise [k0_pay7]
  unfold Scalar.select
  exact if_congr e rfl rfl

theorem pay1_at (l h : BitVec 32) (X Y : Vec Ideal S128x2048 .f32) (B1 B3 : Vec Ideal S2048x512 .bf16) (B2 : Vec Ideal S512x2048 .bf16)
    (x : Fin 128) (j : Fin 2048) :
    k0_pay1 (F := Ideal) l h X B1 B3 B2 Y (ix2 x j)
      = if l.toInt ≤ ((128 + x.val : ℕ) : ℤ) ∧ ((128 + x.val : ℕ) : ℤ) < h.toInt then
          ffn (fun d => X (ix2 x d)) (fun d f => B1 (ix2 d f)) (fun d f => B3 (ix2 d f)) (fun f j => B2 (ix2 f j)) j
        else Y (ix2 x j) := by
  have e := mask_iff _ l h _ (row_word 128 x.val (by omega))
  unfold ffn
  pointwise [k0_pay1]
  unfold Scalar.select
  exact if_congr e rfl rfl

theorem lo_mem (x : Fin 256) (j : Fin 2048) : (ix2 x j : S256x2048.Idx) ∈ rLo.set ↔ x.val < 128 := by
  rw [Rect.mem_set_unit]
  constructor
  · intro h
    have := (h 0).2
    exact this
  · intro h a
    match a with
    | ⟨0, _⟩ => exact ⟨Nat.zero_le _, h⟩
    | ⟨1, _⟩ => exact ⟨Nat.zero_le _, j.isLt⟩

theorem hi_mem (x : Fin 256) (j : Fin 2048) : (ix2 x j : S256x2048.Idx) ∈ rHi.set ↔ 128 ≤ x.val := by
  rw [Rect.mem_set_unit]
  constructor
  · intro h
    exact (h 0).1
  · intro h a
    match a with
    | ⟨0, _⟩ => exact ⟨h, x.isLt⟩
    | ⟨1, _⟩ => exact ⟨Nat.zero_le _, j.isLt⟩

theorem lo_emb (x : Fin 128) (j : Fin 2048) : rLo.emb (ix2 x j) = (ix2 ⟨x.val, by omega⟩ j : S256x2048.Idx) := by
  funext a
  match a with
  | ⟨0, _⟩ => exact Fin.ext ((Nat.zero_add _).trans (Nat.one_mul _))
  | ⟨1, _⟩ => exact Fin.ext ((Nat.zero_add _).trans (Nat.one_mul _))

theorem hi_emb (x : Fin 128) (j : Fin 2048) : rHi.emb (ix2 x j) = (ix2 ⟨128 + x.val, by omega⟩ j : S256x2048.Idx) := by
  funext a
  match a with
  | ⟨0, _⟩ => exact Fin.ext (congrArg (128 + ·) (Nat.one_mul x.val))
  | ⟨1, _⟩ => exact Fin.ext ((Nat.zero_add _).trans (Nat.one_mul _))

end Cert.KernelIdeal.Hand

end
-- ==== Proof.ValStep.lean ====
/- One item's step on the tile, at one element: the expert's SwiGLU of the row where the item owns the row, and
   what the tile held before elsewhere. -/
module

public import proofs.«01_k».proof.Proof.ValTile

@[expose] public section

set_option maxRecDepth 16384

noncomputable section

namespace Cert.KernelIdeal.Hand

open Cert.KernelIdeal Cert.KernelIdeal.Gen
open Idealize.ShloMosaic
open Cert.PlanWords

/-- The gated map of the tile's row `x` through three whole matrices. -/
def tileFfn (X : S256x2048.Idx → EReal) (B1 B3 : S2048x512.Idx → EReal) (B2 : S512x2048.Idx → EReal) (x : Fin 256) (j : Fin 2048) : EReal :=
  ffn (fun d => X (ix2 x d)) (fun d f => B1 (ix2 d f)) (fun d f => B3 (ix2 d f)) (fun f j => B2 (ix2 f j)) j

variable (v l h : BitVec 32) (X : S256x2048.Idx → Elt Ideal .f32) (B1 B3 : S2048x512.Idx → Elt Ideal .bf16) (B2 : S512x2048.Idx → Elt Ideal .bf16)
  (Y : S256x2048.Idx → Elt Ideal .f32) (x : Fin 256) (j : Fin 2048)

theorem loF_low (hx : x.val < 128) : loF (F := Ideal) v l h X B1 B3 B2 Y (ix2 x j)
    = if v &&& 1#32 ≠ 0#32 ∧ l.toInt ≤ x.val ∧ (x.val : ℤ) < h.toInt then tileFfn X B1 B3 B2 x j else Y (ix2 x j) := by
  unfold loF
  have e := lo_emb ⟨x.val, hx⟩ j
  by_cases hc : k0_cond8 v l h = 1#1
  · rw [if_pos hc]
    rw [← e, Rect.overlay_emb, pay7_at]
    obtain ⟨⟨a, b⟩, d⟩ := (cond8_iff v l h).1 hc
    refine if_congr (by simp only [a, ne_eq, not_false_eq_true, true_and]) ?_ rfl
    show ffn (fun d => X (rLo.emb (ix2 ⟨x.val, hx⟩ d))) _ _ _ j = _
    simp only [lo_emb]
    rfl
  · rw [if_neg hc, if_neg fun ⟨a, b, d⟩ => hc ((cond8_iff v l h).2 ⟨⟨a, by omega⟩, by omega⟩)]

theorem loF_high (hx : 128 ≤ x.val) : loF (F := Ideal) v l h X B1 B3 B2 Y (ix2 x j) = Y (ix2 x j) := by
  unfold loF
  split
  · exact Rect.overlay_of_not_mem _ _ _ (by rw [lo_mem]; omega)
  · rfl

theorem hiF_high (hx : 128 ≤ x.val) : hiF (F := Ideal) v l h X B1 B3 B2 Y (ix2 x j)
    = if v &&& 1#32 ≠ 0#32 ∧ l.toInt ≤ x.val ∧ (x.val : ℤ) < h.toInt then tileFfn X B1 B3 B2 x j else Y (ix2 x j) := by
  unfold hiF
  have hx2 := x.isLt
  have e : rHi.emb (ix2 ⟨x.val - 128, by omega⟩ j) = (ix2 x j : S256x2048.Idx) := by
    rw [hi_emb]; congr 1; exact Fin.ext (by show 128 + (x.val - 128) = _; omega)
  have e2 : ((128 + (x.val - 128) : ℕ) : ℤ) = x.val := by omega
  by_cases hc : k0_cond9 v l h = 1#1
  · rw [if_pos hc]
    rw [← e, Rect.overlay_emb, pay1_at, e]
    obtain ⟨⟨a, b⟩, d⟩ := (cond9_iff v l h).1 hc
    refine if_congr (by rw [e2]; simp only [a, ne_eq, not_false_eq_true, true_and]) ?_ (congrArg Y e)
    show ffn (fun d => X (rHi.emb (ix2 ⟨x.val - 128, by omega⟩ d))) _ _ _ j = _
    have e3 : ∀ d : Fin 2048, rHi.emb (ix2 ⟨x.val - 128, by omega⟩ d) = (ix2 x d : S256x2048.Idx) := fun d => by
      rw [hi_emb]; congr 1; exact Fin.ext (by show 128 + (x.val - 128) = _; omega)
    simp only [e3]
    rfl
  · rw [if_neg hc, if_neg fun ⟨a, b, d⟩ => hc ((cond9_iff v l h).2 ⟨⟨a, by omega⟩, by omega⟩)]

theorem hiF_low (hx : x.val < 128) : hiF (F := Ideal) v l h X B1 B3 B2 Y (ix2 x j) = Y (ix2 x j) := by
  unfold hiF
  split
  · exact Rect.overlay_of_not_mem _ _ _ (by rw [hi_mem]; omega)
  · rfl

/-- Both halves: an item writes exactly the rows it owns. -/
theorem halves_at : hiF (F := Ideal) v l h X B1 B3 B2 (loF (F := Ideal) v l h X B1 B3 B2 Y) (ix2 x j)
    = if v &&& 1#32 ≠ 0#32 ∧ l.toInt ≤ x.val ∧ (x.val : ℤ) < h.toInt then tileFfn X B1 B3 B2 x j else Y (ix2 x j) := by
  by_cases hx : x.val < 128
  · rw [hiF_low _ _ _ _ _ _ _ _ _ _ hx, loF_low _ _ _ _ _ _ _ _ _ _ hx]
  · rw [hiF_high _ _ _ _ _ _ _ _ _ _ (by omega), loF_high _ _ _ _ _ _ _ _ _ _ (by omega)]

theorem zeroF_keep (hv : ¬k0_cond7 v = 1#1) : zeroF (F := Ideal) v Y = Y := if_neg hv

end Cert.KernelIdeal.Hand

end
-- ==== Proof.ValInv.lean ====
/- The tile after each item, over the extended reals: the rows the items of the tile have covered so far hold the
   expert's SwiGLU of their rows. -/
module

public import proofs.«01_k».proof.Proof.ValStep
public import Idealize.ShloMosaic.Lib.ValueLayout

@[expose] public section

set_option maxRecDepth 16384

noncomputable section

namespace Cert.KernelIdeal.Hand

open Cert.KernelIdeal Cert.KernelIdeal.Gen
open Idealize.ShloMosaic
open Cert.PlanWords

/-! ## What the blocks read -/

theorem expA_at (M : Memref sig .tc .hbm S64x2048x512 .f32) (e : ℕ) (he : e < 64) (w : M.view.ty.Contents (Elt Ideal)) (d : Fin 2048) (f : Fin 512) :
    (expA M e he).view.read (Elt Ideal) w (ix2 d f) = M.view.read (Elt Ideal) w (ix3 (⟨e, he⟩ : Fin 64) d f) := by
  show M.view.read (Elt Ideal) w ((Rect.unit (s := S64x2048x512) ![e, 0, 0] S1x2048x512.size (inbExpA e he)).emb (Shape.reshapeEquiv _ (ix2 d f))) = _
  refine congrArg (M.view.read (Elt Ideal) w) ?_
  rw [Shape.reshapeEquiv_eq_of_rowMajor _ (y := (ix3 (0 : Fin 1) d f : S1x2048x512.Idx)) (by
    rw [Shape.rowMajor_val_three, Shape.rowMajor_val_two]
    show (0 * 2048 + d.val) * 512 + f.val = d.val * 512 + f.val
    rw [Nat.zero_mul, Nat.zero_add])]
  funext a
  match a with
  | ⟨0, _⟩ => exact Fin.ext rfl
  | ⟨1, _⟩ => exact Fin.ext ((Nat.zero_add _).trans (Nat.one_mul _))
  | ⟨2, _⟩ => exact Fin.ext ((Nat.zero_add _).trans (Nat.one_mul _))

theorem expB_at (M : Memref sig .tc .hbm S64x512x2048 .f32) (e : ℕ) (he : e < 64) (w : M.view.ty.Contents (Elt Ideal)) (f : Fin 512) (d : Fin 2048) :
    (expB M e he).view.read (Elt Ideal) w (ix2 f d) = M.view.read (Elt Ideal) w (ix3 (⟨e, he⟩ : Fin 64) f d) := by
  show M.view.read (Elt Ideal) w ((Rect.unit (s := S64x512x2048) ![e, 0, 0] S1x512x2048.size (inbExpB e he)).emb (Shape.reshapeEquiv _ (ix2 f d))) = _
  refine congrArg (M.view.read (Elt Ideal) w) ?_
  rw [Shape.reshapeEquiv_eq_of_rowMajor _ (y := (ix3 (0 : Fin 1) f d : S1x512x2048.Idx)) (by
    rw [Shape.rowMajor_val_three, Shape.rowMajor_val_two]
    show (0 * 512 + f.val) * 2048 + d.val = f.val * 2048 + d.val
    rw [Nat.zero_mul, Nat.zero_add])]
  funext a
  match a with
  | ⟨0, _⟩ => exact Fin.ext rfl
  | ⟨1, _⟩ => exact Fin.ext ((Nat.zero_add _).trans (Nat.one_mul _))
  | ⟨2, _⟩ => exact Fin.ext ((Nat.zero_add _).trans (Nat.one_mul _))

/-- The number of an expert's word. -/
def eF (v : ℕ) : Fin 64 := ⟨v % 64, Nat.mod_lt _ (by decide)⟩

variable (c : Dev nD)

theorem mB1_at (w : S64x2048x512.Idx → Elt Ideal .f32) (e : ℕ) (d : Fin 2048) (f : Fin 512) : mB1 (F := Ideal) c w e (ix2 d f) = w (ix3 (eF e) d f) := by
  unfold mB1
  show (expA hb9 (e % 64) (Nat.mod_lt _ (by decide))).view.read (Elt Ideal) w (ix2 d f) = _
  rw [expA_at]
  rfl
theorem mB3_at (w : S64x2048x512.Idx → Elt Ideal .f32) (e : ℕ) (d : Fin 2048) (f : Fin 512) : mB3 (F := Ideal) c w e (ix2 d f) = w (ix3 (eF e) d f) := by
  unfold mB3
  show (expA hb10 (e % 64) (Nat.mod_lt _ (by decide))).view.read (Elt Ideal) w (ix2 d f) = _
  rw [expA_at]
  rfl
theorem mB2_at (w : S64x512x2048.Idx → Elt Ideal .f32) (e : ℕ) (f : Fin 512) (d : Fin 2048) : mB2 (F := Ideal) c w e (ix2 f d) = w (ix3 (eF e) f d) := by
  unfold mB2
  show (expB hb11 (e % 64) (Nat.mod_lt _ (by decide))).view.read (Elt Ideal) w (ix2 f d) = _
  rw [expB_at]
  rfl

/-- The routed experts' result: each row's own expert, its SwiGLU of the row. -/
def experts (R : IVec S16384 32) (xs : S16384x2048.Idx → EReal) (w1 w3 : S64x2048x512.Idx → EReal) (w2 : S64x512x2048.Idx → EReal) :
    S16384x2048.Idx → EReal := fun i =>
  ffn (fun d => xs (ix2 (i 0 : Fin 16384) d)) (fun d f => w1 (ix3 (eF (R (r1 (i 0))).toNat) d f))
    (fun d f => w3 (ix3 (eF (R (r1 (i 0))).toNat) d f)) (fun f j => w2 (ix3 (eF (R (r1 (i 0))).toNat) f j)) (i 1)

/-! ## The tile after an item -/

variable (m : (ℓ : Loc nD τ sig) → Buf (Elt Ideal) ℓ) (hr : IsPlan m)

/-- The kernel's arguments' result. -/
abbrev G : S16384x2048.Idx → EReal := experts (RW m) (V m c main_arg8) (V m c main_arg9) (V m c main_arg10) (V m c main_arg11)

theorem xblk_at (t : Fin grid0.N) (x : Fin 256) (d : Fin 2048) (r : Fin 16384) (e : r.val = 256 * (T0 m (i1 (it t))).toNat + x.val) :
    xblk m hr c t (ix2 x d) = V m c main_arg8 (ix2 r d) := by
  show V m c main_arg8 ((((cfgA m hr).win 0).rect t).emb (ix2 x d)) = _
  refine congrArg (V m c main_arg8) (funext fun a => Fin.ext ?_)
  rw [Pipeline.Window.rect_emb_val _ t (ix2 x d) a rfl, index0 m hr t]
  match a with
  | ⟨0, _⟩ => show (T0 m (i1 (it t))).toNat * 256 + x.val = r.val; omega
  | ⟨1, _⟩ => show 0 * 2048 + d.val = d.val; omega

/-- One item's step at one element of the tile. -/
theorem step_at (t : Fin grid0.N) (Y : S256x2048.Idx → Elt Ideal .f32) (x : Fin 256) (j : Fin 2048) (r : Fin 16384)
    (e : r.val = 256 * (T0 m (i1 (it t))).toNat + x.val) :
    stepY m hr c t Y (ix2 x j)
      = if bit (T4 m) 1#32 (it t) ∧ (T2 m (i1 (it t))).toNat ≤ x.val ∧ x.val < (T3 m (i1 (it t))).toNat then G c m (ix2 r j)
        else zeroF (F := Ideal) (T4 m (i1 (it t))) Y (ix2 x j) := by
  unfold stepY outF
  rw [halves_at]
  by_cases hv : bit (T4 m) 1#32 (it t)
  · obtain ⟨a, b, d, -⟩ := hr.piece (it t) hv
    have e2 := (nat_of_int (k := 256) a (by omega)).2
    have e3 := (nat_of_int (k := 256) (b := T3 m (i1 (it t))) (by omega) d).2
    by_cases hx : (T2 m (i1 (it t))).toNat ≤ x.val ∧ x.val < (T3 m (i1 (it t))).toNat
    · rw [if_pos ⟨hv, by omega, by omega⟩, if_pos ⟨hv, hx⟩]
      have hR := rows_nat hr (it t) hv x.val hx.1 hx.2 r e
      unfold tileFfn
      show _ = ffn _ _ _ _ j
      have h1 : ∀ d : Fin 2048, xblk m hr c t (ix2 x d) = V m c main_arg8 (ix2 r d) := fun d => xblk_at c m hr t x d r e
      simp only [h1, mB1_at, mB2_at, mB3_at]
      rw [← hR]
      rfl
    · rw [if_neg fun h => hx ⟨by omega, by omega⟩, if_neg fun h => hx h.2]
  · rw [if_neg fun h => hv h.1, if_neg fun h => hv h.1]

/-- The tile after item `t`: the rows below the item's end — all of them after an item that covers none — hold the
    experts' result. -/
theorem out_at (n : ℕ) : ∀ (t : Fin grid0.N), t.val = n → ∀ (x : Fin 256) (j : Fin 2048) (r : Fin 16384),
    r.val = 256 * (T0 m (i1 (it t))).toNat + x.val → (bit (T4 m) 1#32 (it t) → x.val < (T3 m (i1 (it t))).toNat) →
    outAt m hr c (t.val + 1) (ix2 x j) = G c m (ix2 r j) := by
  induction n with
  | zero =>
    intro t ht x j r e hx
    have h0 : it t = 0 := Fin.ext ht
    obtain ⟨a, b, d⟩ := head_nat hr
    rw [outAt_succ, step_at c m hr t _ x j r e, if_pos]
    rw [h0] at hx ⊢
    exact ⟨a, by omega, hx a⟩
  | succ n ih =>
    intro t ht x j r e hx
    have hN : t.val < 128 := lt_of_lt_of_eq t.isLt N_0
    let v : Fin 127 := ⟨n, by omega⟩
    let p : Fin grid0.N := ⟨n, by have := t.isLt; omega⟩
    have e1 : it t = hi1 v := Fin.ext (by show t.val = 1 + n; omega)
    have e0 : it p = lo1 v := Fin.ext rfl
    have hp : outAt m hr c t.val = outAt m hr c (p.val + 1) := congrArg _ ht
    rw [outAt_succ, step_at c m hr t _ x j r e]
    by_cases hw : bit (T4 m) 1#32 (it t) ∧ (T2 m (i1 (it t))).toNat ≤ x.val ∧ x.val < (T3 m (i1 (it t))).toNat
    · rw [if_pos hw]
    rw [if_neg hw]
    by_cases hv : bit (T4 m) 1#32 (it t)
    · have hlt : x.val < (T2 m (i1 (it t))).toNat := by
        by_contra h; exact hw ⟨hv, by omega, hx hv⟩
      have h4 : ¬bit (T4 m) 4#32 (it t) := fun h => by
        have := (piece_nat hr (it t) hv).2.2.1 h; omega
      rw [zeroF_keep _ _ fun h => h4 ((cond7_iff _).1 h).2]
      rw [e1] at hv h4 hlt e
      have hs : (T0 m (i1 (hi1 v))).toNat = (T0 m (i1 (lo1 v))).toNat := by
        by_contra h; exact h4 (start_nat hr v h).2.1
      obtain ⟨a, b, -⟩ := stay_nat hr v hs hv
      rw [hp]
      refine ih p rfl x j r ?_ fun _ => ?_
      · rw [e0, ← hs]; exact e
      · rw [e0, ← b]; exact hlt
    · rw [zeroF_keep _ _ fun h => hv ((cond7_iff _).1 h).1, hp]
      have ht63 := inv_tile hr (it t) hv
      rw [e1] at hv
      have hb := stepI_nat hr v hv
      refine ih p rfl x j r ?_ fun h => ?_
      · rw [e, ht63, e0]
        by_cases h : bit (T4 m) 1#32 (lo1 v)
        · rw [(hb.2 h).1]
        · rw [inv_tile hr _ h]
      · rw [e0] at h ⊢; rw [(hb.2 h).2]; exact x.isLt

end Cert.KernelIdeal.Hand

end
-- ==== Proof.Rows.lean ====
/- Every row has an item: the plan's valid items leave out no row and no tile. -/
module

public import proofs.«01_k».proof.Proof.Cover

@[expose] public section

noncomputable section

namespace Cert.PlanWords

open Idealize.ShloMosaic
open Cert.Pre_plan (S128 S16384)

variable {T0 T1 T2 T3 T4 T5 T6 T7 : IVec S128 32} {R : IVec S16384 32} (hr : Raw T0 T1 T2 T3 T4 T5 T6 T7 R)
include hr

/-- Every row below the end of the items up to `n` — every row at all once an item covers none — has an item. -/
theorem row_item_upto (n : ℕ) : ∀ hn : n < 128, ∀ r : ℕ, r < 16384 →
    (bit T4 1#32 ⟨n, hn⟩ → r < 256 * (T0 (i1 ⟨n, hn⟩)).toNat + (T3 (i1 ⟨n, hn⟩)).toNat) →
    ∃ w : Fin 128, bit T4 1#32 w ∧ 256 * (T0 (i1 w)).toNat + (T2 (i1 w)).toNat ≤ r ∧ r < 256 * (T0 (i1 w)).toNat + (T3 (i1 w)).toNat := by
  induction n with
  | zero =>
    intro hn r h16 h
    obtain ⟨a, b, d⟩ := head_nat hr
    refine ⟨0, a, ?_, h a⟩
    rw [b, d]; omega
  | succ n ih =>
    intro hn r h16 h
    have e : (⟨n + 1, hn⟩ : Fin 128) = hi1 ⟨n, by omega⟩ := Fin.ext (Nat.add_comm _ _)
    have e' : (⟨n, by omega⟩ : Fin 128) = lo1 ⟨n, by omega⟩ := Fin.ext rfl
    rw [e] at h
    by_cases hv : bit T4 1#32 (hi1 ⟨n, by omega⟩)
    · obtain ⟨a, b⟩ := stepV_nat hr _ hv
      by_cases hl : r < 256 * (T0 (i1 (hi1 ⟨n, by omega⟩))).toNat + (T2 (i1 (hi1 ⟨n, by omega⟩))).toNat
      · exact ih (by omega) r h16 fun _ => by rw [e', ← b]; exact hl
      · exact ⟨_, hv, by omega, h hv⟩
    · have hb := (stepI_nat hr _ hv).2
      refine ih (by omega) r h16 fun hp => ?_
      rw [e'] at hp ⊢
      rw [(hb hp).1, (hb hp).2]; omega

/-- Every row has an item. -/
theorem row_item (r : Fin 16384) : ∃ w : Fin 128, bit T4 1#32 w ∧ 256 * (T0 (i1 w)).toNat + (T2 (i1 w)).toNat ≤ r.val
    ∧ r.val < 256 * (T0 (i1 w)).toNat + (T3 (i1 w)).toNat :=
  row_item_upto hr 127 (by decide) r.val r.isLt fun h => by
    obtain ⟨a, b⟩ := tail_nat hr h
    have := r.isLt
    show r.val < 256 * (T0 (i1 127)).toNat + (T3 (i1 127)).toNat
    rw [a, b]; omega

/-- Every row's expert is one of the 64. -/
theorem row_expert (r : Fin 16384) : (R (r1 r)).toNat < 64 := by
  obtain ⟨w, hv, a, b⟩ := row_item hr r
  rw [rows_nat hr w hv (r.val - 256 * (T0 (i1 w)).toNat) (by omega) (by omega) r (by omega)]
  have := exp_le hr w
  omega

/-- Every tile has an item. -/
theorem tile_item (k : ℕ) (hk : k < 64) : ∃ w : Fin 128, (T0 (i1 w)).toNat = k := by
  obtain ⟨w, hv, a, b⟩ := row_item hr ⟨256 * k, by omega⟩
  obtain ⟨p1, p2, -⟩ := piece_nat hr w hv
  dsimp only at a b
  exact ⟨w, by omega⟩

end Cert.PlanWords

end
-- ==== Proof.ValOut.lean ====
/- The result array after the run, over the extended reals: every row its own expert's SwiGLU. -/
module

public import proofs.«01_k».proof.Proof.ValInv
public import proofs.«01_k».proof.Proof.Rows
public import Idealize.ShloMosaic.Lib.Pipeline.Covers
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic
open Idealize.ShloMosaic.Pipeline (Dat Window)
open Cert.PlanWords

variable (c : Dev nD) (m : (ℓ : Loc nD τ sig) → Buf (Elt Ideal) ℓ) (hr : IsPlan m)

/-- Where a tile is written back every row of it has been covered. -/
theorem full_at_flush (t : Fin grid0.N) (hf : ((cfgA m hr).win 1).flush t = true) (h : bit (T4 m) 1#32 (it t)) :
    (T3 m (i1 (it t))).toNat = 256 := by
  have hN : t.val < 128 := lt_of_lt_of_eq t.isLt N_0
  rcases (Window.flush_out _ rfl t).1 hf with h1 | ⟨h1, h2⟩
  · have h1 : t.val + 1 = 128 := Eq.trans h1 N_0
    have e : it t = 127 := Fin.ext (by show t.val = 127; omega)
    rw [e] at h ⊢
    exact (tail_nat hr h).2
  · have h1 : t.val + 1 < grid0.N := h1
    have hM : t.val + 1 < 128 := lt_of_lt_of_eq h1 N_0
    have e0 : it t = lo1 ⟨t.val, by omega⟩ := Fin.ext rfl
    have e1 : it (⟨t.val + 1, h1⟩ : Fin grid0.N) = hi1 ⟨t.val, by omega⟩ := Fin.ext (Nat.add_comm _ _)
    rw [e0]
    refine (start_nat hr ⟨t.val, by omega⟩ fun he => h2 ?_).2.2.2
    refine (index1 m hr _).trans (Eq.trans ?_ (index1 m hr t).symm)
    rw [e1, e0, he]

theorem covers1 : ((cfgA m hr).win 1).Covers :=
  Window.covers_of_index_surj _ rfl (fun a => by match a with | ⟨0, _⟩ => exact (by decide : 0 < 256) | ⟨1, _⟩ => exact (by decide : 0 < 2048))
    fun (β : (a : Fin S16384x2048.rank) → Fin (((cfgA m hr).win 1).nblk a)) => by
      have h0 : (β 0).val < (16384 + 256 - 1) / 256 := (β 0).isLt
      have h1 : (β 1).val < (2048 + 2048 - 1) / 2048 := (β 1).isLt
      obtain ⟨w, hw⟩ := tile_item hr (β 0).val (by omega)
      refine ⟨(⟨w.val, lt_of_lt_of_eq w.isLt N_0.symm⟩ : Fin grid0.N), fun a => ?_⟩
      rw [index1 m hr]
      match a with
      | ⟨0, _⟩ => exact hw
      | ⟨1, _⟩ => show 0 = (β 1).val; omega

/-- The result array after the run. -/
theorem final_out : (dats m hr 0 c).arrAt 1 (cfgA m hr).N = G c m := by
  refine (dats m hr 0 c).arrAt_eq_of_covers 1 _ (covers1 m hr) fun t hf (y : S256x2048.Idx) => ?_
  have hx : (y 0).val < 256 := (y 0).isLt
  have hj : (y 1).val < 2048 := (y 1).isLt
  have ht := tile_le hr (it t)
  let x : Fin 256 := ⟨(y 0).val, hx⟩
  let j : Fin 2048 := ⟨(y 1).val, hj⟩
  let r : Fin 16384 := ⟨256 * (T0 m (i1 (it t))).toNat + x.val, by omega⟩
  have e : (((cfgA m hr).win 1).blk t).view.emb y = (ix2 r j : S16384x2048.Idx) := by
    show (((cfgA m hr).win 1).rect t).emb y = _
    refine funext fun a => Fin.ext ?_
    rw [Window.rect_emb_val _ t y a rfl, index1 m hr t]
    match a with
    | ⟨0, _⟩ => show (T0 m (i1 (it t))).toNat * 256 + (y 0).val = 256 * (T0 m (i1 (it t))).toNat + (y 0).val; omega
    | ⟨1, _⟩ => show 0 * 2048 + (y 1).val = (y 1).val; omega
  have ey : ((cfgA m hr).win 1).xinj ((cfgA m hr).grid.coords t) y = (ix2 x j : S256x2048.Idx) := by
    refine funext fun a => Fin.ext ?_
    match a with
    | ⟨0, _⟩ => rfl
    | ⟨1, _⟩ => rfl
  refine Eq.trans ?_ (congrArg (G c m) e.symm)
  show (dats m hr 0 c).after 1 t (((cfgA m hr).win 1).xinj ((cfgA m hr).grid.coords t) y) = _
  rw [after1]
  refine (congrArg (outAt m hr c (t.val + 1)) ey).trans ?_
  exact out_at c m hr t.val t rfl x j r rfl fun h => by rw [full_at_flush m hr t hf h]; exact hx

include hr in
/-- The kernel's run: the result array holds the experts' result, and the arguments stay. -/
theorem run_value (ρ : Dev nD → PrngReg) : θ_run defs (onTc (τ := τ) (main (F := Ideal))) ⟨m, fun _ => 0, ρ⟩ (fun r => ∀ c : Dev nD,
      r.2.mem ((c.tc : Thread nD τ).loc main_v0) = G c m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => by
    have g : ∀ b : Ref sig .tc, b ∈ Pipeline.restRefs sig spec0 → r.2.mem ((c.tc : Thread nD τ).loc b) = m ((c.tc : Thread nD τ).loc b) := fun b hb => (h.1 c).2 b hb
    exact ⟨((h.1 c).1 1).trans (final_out c m hr), g main_arg0 (by decide), g main_arg1 (by decide), g main_arg2 (by decide), g main_arg3 (by decide), g main_arg4 (by decide), g main_arg5 (by decide), g main_arg6 (by decide), g main_arg7 (by decide), ((h.1 c).1 0).trans ((dats m hr 0 c).arrAt_in 0 rfl _), g main_arg9 (by decide), g main_arg10 (by decide), g main_arg11 (by decide), g main_arg12 (by decide)⟩)
    (run_main m ρ hr)

end Cert.KernelIdeal.Hand

end
-- ==== Proof.ValRef.lean ====
/- The reference's result over the extended reals: the sum over all experts keeps the row's own. -/
module

public import proofs.«01_k».proof.Proof.ValOut
public import proofs.«01_k».proof.Proof.Gen.ReferenceIdeal.Run
public import proofs.«01_k».proof.Proof.Gen.ReferenceIdeal

@[expose] public section

set_option maxRecDepth 16384

noncomputable section

namespace Cert.ReferenceIdeal.Hand

open Cert.ReferenceIdeal
open Cert.ReferenceIdeal.Facts₀ Cert.ReferenceIdeal.Facts
open Idealize.ShloMosaic

attribute [local instance] Cert.ReferenceIdeal.Gen.facts

/-- The reference's text as a function of its arguments. -/
def refOut (R : IVec S16384 32) (xs : FVec Ideal S16384x2048 .f32) (w1 w3 : FVec Ideal S64x2048x512 .f32) (w2 : FVec Ideal S64x512x2048 .f32) :
    FVec Ideal S16384x2048 .f32 :=
  Host.dotGeneral dot_S16384x64x512_S64x512x2048_S16384x2048_12_01_0_2_n_n none (mulf (mulf (mulf (Host.dotGeneral dot_S16384x2048_S64x2048x512_S16384x64x512_1_1_0_02_n_n none xs w1) (Host.divf (broadcastInDim S16384x64x512 ![] bcast_S_S16384x64x512 (constant S_ .f32 0x3F800000#32)) (addf (broadcastInDim S16384x64x512 ![] bcast_S_S16384x64x512 (constant S_ .f32 0x3F800000#32)) (Host.exp (Host.negf (Host.dotGeneral dot_S16384x2048_S64x2048x512_S16384x64x512_1_1_0_02_n_n none xs w1)))))) (Host.dotGeneral dot_S16384x2048_S64x2048x512_S16384x64x512_1_1_0_02_n_n none xs w3)) (broadcastInDim S16384x64x512 ![0, 1, 2] bcast_S16384x64x1_S16384x64x512_0_1_2 (broadcastInDim S16384x64x1 ![0, 1] bcast_S16384x64_S16384x64x1_0_1 (uitofp .f32 (cmpi .eq (broadcastInDim S16384x64 ![0, 1] bcast_S16384x1_S16384x64_0_1 (broadcastInDim S16384x1 ![0] bcast_S16384_S16384x1_0 R)) (broadcastInDim S16384x64 ![0, 1] bcast_S1x64_S16384x64_0_1 (iotaInDim S1x64 32 1))))))) w2

theorem gate_eq (v w : BitVec 32) (h : v = w) : (FloatOps.uitofp (F := Ideal) .f32 (IntOp.cmpi .eq v w) : EReal) = 1 := by
  subst h
  rw [show IntOp.cmpi .eq v v = 1#1 from by simp [IntOp.cmpi]]
  show (((1#1 : BitVec 1).toNat : ℝ) : EReal) = 1
  norm_num

theorem gate_ne (v w : BitVec 32) (h : v ≠ w) : (FloatOps.uitofp (F := Ideal) .f32 (IntOp.cmpi .eq v w) : EReal) = 0 := by
  rw [show IntOp.cmpi .eq v w = 0#1 from by unfold IntOp.cmpi; simp only [beq_eq_false_iff_ne.2 h]; rfl]
  show (((0#1 : BitVec 1).toNat : ℝ) : EReal) = 0
  norm_num

open Cert.KernelIdeal.Hand (experts ffn eF)
open Cert.PlanWords (r1)

/-- The reference at one element: every expert but the row's own is multiplied by zero. -/
theorem refOut_at (R : IVec S16384 32) (xs : FVec Ideal S16384x2048 .f32) (w1 w3 : FVec Ideal S64x2048x512 .f32) (w2 : FVec Ideal S64x512x2048 .f32)
    (n : Fin 16384) (j : Fin 2048) (hR : (R (r1 n)).toNat < 64) : refOut R xs w1 w3 w2 (ix2 n j) = experts R xs w1 w3 w2 (ix2 n j) := by
  pointwise [refOut]
  have e1 : (ix1 n : S16384.Idx) = r1 n := funext fun a => by match a with | ⟨0, _⟩ => rfl
  rw [e1]
  have hval : (eF (R (r1 n)).toNat).val = (R (r1 n)).toNat := Nat.mod_eq_of_lt hR
  rw [Finset.sum_eq_single (eF (R (r1 n)).toNat)]
  · rw [gate_eq _ _ (BitVec.eq_of_toNat_eq (by rw [BitVec.toNat_ofNat, hval]; omega))]
    simp only [mul_one]
    rfl
  · intro e _ he
    rw [gate_ne _ _ fun h => he (Fin.ext (by
      rw [hval, h, BitVec.toNat_ofNat]; have := e.isLt; omega))]
    simp only [mul_zero, zero_mul, Finset.sum_const_zero]
  · intro h; exact absurd (Finset.mem_univ _) h

theorem refOut_eq (R : IVec S16384 32) (xs : FVec Ideal S16384x2048 .f32) (w1 w3 : FVec Ideal S64x2048x512 .f32) (w2 : FVec Ideal S64x512x2048 .f32)
    (hR : ∀ n : Fin 16384, (R (r1 n)).toNat < 64) : refOut R xs w1 w3 w2 = experts R xs w1 w3 w2 := by
  funext i
  idx_vars i
  exact refOut_at R xs w1 w3 w2 _ _ (hR _)

end Cert.ReferenceIdeal.Hand

end
-- ==== Proof.Merge.lean ====
/- One grid point of the gated merge, read at an element, and the merge as a function of its arguments. -/
module

public import proofs.«01_k».proof.Proof.Gen.Kernel2Ideal.Skeleton
public import Idealize.ShloMosaic.Lib.Pointwise

@[expose] public section

set_option maxRecDepth 16384

noncomputable section

namespace Cert.Kernel2Ideal.Hand

open Cert.Kernel2Ideal Cert.Kernel2Ideal.Gen
open Cert.Kernel2Ideal.Facts₀ Cert.Kernel2Ideal.Facts
open Idealize.ShloMosaic

attribute [local instance] Cert.Kernel2Ideal.Gen.facts

/-- The merged row of the two mixers, each under its own gate, sent through the last map. -/
def merged (pa pb ba bb : Fin 2048 → EReal) (a b : Fin 1024 → EReal) (Wa Wb : Fin 1024 → Fin 2048 → EReal) (Wo : Fin 2048 → Fin 2048 → EReal) (j : Fin 2048) : EReal :=
  ∑ k : Fin 2048, (Ideal.logistic (pa k + ba k) * (∑ l, a l * Wa l k) + Ideal.logistic (pb k + bb k) * (∑ l, b l * Wb l k)) * Wo k j

/-- The normalized row, scaled and shifted. -/
def normed (x g sc sh : Fin 2048 → EReal) (j : Fin 2048) : EReal :=
  x j * Ideal.rsqrt (Ideal.div (∑ d, x d * x d) (Ideal.ofBits FTy.f32 1157627904#32) + Ideal.ofBits FTy.f32 897988541#32) * g j * (1 + sc j) + sh j

theorem pay2_at (v0 : Vec Ideal S256x2048 .bf16) (v2 : Vec Ideal S1x2048 .f32) (v7 : Vec Ideal S256x2048 .bf16) (v9 : Vec Ideal S1x2048 .f32)
    (v14 : Vec Ideal S256x1024 .bf16) (v15 : Vec Ideal S1024x2048 .bf16) (v19 : Vec Ideal S256x1024 .bf16) (v20 : Vec Ideal S1024x2048 .bf16)
    (v26 : Vec Ideal S2048x2048 .bf16) (r : Fin 256) (j : Fin 2048) :
    k0_pay2 v0 v2 v7 v9 v14 v15 v19 v20 v26 (ix2 r j)
      = merged (fun k => v0 (ix2 r k)) (fun k => v7 (ix2 r k)) (fun k => v2 (ix2 0 k)) (fun k => v9 (ix2 0 k)) (fun l => v14 (ix2 r l)) (fun l => v19 (ix2 r l))
          (fun l k => v15 (ix2 l k)) (fun l k => v20 (ix2 l k)) (fun k j => v26 (ix2 k j)) j := by
  unfold merged
  pointwise [k0_pay2]

theorem pay4_at (v28 : FVec Ideal S256x2048 .f32) (v29 : Vec Ideal S256x2048 .f32) (v30 : Vec Ideal S1x1x2048 .f32) (r : Fin 256) (j : Fin 2048) :
    k0_pay4 v28 v29 (k0_pay3 v30) (ix2 r j) = v29 (ix2 r j) + v30 (ix3 0 0 j) * v28 (ix2 r j) := by
  pointwise [k0_pay4, k0_pay3]

theorem pay5_at (v28 v32 : FVec Ideal S256x2048 .f32) (v29 : Vec Ideal S256x2048 .f32) (v36 : Vec Ideal S1x2048 .f32) (v50 v56 : Vec Ideal S1x1x2048 .f32) (r : Fin 256) (j : Fin 2048) :
    k0_pay5 v28 v29 v32 v36 v50 v56 (ix2 r j)
      = normed (fun k => k0_pay4 v28 v29 v32 (ix2 r k)) (fun k => v36 (ix2 0 k)) (fun k => v50 (ix3 0 0 k)) (fun k => v56 (ix3 0 0 k)) j := by
  unfold k0_pay5 normed
  generalize k0_pay4 v28 v29 v32 = x
  pointwise

end Cert.Kernel2Ideal.Hand

end
-- ==== Proof.MergeOut.lean ====
/- The gated merge's two result arrays. -/
module

public import proofs.«01_k».proof.Proof.Merge
public import proofs.«01_k».proof.Proof.Gen.Kernel2Ideal.Value
public import Idealize.ShloMosaic.Lib.Pipeline.ValueKit

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem
open Idealize.ShloMosaic.Pipeline (Dat)

attribute [local instance] Cert.Kernel2Ideal.Gen.facts

/-- The batch row of a token. -/
def bOf (n : Fin 8192) : Fin 4 := ⟨n.val / 2048, by have := n.isLt; omega⟩

/-- The first result: the residual with the merged mixers. -/
def x1At (P : S8192x9728.Idx → EReal) (A B : S8192x1024.Idx → EReal) (X : S8192x2048.Idx → EReal) (M : S4x6x2048.Idx → EReal) (bg : Fin 4096 → EReal)
    (wa wb : S1024x2048.Idx → EReal) (wo : S2048x2048.Idx → EReal) (n : Fin 8192) (j : Fin 2048) : EReal :=
  X (ix2 n j) + M (ix3 (bOf n) 2 j) * merged (fun k => P (ix2 n ⟨k.val, by omega⟩)) (fun k => P (ix2 n ⟨2048 + k.val, by omega⟩))
    (fun k => bg ⟨k.val, by omega⟩) (fun k => bg ⟨2048 + k.val, by omega⟩) (fun l => A (ix2 n l)) (fun l => B (ix2 n l))
    (fun l k => wa (ix2 l k)) (fun l k => wb (ix2 l k)) (fun k j => wo (ix2 k j)) j

/-- The second result: the first one's rows normalized, scaled and shifted. -/
def h2At (x1 : Fin 8192 → Fin 2048 → EReal) (M : S4x6x2048.Idx → EReal) (g : Fin 2048 → EReal) (n : Fin 8192) (j : Fin 2048) : EReal :=
  normed (x1 n) g (fun k => M (ix3 (bOf n) 4 k)) (fun k => M (ix3 (bOf n) 3 k)) j

theorem merged_congr {pa pb ba bb pa' pb' ba' bb' : Fin 2048 → EReal} {a b a' b' : Fin 1024 → EReal} {Wa Wb Wa' Wb' : Fin 1024 → Fin 2048 → EReal}
    {Wo Wo' : Fin 2048 → Fin 2048 → EReal} (h0 : ∀ k, pa k = pa' k) (h1 : ∀ k, pb k = pb' k) (h2 : ∀ k, ba k = ba' k) (h3 : ∀ k, bb k = bb' k)
    (h4 : ∀ l, a l = a' l) (h5 : ∀ l, b l = b' l) (h6 : ∀ l k, Wa l k = Wa' l k) (h7 : ∀ l k, Wb l k = Wb' l k) (h8 : ∀ k j, Wo k j = Wo' k j) (j : Fin 2048) :
    merged pa pb ba bb a b Wa Wb Wo j = merged pa' pb' ba' bb' a' b' Wa' Wb' Wo' j := by
  obtain rfl := funext h0
  obtain rfl := funext h1
  obtain rfl := funext h2
  obtain rfl := funext h3
  obtain rfl := funext h4
  obtain rfl := funext h5
  obtain rfl : Wa = Wa' := funext fun l => funext (h6 l)
  obtain rfl : Wb = Wb' := funext fun l => funext (h7 l)
  obtain rfl : Wo = Wo' := funext fun l => funext (h8 l)
  rfl

theorem normed_congr {x g sc sh x' g' sc' sh' : Fin 2048 → EReal} (h0 : ∀ k, x k = x' k) (h1 : ∀ k, g k = g' k) (h2 : ∀ k, sc k = sc' k) (h3 : ∀ k, sh k = sh' k)
    (j : Fin 2048) : normed x g sc sh j = normed x' g' sc' sh' j := by
  obtain rfl := funext h0
  obtain rfl := funext h1
  obtain rfl := funext h2
  obtain rfl := funext h3
  rfl

variable (m : (ℓ : Loc nD τ sig) → Buf (Elt Ideal) ℓ) (ρ : Dev nD → PrngReg)

theorem V_v0 (c : Dev nD) : V m c main_v0 = shapeCast _ (m ((c.tc : Thread nD τ).loc main_arg5)) shapeCasts_S4096_S1x4096 := by
  unfold V
  after_results_simp <;> rfl

theorem V_v1 (c : Dev nD) : V m c main_v1 = (truncf (F := Ideal) .bf16 (m ((c.tc : Thread nD τ).loc main_arg6) : FVec Ideal S1024x2048 .f32) bitsLt_bf16_f32 : FVec Ideal S1024x2048 .bf16) := by
  unfold V
  after_results_simp <;> rfl

theorem V_v2 (c : Dev nD) : V m c main_v2 = (truncf (F := Ideal) .bf16 (m ((c.tc : Thread nD τ).loc main_arg7) : FVec Ideal S1024x2048 .f32) bitsLt_bf16_f32 : FVec Ideal S1024x2048 .bf16) := by
  unfold V
  after_results_simp <;> rfl

theorem V_v3 (c : Dev nD) : V m c main_v3 = (truncf (F := Ideal) .bf16 (m ((c.tc : Thread nD τ).loc main_arg8) : FVec Ideal S2048x2048 .f32) bitsLt_bf16_f32 : FVec Ideal S2048x2048 .bf16) := by
  unfold V
  after_results_simp <;> rfl

theorem V_v4 (c : Dev nD) : V m c main_v4 = shapeCast _ (m ((c.tc : Thread nD τ).loc main_arg9)) shapeCasts_S2048_S1x2048 := by
  unfold V
  after_results_simp <;> rfl

theorem row_long (x : FVec Ideal S4096 .f32) (k : Fin 4096) : (shapeCast S1x4096 x shapeCasts_S4096_S1x4096 : FVec Ideal S1x4096 .f32) (ix2 0 k) = x (ix1 k) := by
  pointwise

theorem row_short (x : FVec Ideal S2048 .f32) (k : Fin 2048) : (shapeCast S1x2048 x shapeCasts_S2048_S1x2048 : FVec Ideal S1x2048 .f32) (ix2 0 k) = x (ix1 k) := by
  pointwise

theorem v0_at (c : Dev nD) (k : Fin 4096) : (V m c main_v0 : FVec Ideal S1x4096 .f32) (ix2 0 k) = (m ((c.tc : Thread nD τ).loc main_arg5) : FVec Ideal S4096 .f32) (ix1 k) := by
  rw [V_v0]
  exact row_long _ k

theorem v4_at (c : Dev nD) (k : Fin 2048) : (V m c main_v4 : FVec Ideal S1x2048 .f32) (ix2 0 k) = (m ((c.tc : Thread nD τ).loc main_arg9) : FVec Ideal S2048 .f32) (ix1 k) := by
  rw [V_v4]
  exact row_short _ k

/-- The token a row of a point's block is. -/
def tok (t : Fin cfg0.N) (r : Fin 256) : Fin 8192 := ⟨t.val * 256 + r.val, by have h : t.val < 32 := t.isLt; omega⟩

theorem i0 : ∀ t : Fin cfg0.N, win0_0.index t = ![t.val, 0] := (by decide +kernel : ∀ t : Fin grid0.N, _)
theorem i1 : ∀ t : Fin cfg0.N, win0_1.index t = ![t.val, 1] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![t.val, 0] := (by decide +kernel : ∀ t : Fin grid0.N, _)
theorem i4 : ∀ t : Fin cfg0.N, win0_4.index t = ![t.val, 0] := (by decide +kernel : ∀ t : Fin grid0.N, _)
theorem i5 : ∀ t : Fin cfg0.N, win0_5.index t = ![t.val / 8, 0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![0, 1] := (by decide +kernel : ∀ t : Fin grid0.N, _)
theorem i8 : ∀ t : Fin cfg0.N, win0_8.index t = ![0, 0] := (by decide +kernel : ∀ t : Fin grid0.N, _)
theorem i9 : ∀ t : Fin cfg0.N, win0_9.index t = ![0, 0] := (by decide +kernel : ∀ t : Fin grid0.N, _)
theorem i10 : ∀ t : Fin cfg0.N, win0_10.index t = ![0, 0] := (by decide +kernel : ∀ t : Fin grid0.N, _)
theorem i11 : ∀ t : Fin cfg0.N, win0_11.index t = ![0, 0] := (by decide +kernel : ∀ t : Fin grid0.N, _)
theorem i15 : ∀ t : Fin cfg0.N, win0_15.index t = ![t.val, 0] := (by decide +kernel : ∀ t : Fin grid0.N, _)
theorem i16 : ∀ t : Fin cfg0.N, win0_16.index t = ![t.val, 0] := (by decide +kernel : ∀ t : Fin grid0.N, _)

variable (c : Dev nD) (t : Fin cfg0.N)

theorem b0 (r : Fin 256) (k : Fin 2048) : (X0_0 m c t : FVec Ideal S256x2048 .bf16) (ix2 r k) = (m ((c.tc : Thread nD τ).loc main_arg0) : FVec Ideal S8192x9728 .bf16) (ix2 (tok t r) ⟨k.val, by omega⟩) := by
  rw [← V_main_arg0 m c]
  unfold X0_0 Pipeline.Window.fill
  rw [dif_pos (moved0_0 t _)]
  blk_simp [iblk, i0]
  congr 1
  blk_ext [i0, tok]

theorem b1 (r : Fin 256) (k : Fin 2048) : (X0_1 m c t : FVec Ideal S256x2048 .bf16) (ix2 r k) = (m ((c.tc : Thread nD τ).loc main_arg0) : FVec Ideal S8192x9728 .bf16) (ix2 (tok t r) ⟨2048 + k.val, by omega⟩) := by
  rw [← V_main_arg0 m c]
  unfold X0_1 Pipeline.Window.fill
  rw [dif_pos (moved0_1 t _)]
  blk_simp [iblk, i1]
  congr 1
  blk_ext [i1, tok]

theorem b2 (r : Fin 256) (k : Fin 1024) : (iblk m c 2 t : FVec Ideal S256x1024 .bf16) (ix2 r k) = (m ((c.tc : Thread nD τ).loc main_arg1) : FVec Ideal S8192x1024 .bf16) (ix2 (tok t r) k) := by
  rw [← V_main_arg1 m c]
  blk_simp [iblk, i2]
  congr 1
  blk_ext [i2, tok]

theorem b3 (r : Fin 256) (k : Fin 1024) : (iblk m c 3 t : FVec Ideal S256x1024 .bf16) (ix2 r k) = (m ((c.tc : Thread nD τ).loc main_arg2) : FVec Ideal S8192x1024 .bf16) (ix2 (tok t r) k) := by
  rw [← V_main_arg2 m c]
  blk_simp [iblk, i3]
  congr 1
  blk_ext [i3, tok]

theorem b4 (r : Fin 256) (k : Fin 2048) : (iblk m c 4 t : FVec Ideal S256x2048 .f32) (ix2 r k) = (m ((c.tc : Thread nD τ).loc main_arg3) : FVec Ideal S8192x2048 .f32) (ix2 (tok t r) k) := by
  rw [← V_main_arg3 m c]
  blk_simp [iblk, i4]
  congr 1
  blk_ext [i4, tok]

theorem b5 (r : Fin 256) (p : Fin 6) (k : Fin 2048) : (iblk m c 5 t : FVec Ideal S1x6x2048 .f32) (ix3 0 p k) = (m ((c.tc : Thread nD τ).loc main_arg4) : FVec Ideal S4x6x2048 .f32) (ix3 (bOf (tok t r)) p k) := by
  rw [← V_main_arg4 m c]
  blk_simp [iblk, i5]
  congr 1
  blk_ext [i5, tok, bOf]

theorem b6 (k : Fin 2048) : (iblk m c 6 t : FVec Ideal S1x2048 .f32) (ix2 0 k) = (m ((c.tc : Thread nD τ).loc main_arg5) : FVec Ideal S4096 .f32) (ix1 ⟨k.val, by omega⟩) := by
  refine Eq.trans ?_ (v0_at m c _)
  blk_simp [iblk, i6]
  congr 1
  blk_ext [i6]

theorem b7 (k : Fin 2048) : (iblk m c 7 t : FVec Ideal S1x2048 .f32) (ix2 0 k) = (m ((c.tc : Thread nD τ).loc main_arg5) : FVec Ideal S4096 .f32) (ix1 ⟨2048 + k.val, by omega⟩) := by
  refine Eq.trans ?_ (v0_at m c _)
  blk_simp [iblk, i7]
  congr 1
  blk_ext [i7]

theorem b8 (l : Fin 1024) (k : Fin 2048) : (iblk m c 8 t : FVec Ideal S1024x2048 .bf16) (ix2 l k) = (m ((c.tc : Thread nD τ).loc main_arg6) : FVec Ideal S1024x2048 .f32) (ix2 l k) := by
  refine Eq.trans (b := (V m c main_v1 : FVec Ideal S1024x2048 .bf16) (ix2 l k)) ?_ (by rw [V_v1]; rfl)
  blk_simp [iblk, i8]
  congr 1
  blk_ext [i8]

theorem b9 (l : Fin 1024) (k : Fin 2048) : (iblk m c 9 t : FVec Ideal S1024x2048 .bf16) (ix2 l k) = (m ((c.tc : Thread nD τ).loc main_arg7) : FVec Ideal S1024x2048 .f32) (ix2 l k) := by
  refine Eq.trans (b := (V m c main_v2 : FVec Ideal S1024x2048 .bf16) (ix2 l k)) ?_ (by rw [V_v2]; rfl)
  blk_simp [iblk, i9]
  congr 1
  blk_ext [i9]

theorem b10 (l : Fin 2048) (k : Fin 2048) : (iblk m c 10 t : FVec Ideal S2048x2048 .bf16) (ix2 l k) = (m ((c.tc : Thread nD τ).loc main_arg8) : FVec Ideal S2048x2048 .f32) (ix2 l k) := by
  refine Eq.trans (b := (V m c main_v3 : FVec Ideal S2048x2048 .bf16) (ix2 l k)) ?_ (by rw [V_v3]; rfl)
  blk_simp [iblk, i10]
  congr 1
  blk_ext [i10]

theorem b11 (k : Fin 2048) : (iblk m c 11 t : FVec Ideal S1x2048 .f32) (ix2 0 k) = (m ((c.tc : Thread nD τ).loc main_arg9) : FVec Ideal S2048 .f32) (ix1 k) := by
  refine Eq.trans ?_ (v4_at m c _)
  blk_simp [iblk, i11]
  congr 1
  blk_ext [i11]

/-- The first result of the arguments. -/
def x1M (n : Fin 8192) (j : Fin 2048) : EReal :=
  x1At (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (fun k => (m ((c.tc : Thread nD τ).loc main_arg5) : FVec Ideal S4096 .f32) (ix1 k)) (m ((c.tc : Thread nD τ).loc main_arg6))
    (m ((c.tc : Thread nD τ).loc main_arg7)) (m ((c.tc : Thread nD τ).loc main_arg8)) n j

/-- The second result of the arguments. -/
def h2M (n : Fin 8192) (j : Fin 2048) : EReal :=
  h2At (x1M m c) (m ((c.tc : Thread nD τ).loc main_arg4)) (fun k => (m ((c.tc : Thread nD τ).loc main_arg9) : FVec Ideal S2048 .f32) (ix1 k)) n j

/-- One row of the block of modulation vectors. -/
theorem ld_row (x : Vec Ideal S1x6x2048 .f32) (p : Fin 6) (inb) (j : Fin 2048) :
    (View.ld x (Rect.unit ![0, p.val, 0] ![1, 1, 2048] inb) : Vec Ideal S1x1x2048 .f32) (ix3 0 0 j) = x (ix3 0 p j) :=
  congrArg x (funext fun a => Fin.ext (by
    match a with
    | ⟨0, _⟩ => rfl
    | ⟨1, _⟩ => exact Nat.add_zero _
    | ⟨2, _⟩ => exact (Nat.zero_add _).trans (Nat.one_mul _)))

/-- What a point leaves of the first result. -/
theorem blk15 (r : Fin 256) (j : Fin 2048) :
    k0_pay4 (k0_pay2 (X0_0 m c t) (iblk m c 6 t) (X0_1 m c t) (iblk m c 7 t) (iblk m c 2 t) (iblk m c 8 t) (iblk m c 3 t) (iblk m c 9 t) (iblk m c 10 t))
      (iblk m c 4 t) (k0_pay3 (View.ld (iblk m c 5 t) (Rect.unit ![0, 2, 0] ![1, 1, 2048] Gen.inb_S1x6x2048_S1x1x2048_0_2_0))) (ix2 r j)
      = x1M m c (tok t r) j := by
  rw [pay4_at, pay2_at]
  unfold x1M x1At
  refine congrArg₂ (· + ·) (b4 m c t r j) (congrArg₂ (· * ·) ((ld_row _ 2 _ j).trans (b5 m c t r 2 j)) ?_)
  exact merged_congr (b0 m c t r) (b1 m c t r) (b6 m c t) (b7 m c t) (b2 m c t r) (b3 m c t r) (b8 m c t) (b9 m c t) (b10 m c t) j

theorem out15 (y : S256x2048.Idx) :
    k0_pay4 (k0_pay2 (X0_0 m c t) (iblk m c 6 t) (X0_1 m c t) (iblk m c 7 t) (iblk m c 2 t) (iblk m c 8 t) (iblk m c 3 t) (iblk m c 9 t) (iblk m c 10 t))
      (iblk m c 4 t) (k0_pay3 (View.ld (iblk m c 5 t) (Rect.unit ![0, 2, 0] ![1, 1, 2048] Gen.inb_S1x6x2048_S1x1x2048_0_2_0))) y
      = x1M m c (tok t (y 0)) (y 1) := by
  idx_vars y
  exact blk15 m c t _ _

/-- What a point leaves of the second result. -/
theorem out16 (y : S256x2048.Idx) :
    k0_pay5 (k0_pay2 (X0_0 m c t) (iblk m c 6 t) (X0_1 m c t) (iblk m c 7 t) (iblk m c 2 t) (iblk m c 8 t) (iblk m c 3 t) (iblk m c 9 t) (iblk m c 10 t))
      (iblk m c 4 t) (k0_pay3 (View.ld (iblk m c 5 t) (Rect.unit ![0, 2, 0] ![1, 1, 2048] Gen.inb_S1x6x2048_S1x1x2048_0_2_0))) (iblk m c 11 t)
      (View.ld (iblk m c 5 t) (Rect.unit ![0, 4, 0] ![1, 1, 2048] Gen.inb_S1x6x2048_S1x1x2048_0_4_0))
      (View.ld (iblk m c 5 t) (Rect.unit ![0, 3, 0] ![1, 1, 2048] Gen.inb_S1x6x2048_S1x1x2048_0_3_0)) y
      = h2M m c (tok t (y 0)) (y 1) := by
  idx_vars y
  rw [pay5_at]
  exact normed_congr (blk15 m c t _) (b11 m c t) (fun k => (ld_row _ 4 _ k).trans (b5 m c t _ 4 k)) (fun k => (ld_row _ 3 _ k).trans (b5 m c t _ 3 k)) _

theorem emb15 (t : Fin cfg0.N) (y : S256x2048.Idx) : (((cfg0.win 15).blk t).view.emb y : S8192x2048.Idx) = ix2 (tok t (y 0)) (y 1) := by
  have e0 : win0_15.index t (0 : Fin 2) = t.val := by rw [i15]; rfl
  have e1 : win0_15.index t (1 : Fin 2) = 0 := by rw [i15]; rfl
  funext a; apply Fin.ext
  match a with
  | ⟨0, _⟩ => show win0_15.index t (0 : Fin 2) * 256 + 1 * (y 0).val = t.val * 256 + (y 0).val; omega
  | ⟨1, _⟩ => show win0_15.index t (1 : Fin 2) * 2048 + 1 * (y 1).val = (y 1).val; omega

theorem final15 : (dats m 0 c).arrAt 15 cfg0.N = fun (i : S8192x2048.Idx) => x1M m c (i 0) (i 1) := by
  refine (dats m 0 c).arrAt_eq_of_covers 15 _ (by decide +kernel) fun t hf (y : S256x2048.Idx) => ?_
  blk_simp
  rw [after0_15, outsAt0]
  frame_out
  exact (out15 m c t y).trans (congrArg (fun i : S8192x2048.Idx => x1M m c (i 0) (i 1)) (emb15 t y)).symm

theorem emb16 (t : Fin cfg0.N) (y : S256x2048.Idx) : (((cfg0.win 16).blk t).view.emb y : S8192x2048.Idx) = ix2 (tok t (y 0)) (y 1) := by
  have e0 : win0_16.index t (0 : Fin 2) = t.val := by rw [i16]; rfl
  have e1 : win0_16.index t (1 : Fin 2) = 0 := by rw [i16]; rfl
  funext a; apply Fin.ext
  match a with
  | ⟨0, _⟩ => show win0_16.index t (0 : Fin 2) * 256 + 1 * (y 0).val = t.val * 256 + (y 0).val; omega
  | ⟨1, _⟩ => show win0_16.index t (1 : Fin 2) * 2048 + 1 * (y 1).val = (y 1).val; omega

theorem final16 : (dats m 0 c).arrAt 16 cfg0.N = fun (i : S8192x2048.Idx) => h2M m c (i 0) (i 1) := by
  refine (dats m 0 c).arrAt_eq_of_covers 16 _ (by decide +kernel) fun t hf (y : S256x2048.Idx) => ?_
  blk_simp
  rw [after0_16, outsAt0]
  frame_out
  exact (out16 m c t y).trans (congrArg (fun i : S8192x2048.Idx => h2M m c (i 0) (i 1)) (emb16 t y)).symm

end Cert.Kernel2Ideal.Hand

end
-- ==== Proof.MergeRef.lean ====
/- The merge's reference over the extended reals, read at an element. -/
module

public import proofs.«01_k».proof.Proof.MergeOut
public import proofs.«01_k».proof.Proof.Gen.Reference2Ideal.Run
public import proofs.«01_k».proof.Proof.Gen.Reference2Ideal

@[expose] public section

set_option maxRecDepth 16384

noncomputable section

namespace Cert.Reference2Ideal.Hand

open Cert.Reference2Ideal
open Cert.Reference2Ideal.Facts₀ Cert.Reference2Ideal.Facts
open Idealize.ShloMosaic
open Cert.Kernel2Ideal.Hand (bOf merged normed x1At h2At merged_congr normed_congr)

attribute [local instance] Cert.Reference2Ideal.Gen.facts

/-- Row 2 of each batch row's six modulation vectors, for every token. -/
def modRow2 (a4 : FVec Ideal S4x6x2048 .f32) : FVec Ideal S8192x2048 .f32 :=
  shapeCast _ (broadcastInDim S4x2048x2048 ![0, 1, 2] bcast_S4x1x2048_S4x2048x2048_0_1_2 (broadcastInDim S4x1x2048 ![0, 2] bcast_S4x2048_S4x1x2048_0_2 (shapeCast _ (extractStridedSlice S4x1x2048 ![0, 2, 0] a4 slices_S4x6x2048_S4x1x2048_0_2_0) shapeCasts_S4x1x2048_S4x2048))) shapeCasts_S4x2048x2048_S8192x2048

theorem modRow2_at (a4 : FVec Ideal S4x6x2048 .f32) (n : Fin 8192) (j : Fin 2048) : modRow2 a4 (ix2 n j) = a4 (ix3 (bOf n) 2 j) := by
  pointwise [modRow2]
  rfl

/-- Row 3 of each batch row's six modulation vectors, for every token. -/
def modRow3 (a4 : FVec Ideal S4x6x2048 .f32) : FVec Ideal S8192x2048 .f32 :=
  shapeCast _ (broadcastInDim S4x2048x2048 ![0, 1, 2] bcast_S4x1x2048_S4x2048x2048_0_1_2 (broadcastInDim S4x1x2048 ![0, 2] bcast_S4x2048_S4x1x2048_0_2 (shapeCast _ (extractStridedSlice S4x1x2048 ![0, 3, 0] a4 slices_S4x6x2048_S4x1x2048_0_3_0) shapeCasts_S4x1x2048_S4x2048))) shapeCasts_S4x2048x2048_S8192x2048

theorem modRow3_at (a4 : FVec Ideal S4x6x2048 .f32) (n : Fin 8192) (j : Fin 2048) : modRow3 a4 (ix2 n j) = a4 (ix3 (bOf n) 3 j) := by
  pointwise [modRow3]
  rfl

/-- Row 4 of each batch row's six modulation vectors, for every token. -/
def modRow4 (a4 : FVec Ideal S4x6x2048 .f32) : FVec Ideal S8192x2048 .f32 :=
  shapeCast _ (broadcastInDim S4x2048x2048 ![0, 1, 2] bcast_S4x1x2048_S4x2048x2048_0_1_2 (broadcastInDim S4x1x2048 ![0, 2] bcast_S4x2048_S4x1x2048_0_2 (shapeCast _ (extractStridedSlice S4x1x2048 ![0, 4, 0] a4 slices_S4x6x2048_S4x1x2048_0_4_0) shapeCasts_S4x1x2048_S4x2048))) shapeCasts_S4x2048x2048_S8192x2048

theorem modRow4_at (a4 : FVec Ideal S4x6x2048 .f32) (n : Fin 8192) (j : Fin 2048) : modRow4 a4 (ix2 n j) = a4 (ix3 (bOf n) 4 j) := by
  pointwise [modRow4]
  rfl

/-- The reference's text of the first result. -/
def refX1 (a0 : FVec Ideal S8192x9728 .bf16) (a1 : FVec Ideal S8192x1024 .bf16) (a2 : FVec Ideal S8192x1024 .bf16) (a3 : FVec Ideal S8192x2048 .f32) (a4 : FVec Ideal S4x6x2048 .f32) (a5 : FVec Ideal S4096 .f32) (a6 : FVec Ideal S1024x2048 .f32) (a7 : FVec Ideal S1024x2048 .f32) (a8 : FVec Ideal S2048x2048 .f32) : FVec Ideal S8192x2048 .f32 :=
  addf a3 (mulf (modRow2 a4) (Host.dotGeneral dot_S8192x2048_S2048x2048_S8192x2048_1_0_0_1_n_n none (addf (mulf (extractStridedSlice S8192x2048 ![0, 0] (Host.divf (broadcastInDim S8192x4096 ![] bcast_S_S8192x4096 (constant S_ .f32 0x3F800000#32)) (addf (broadcastInDim S8192x4096 ![] bcast_S_S8192x4096 (constant S_ .f32 0x3F800000#32)) (Host.exp (Host.negf (addf (extf .f32 (extractStridedSlice S8192x4096 ![0, 0] a0 slices_S8192x9728_S8192x4096_0_0) bitsLt_bf16_f32) (broadcastInDim S8192x4096 ![0, 1] bcast_S1x4096_S8192x4096_0_1 (broadcastInDim S1x4096 ![1] bcast_S4096_S1x4096_1 a5))))))) slices_S8192x4096_S8192x2048_0_0) (Host.dotGeneral dot_S8192x1024_S1024x2048_S8192x2048_1_0_0_1_n_n none (extf .f32 a1 bitsLt_bf16_f32) a6)) (mulf (extractStridedSlice S8192x2048 ![0, 2048] (Host.divf (broadcastInDim S8192x4096 ![] bcast_S_S8192x4096 (constant S_ .f32 0x3F800000#32)) (addf (broadcastInDim S8192x4096 ![] bcast_S_S8192x4096 (constant S_ .f32 0x3F800000#32)) (Host.exp (Host.negf (addf (extf .f32 (extractStridedSlice S8192x4096 ![0, 0] a0 slices_S8192x9728_S8192x4096_0_0) bitsLt_bf16_f32) (broadcastInDim S8192x4096 ![0, 1] bcast_S1x4096_S8192x4096_0_1 (broadcastInDim S1x4096 ![1] bcast_S4096_S1x4096_1 a5))))))) slices_S8192x4096_S8192x2048_0_2048) (Host.dotGeneral dot_S8192x1024_S1024x2048_S8192x2048_1_0_0_1_n_n none (extf .f32 a2 bitsLt_bf16_f32) a7))) a8))

/-- The reference's text of the second result, from the first. -/
def refH2 (X1 : FVec Ideal S8192x2048 .f32) (a4 : FVec Ideal S4x6x2048 .f32) (a9 : FVec Ideal S2048 .f32) : FVec Ideal S8192x2048 .f32 :=
  addf (mulf (mulf (mulf X1 (broadcastInDim S8192x2048 ![0, 1] bcast_S8192x1_S8192x2048_0_1 (Host.rsqrt (addf (Host.divf (broadcastInDim S8192x1 ![0] bcast_S8192_S8192x1_0 (Host.reduceAdd (mulf X1 X1) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a9))) (addf (broadcastInDim S8192x2048 ![] bcast_S_S8192x2048 (constant S_ .f32 0x3F800000#32)) (modRow4 a4))) (modRow3 a4)

theorem refX1_at (a0 : FVec Ideal S8192x9728 .bf16) (a1 : FVec Ideal S8192x1024 .bf16) (a2 : FVec Ideal S8192x1024 .bf16) (a3 : FVec Ideal S8192x2048 .f32) (a4 : FVec Ideal S4x6x2048 .f32) (a5 : FVec Ideal S4096 .f32) (a6 : FVec Ideal S1024x2048 .f32) (a7 : FVec Ideal S1024x2048 .f32) (a8 : FVec Ideal S2048x2048 .f32) (n : Fin 8192) (j : Fin 2048) :
    refX1 a0 a1 a2 a3 a4 a5 a6 a7 a8 (ix2 n j) = x1At a0 a1 a2 a3 a4 (fun k => a5 (ix1 k)) a6 a7 a8 n j := by
  unfold x1At merged
  rw [← modRow2_at a4 n j]
  unfold refX1
  generalize modRow2 a4 = x
  pointwise
  rfl

theorem refH2_at (X1 : FVec Ideal S8192x2048 .f32) (a4 : FVec Ideal S4x6x2048 .f32) (a9 : FVec Ideal S2048 .f32) (n : Fin 8192) (j : Fin 2048) :
    refH2 X1 a4 a9 (ix2 n j) = h2At (fun n j => X1 (ix2 n j)) a4 (fun k => a9 (ix1 k)) n j := by
  unfold h2At normed
  simp only [← modRow3_at, ← modRow4_at]
  unfold refH2
  generalize modRow3 a4 = x
  generalize modRow4 a4 = y
  pointwise

theorem refX1_eq (a0 : FVec Ideal S8192x9728 .bf16) (a1 : FVec Ideal S8192x1024 .bf16) (a2 : FVec Ideal S8192x1024 .bf16) (a3 : FVec Ideal S8192x2048 .f32) (a4 : FVec Ideal S4x6x2048 .f32) (a5 : FVec Ideal S4096 .f32) (a6 : FVec Ideal S1024x2048 .f32) (a7 : FVec Ideal S1024x2048 .f32) (a8 : FVec Ideal S2048x2048 .f32) :
    refX1 a0 a1 a2 a3 a4 a5 a6 a7 a8 = fun i : S8192x2048.Idx => x1At a0 a1 a2 a3 a4 (fun k => a5 (ix1 k)) a6 a7 a8 (i 0) (i 1) := by
  funext i
  idx_vars i
  exact refX1_at _ _ _ _ _ _ _ _ _ _ _

theorem refH2_eq (a0 : FVec Ideal S8192x9728 .bf16) (a1 : FVec Ideal S8192x1024 .bf16) (a2 : FVec Ideal S8192x1024 .bf16) (a3 : FVec Ideal S8192x2048 .f32) (a4 : FVec Ideal S4x6x2048 .f32) (a5 : FVec Ideal S4096 .f32) (a6 : FVec Ideal S1024x2048 .f32) (a7 : FVec Ideal S1024x2048 .f32) (a8 : FVec Ideal S2048x2048 .f32) (a9 : FVec Ideal S2048 .f32) :
    refH2 (refX1 a0 a1 a2 a3 a4 a5 a6 a7 a8) a4 a9
      = fun i : S8192x2048.Idx => h2At (x1At a0 a1 a2 a3 a4 (fun k => a5 (ix1 k)) a6 a7 a8) a4 (fun k => a9 (ix1 k)) (i 0) (i 1) := by
  funext i
  idx_vars i
  refine (refH2_at _ _ _ _ _).trans ?_
  simp only [refX1_at]

theorem res_out1_eq (m : (ℓ : Loc nD τ sig) → Buf (Elt Ideal) ℓ) (c : Dev nD) :
    Cert.Reference2Ideal.Value.res_main_v54 m c
      = refH2 (refX1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
          (m ((c.tc : Thread nD τ).loc main_arg4)) (m ((c.tc : Thread nD τ).loc main_arg9)) := rfl

end Cert.Reference2Ideal.Hand

end
-- ==== Proof.InSame.lean ====
/- The input projection and its reading over the extended reals have one text, so a run of the one is a run of the other. -/
module

public import proofs.«01_k».proof.Kernel3
public import proofs.«01_k».proof.Kernel3Ideal
public import proofs.«01_k».proof.Proof.Gen.Kernel3
public import proofs.«01_k».proof.Proof.Gen.Kernel3Ideal

@[expose] public section

noncomputable section

namespace Cert.Same3

open Idealize.ShloMosaic Idealize.SL.Sem

attribute [local instance] Cert.Kernel3.Gen.facts Cert.Kernel3Ideal.Gen.facts

variable {F : FTy → Type} [FloatOps F]

set_option maxHeartbeats 1000000 in
/-- The two kernel functions. -/
theorem body_eq : Cert.Kernel3.cc0_inproj (F := F) = Cert.Kernel3Ideal.cc0_inproj (F := F) := by
  unfold Cert.Kernel3.cc0_inproj Cert.Kernel3Ideal.cc0_inproj
  rfl

set_option maxHeartbeats 1000000 in
/-- The two mains. -/
theorem main_eq : Cert.Kernel3.main (F := F) = Cert.Kernel3Ideal.main (F := F) := rfl

set_option maxHeartbeats 1000000 in
/-- The two tables of kernel bodies. -/
theorem defs₀_eq : Cert.Kernel3.defs₀ (F := F) = Cert.Kernel3Ideal.defs₀ (F := F) := by
  unfold Cert.Kernel3.defs₀ Cert.Kernel3Ideal.defs₀
  refine congrArg Defs.onTc ?_
  funext l x
  match l, x with
  | 0, (t, s) =>
    show Cert.Kernel3.cc0_inproj (F := F) _ _ _ _ _ _ _ _ _ _ _ _ _ _ _ = _
    rw [body_eq]
    rfl

set_option maxHeartbeats 1000000 in
/-- The two body tables. -/
theorem defs_eq : Cert.Kernel3.defs (F := F) = Cert.Kernel3Ideal.defs (F := F) := by
  unfold Cert.Kernel3.defs Cert.Kernel3Ideal.defs
  rw [defs₀_eq]
  rfl

set_option maxHeartbeats 1000000 in
/-- A run of the one program is a run of the other. -/
theorem run_same (s : MemSt Cert.Kernel3Ideal.nD Cert.Kernel3Ideal.τ Cert.Kernel3Ideal.sig (Elt F))
    (P : (PUnit × MemSt Cert.Kernel3Ideal.nD Cert.Kernel3Ideal.τ Cert.Kernel3Ideal.sig (Elt F)) → Prop)
    (h : θ_run (Cert.Kernel3Ideal.defs (F := F)) (onTc (τ := Cert.Kernel3Ideal.τ) (Cert.Kernel3Ideal.main (F := F))) s P) :
    θ_run (Cert.Kernel3.defs (F := F)) (onTc (τ := Cert.Kernel3.τ) (Cert.Kernel3.main (F := F))) s P := by
  rw [defs_eq, main_eq]
  exact h

end Cert.Same3

end
-- ==== Proof.InRun.lean ====
/- One grid point of the input projection: what the body leaves in the scratch and in the results' tiles, in each of its cases. -/
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.VecWindow
public import Idealize.ShloMosaic.Lib.Tactic

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The scratch's two halves' rows. -/
abbrev rA : Rect S2048x2048 := Rect.unit (s := S2048x2048) ![0, 0] S1024x2048.size inb_S2048x2048_S1024x2048_0_0
abbrev rB : Rect S2048x2048 := Rect.unit (s := S2048x2048) ![1024, 0] S1024x2048.size inb_S2048x2048_S1024x2048_1024_0
/-- Rows 0 and 1 of the block of modulation vectors. -/
abbrev m0 : Rect S1x6x2048 := Rect.unit (s := S1x6x2048) ![0, 0, 0] S1x1x2048.size inb_S1x6x2048_S1x1x2048_0_0_0
abbrev m1 : Rect S1x6x2048 := Rect.unit (s := S1x6x2048) ![0, 1, 0] S1x1x2048.size inb_S1x6x2048_S1x1x2048_0_1_0

/-- The body's first two conditions. -/
abbrev cA (i : grid0.Coords) : BitVec 1 := Scalar.cmpi .ne (Scalar.extui (Scalar.cmpi .eq (BitVec.ofNat 32 (i 1).val) 0#32) : BitVec 32) 0#32
abbrev cB (i : grid0.Coords) : BitVec 1 := Scalar.cmpi .ne (Scalar.extui (Scalar.cmpi .eq (BitVec.ofNat 32 (i 1).val) 1#32) : BitVec 32) 0#32

theorem cA_iff : ∀ t : Fin grid0.N, cA (grid0.coords t) = 1#1 ↔ t.val % 21 = 0 := by decide +kernel
theorem cB_iff : ∀ t : Fin grid0.N, cB (grid0.coords t) = 1#1 ↔ t.val % 21 = 1 := by decide +kernel
theorem c3_iff : ∀ t : Fin grid0.N, k0_cond3 (grid0.coords t) = 1#1 ↔ 2 ≤ t.val % 21 := by decide +kernel
theorem c4_iff : ∀ t : Fin grid0.N, k0_cond4 (grid0.coords t) = 1#1 ↔ t.val % 21 = 20 := by decide +kernel

/-- What a buffer reads after a store: the payload laid over what it read before. -/
theorem read_store {κ : Kind} {sp : Space} {s : Shape} {e : EltTy} {Val : EltTy → Type} (v : View sig κ sp s e) (f : v.ty.Contents Val) (r : Rect s)
    (w : r.shape.Idx → Val e) : v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [r.overlay_of_not_mem _ _ hy]
    exact View.read_slice_write_of_not_mem r _ _ _ (by rwa [Rect.map_emb_univ])

variable (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S2048x128 .f32) (harg7 : arg7.IsWhole) (arg8 : Memref sig .tc .vmem S2048x2048 .bf16) (harg8 : arg8.IsWhole)
  (X : S1024x2048.Idx → Elt F .f32) (M : S1x6x2048.Idx → Elt F .f32) (G : S1x2048.Idx → Elt F .f32) (S : S2048x2048.Idx → Elt F .bf16) (W : S512x2048.Idx → Elt F .bf16)

set_option maxHeartbeats 4000000 in
/-- The first point of a block of rows fills the scratch's upper half. -/
theorem runA (Q : PUnit → sProp 𝕄) (hA : cA i = 1#1) (hB : ¬cB i = 1#1) (h3 : ¬k0_cond3 i = 1#1) :
    iprop(owns (c : Thread nD τ) arg2 fullShare X ∗ owns (c : Thread nD τ) arg3 fullShare M ∗ owns (c : Thread nD τ) arg4 fullShare G ∗ owns (c : Thread nD τ) arg8 fullShare S
      ∗ (iprop(owns (c : Thread nD τ) arg2 fullShare X ∗ owns (c : Thread nD τ) arg3 fullShare M ∗ owns (c : Thread nD τ) arg4 fullShare G
        ∗ owns (c : Thread nD τ) arg8 fullShare (rA.overlay S (k0_pay1 X G (View.ld M m0) (View.ld M m1)))) -∗ Q ⟨⟩))
      ⊢ wp frame (wpE (defs₀ (F := F)) Variants.none c none) Set.univ (cc0_inproj i arg2 harg2 arg3 harg3 arg4 harg4 arg5 harg5 arg6 harg6 arg7 harg7 arg8 harg8) Q := by
  rw [cc0_inproj_eq_skeleton]; unfold cc0_inproj_skel
  dsimp only
  rw [dif_pos hA]
  simp only [dif_neg hB, dif_neg h3]
  unfold owns
  istart
  iintro ⟨⟨%fx, %hx, HX⟩, ⟨%fm, %hm, HM⟩, ⟨%fg, %hg, HG⟩, ⟨%fs, %hs, HS⟩, HK⟩
  sl_exec
  simp only [wp_ret]; imodintro; iapply HK
  isplitl [HX]; · iexists _; isplitr; · ipureintro; exact hx
                  iexact HX
  isplitl [HM]; · iexists _; isplitr; · ipureintro; exact hm
                  iexact HM
  isplitl [HG]; · iexists _; isplitr; · ipureintro; exact hg
                  iexact HG
  iexists _; isplitr; swap; · iexact HS
  ipureintro
  subst hx hm hg hs
  rw [read_store]
  rw [View.readAt_full, View.readAt_full]
  rfl

set_option maxHeartbeats 4000000 in
/-- The second point fills the lower half. -/
theorem runB (Q : PUnit → sProp 𝕄) (hA : ¬cA i = 1#1) (hB : cB i = 1#1) (h3 : ¬k0_cond3 i = 1#1) :
    iprop(owns (c : Thread nD τ) arg2 fullShare X ∗ owns (c : Thread nD τ) arg3 fullShare M ∗ owns (c : Thread nD τ) arg4 fullShare G ∗ owns (c : Thread nD τ) arg8 fullShare S
      ∗ (iprop(owns (c : Thread nD τ) arg2 fullShare X ∗ owns (c : Thread nD τ) arg3 fullShare M ∗ owns (c : Thread nD τ) arg4 fullShare G
        ∗ owns (c : Thread nD τ) arg8 fullShare (rB.overlay S (k0_pay2 X G (View.ld M m0) (View.ld M m1)))) -∗ Q ⟨⟩))
      ⊢ wp frame (wpE (defs₀ (F := F)) Variants.none c none) Set.univ (cc0_inproj i arg2 harg2 arg3 harg3 arg4 harg4 arg5 harg5 arg6 harg6 arg7 harg7 arg8 harg8) Q := by
  rw [cc0_inproj_eq_skeleton]; unfold cc0_inproj_skel
  dsimp only
  simp only [dif_neg hA]
  rw [dif_pos hB]
  simp only [dif_neg h3]
  unfold owns
  istart
  iintro ⟨⟨%fx, %hx, HX⟩, ⟨%fm, %hm, HM⟩, ⟨%fg, %hg, HG⟩, ⟨%fs, %hs, HS⟩, HK⟩
  sl_exec
  simp only [wp_ret]; imodintro; iapply HK
  isplitl [HX]; · iexists _; isplitr; · ipureintro; exact hx
                  iexact HX
  isplitl [HM]; · iexists _; isplitr; · ipureintro; exact hm
                  iexact HM
  isplitl [HG]; · iexists _; isplitr; · ipureintro; exact hg
                  iexact HG
  iexists _; isplitr; swap; · iexact HS
  ipureintro
  subst hx hm hg hs
  rw [read_store]
  rw [View.readAt_full, View.readAt_full]
  rfl

set_option maxHeartbeats 4000000 in
/-- A later point multiplies the scratch with its block of weights. -/
theorem runC (Q : PUnit → sProp 𝕄) (hA : ¬cA i = 1#1) (hB : ¬cB i = 1#1) (h3 : k0_cond3 i = 1#1) (h4 : ¬k0_cond4 i = 1#1) (O : S2048x512.Idx → Elt F .bf16) :
    iprop(owns (c : Thread nD τ) arg5 fullShare W ∗ owns (c : Thread nD τ) arg8 fullShare S ∗ owns (c : Thread nD τ) arg6 fullShare O
      ∗ (iprop(owns (c : Thread nD τ) arg5 fullShare W ∗ owns (c : Thread nD τ) arg8 fullShare S ∗ owns (c : Thread nD τ) arg6 fullShare (k0_pay4 S W)) -∗ Q ⟨⟩))
      ⊢ wp frame (wpE (defs₀ (F := F)) Variants.none c none) Set.univ (cc0_inproj i arg2 harg2 arg3 harg3 arg4 harg4 arg5 harg5 arg6 harg6 arg7 harg7 arg8 harg8) Q := by
  rw [cc0_inproj_eq_skeleton]; unfold cc0_inproj_skel
  dsimp only
  simp only [dif_neg hA, dif_neg hB]
  rw [dif_pos h3]
  simp only [dif_neg h4]
  unfold owns
  istart
  iintro ⟨⟨%fw, %hw, HW⟩, ⟨%fs, %hs, HS⟩, ⟨%fo, %ho, HO⟩, HK⟩
  sl_exec
  simp only [wp_ret]; imodintro; iapply HK
  isplitl [HW]; · iexists _; isplitr; · ipureintro; exact hw
                  iexact HW
  isplitl [HS]; · iexists _; isplitr; · ipureintro; exact hs
                  iexact HS
  iexists _; isplitr; swap; · iexact HO
  ipureintro
  subst hw hs ho
  rw [View.read_writes_full, View.readAt_full, View.readAt_full]

set_option maxHeartbeats 4000000 in
/-- The last point of a block of rows also leaves the product's own columns in the second result's tile. -/
theorem runD (Q : PUnit → sProp 𝕄) (hA : ¬cA i = 1#1) (hB : ¬cB i = 1#1) (h3 : k0_cond3 i = 1#1) (h4 : k0_cond4 i = 1#1) (O : S2048x512.Idx → Elt F .bf16) (Z : S2048x128.Idx → Elt F .f32) :
    iprop(owns (c : Thread nD τ) arg5 fullShare W ∗ owns (c : Thread nD τ) arg8 fullShare S ∗ owns (c : Thread nD τ) arg6 fullShare O ∗ owns (c : Thread nD τ) arg7 fullShare Z
      ∗ (iprop(owns (c : Thread nD τ) arg5 fullShare W ∗ owns (c : Thread nD τ) arg8 fullShare S ∗ owns (c : Thread nD τ) arg6 fullShare (k0_pay4 S W)
        ∗ owns (c : Thread nD τ) arg7 fullShare (k0_pay5 S W)) -∗ Q ⟨⟩))
      ⊢ wp frame (wpE (defs₀ (F := F)) Variants.none c none) Set.univ (cc0_inproj i arg2 harg2 arg3 harg3 arg4 harg4 arg5 harg5 arg6 harg6 arg7 harg7 arg8 harg8) Q := by
  rw [cc0_inproj_eq_skeleton]; unfold cc0_inproj_skel
  dsimp only
  simp only [dif_neg hA, dif_neg hB]
  rw [dif_pos h3]
  simp only [dif_pos h4]
  unfold owns
  istart
  iintro ⟨⟨%fw, %hw, HW⟩, ⟨%fs, %hs, HS⟩, ⟨%fo, %ho, HO⟩, ⟨%fz, %hz, HZ⟩, HK⟩
  sl_exec
  simp only [wp_ret]; imodintro; iapply HK
  isplitl [HW]; · iexists _; isplitr; · ipureintro; exact hw
                  iexact HW
  isplitl [HS]; · iexists _; isplitr; · ipureintro; exact hs
                  iexact HS
  isplitl [HO]
  · iexists _; isplitr; swap; · iexact HO
    ipureintro
    subst hw hs ho
    rw [View.read_writes_full, View.readAt_full, View.readAt_full]
  iexists _; isplitr; swap; · iexact HZ
  ipureintro
  subst hw hs hz
  rw [View.read_writes_full, View.readAt_full, View.readAt_full]

end Cert.Kernel3Ideal.Hand
end
-- ==== Proof.InFrame.lean ====
/- The run of the input projection: the scratch between points, the pipeline's proof data, and the frame. -/
module

public import proofs.«01_k».proof.Proof.InRun

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## When the results' tiles are written -/

theorem flush4 : ∀ t : Fin cfg0.N, (cfg0.win 4).flush t = true ↔ 2 ≤ t.val % 21 := (by decide +kernel : ∀ t : Fin grid0.N, win0_4.flush t = true ↔ 2 ≤ t.val % 21)
theorem idle4 : ∀ t : Fin cfg0.N, cfg0.idle 4 (cfg0.grid.coords t) = true ↔ t.val % 21 < 2 := (by decide +kernel : ∀ t : Fin grid0.N, idle0 4 (grid0.coords t) = true ↔ t.val % 21 < 2)
theorem idle5 : ∀ t : Fin cfg0.N, cfg0.idle 5 (cfg0.grid.coords t) = true ↔ t.val % 21 ≠ 20 := (by decide +kernel : ∀ t : Fin grid0.N, idle0 5 (grid0.coords t) = true ↔ t.val % 21 ≠ 20)

/-! ## The scratch -/

/-- The grid's point of a number. -/
def pt (n : ℕ) : Fin cfg0.N := ⟨n % 84, Nat.mod_lt n (by decide : 0 < 84)⟩

theorem pt_eq (t : Fin cfg0.N) (n : ℕ) (h : t.val = n) : t = pt n := by
  have ht : t.val < 84 := t.isLt
  exact Fin.ext (by show t.val = n % 84; omega)

/-- The two halves of the scratch in block of rows `b`. -/
def halfA (c : Dev nD) (b : ℕ) : S1024x2048.Idx → Elt F .bf16 :=
  k0_pay1 (iblk m c 0 (pt (21 * b))) (iblk m c 2 (pt (21 * b))) (View.ld (iblk m c 1 (pt (21 * b)) : S1x6x2048.Idx → Elt F .f32) m0) (View.ld (iblk m c 1 (pt (21 * b)) : S1x6x2048.Idx → Elt F .f32) m1)
def halfB (c : Dev nD) (b : ℕ) : S1024x2048.Idx → Elt F .bf16 :=
  k0_pay2 (iblk m c 0 (pt (21 * b + 1))) (iblk m c 2 (pt (21 * b + 1))) (View.ld (iblk m c 1 (pt (21 * b + 1)) : S1x6x2048.Idx → Elt F .f32) m0) (View.ld (iblk m c 1 (pt (21 * b + 1)) : S1x6x2048.Idx → Elt F .f32) m1)

/-- The scratch with both halves filled. -/
def full (c : Dev nD) (b : ℕ) : S2048x2048.Idx → Elt F .bf16 :=
  rB.overlay (rA.overlay (fun _ => Scalar.ofBits .bf16 0#16) (halfA m c b)) (halfB m c b)

/-- Two stores that cover the scratch leave nothing of what it held. -/
theorem overlay_all (S S' : S2048x2048.Idx → Elt F .bf16) (A B : S1024x2048.Idx → Elt F .bf16) :
    rB.overlay (rA.overlay S A) B = rB.overlay (rA.overlay S' A) B := by
  funext y
  by_cases hy : y ∈ rB.set
  · obtain ⟨x, rfl⟩ : ∃ x, rB.emb x = y := rB.exists_idx_of_mem hy
    rw [Rect.overlay_emb, Rect.overlay_emb]
  · rw [rB.overlay_of_not_mem _ _ hy, rB.overlay_of_not_mem _ _ hy]
    have hlt : (y 0).val < 1024 := by
      by_contra hge
      refine hy ?_
      have h0 : (y 0).val < 2048 := (y 0).isLt
      have e : rB.emb (fun a => match a with
        | ⟨0, _⟩ => (⟨(y 0).val - 1024, by omega⟩ : Fin 1024)
        | ⟨1, _⟩ => (y 1 : Fin 2048)) = y := by
        funext a; apply Fin.ext
        match a with
        | ⟨0, _⟩ => show 1024 + 1 * ((y 0).val - 1024) = (y 0).val; omega
        | ⟨1, _⟩ => show 0 + 1 * (y 1).val = (y 1).val; omega
      rw [← e]
      exact rB.toLoadRect.idx_mem _
    have e : rA.emb (fun a => match a with
        | ⟨0, _⟩ => (⟨(y 0).val, hlt⟩ : Fin 1024)
        | ⟨1, _⟩ => (y 1 : Fin 2048)) = y := by
      funext a; apply Fin.ext
      match a with
      | ⟨0, _⟩ => show 0 + 1 * (y 0).val = (y 0).val; omega
      | ⟨1, _⟩ => show 0 + 1 * (y 1).val = (y 1).val; omega
    rw [← e, Rect.overlay_emb, Rect.overlay_emb]

/-- What the scratch holds before point `n`. -/
def Good (c : Dev nD) (n : ℕ) (S : S2048x2048.Idx → Elt F .bf16) : Prop :=
  (n % 21 = 1 → ∃ S0, S = rA.overlay S0 (halfA m c (n / 21))) ∧ (2 ≤ n % 21 → S = full m c (n / 21))

theorem good_A (c : Dev nD) (t : Fin cfg0.N) (h : t.val % 21 = 0) (S : S2048x2048.Idx → Elt F .bf16) :
    Good m c (t.val + 1) (rA.overlay S (k0_pay1 (iblk m c 0 t) (iblk m c 2 t) (View.ld (iblk m c 1 t : S1x6x2048.Idx → Elt F .f32) m0) (View.ld (iblk m c 1 t : S1x6x2048.Idx → Elt F .f32) m1))) := by
  refine ⟨fun _ => ⟨S, ?_⟩, fun h2 => by omega⟩
  unfold halfA
  rw [← pt_eq t (21 * ((t.val + 1) / 21)) (by omega)]

theorem good_B (c : Dev nD) (t : Fin cfg0.N) (h : t.val % 21 = 1) (S : S2048x2048.Idx → Elt F .bf16) (hS : Good m c t.val S) :
    Good m c (t.val + 1) (rB.overlay S (k0_pay2 (iblk m c 0 t) (iblk m c 2 t) (View.ld (iblk m c 1 t : S1x6x2048.Idx → Elt F .f32) m0) (View.ld (iblk m c 1 t : S1x6x2048.Idx → Elt F .f32) m1))) := by
  refine ⟨fun h1 => by omega, fun _ => ?_⟩
  obtain ⟨S0, rfl⟩ := hS.1 h
  have e : (t.val + 1) / 21 = t.val / 21 := by omega
  rw [e]
  unfold full
  unfold halfB
  rw [← pt_eq t (21 * (t.val / 21) + 1) (by omega)]
  exact overlay_all _ _ _ _

theorem good_C (c : Dev nD) (t : Fin cfg0.N) (h : 2 ≤ t.val % 21) (S : S2048x2048.Idx → Elt F .bf16) (hS : Good m c t.val S) : Good m c (t.val + 1) S := by
  refine ⟨fun h1 => by omega, fun h2 => ?_⟩
  have e : (t.val + 1) / 21 = t.val / 21 := by omega
  rw [e]; exact hS.2 h

/-! ## The proof data -/

abbrev scM : Memref sig .tc .vmem S2048x2048 .bf16 := Memref.whole cc0_scratch0

/-- Between points: the scratch as the points before left it. -/
def Phi (c : Dev nD) (n : ℕ) : sProp 𝕄 :=
  iprop((∃ S, ⌜Good m c n S⌝ ∗ owns (c : Thread nD τ) scM fullShare S) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (full m c (t.val / 21)) (iblk m c 3 t)
    | ⟨5, _⟩ => k0_pay5 (full m c (t.val / 21)) (iblk m c 3 t)
  Φ t := Phi m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := rfl
theorem after1 (c : Dev nD) (t : Fin cfg0.N) : (dats m 0 c).after 1 t = iblk m c 1 t := rfl
theorem after2 (c : Dev nD) (t : Fin cfg0.N) : (dats m 0 c).after 2 t = iblk m c 2 t := rfl
theorem after3 (c : Dev nD) (t : Fin cfg0.N) : (dats m 0 c).after 3 t = iblk m c 3 t := rfl
theorem after4 (c : Dev nD) (t : Fin cfg0.N) : (dats m 0 c).after 4 t = k0_pay4 (full m c (t.val / 21)) (iblk m c 3 t) := rfl
theorem after5 (c : Dev nD) (t : Fin cfg0.N) : (dats m 0 c).after 5 t = k0_pay5 (full m c (t.val / 21)) (iblk m c 3 t) := rfl

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

/-- A result's tile at a point that does not write it, and at one that does. -/
theorem leaves_idle (c : Dev nD) (w : Fin cfg0.W) (t : Fin cfg0.N) (hi : cfg0.idle w (cfg0.grid.coords t) = true) (hf : ¬(cfg0.win w).flush t = true) :
    (dats m 0 c).leavesExact w t = iprop(∃ d, owns (c : Thread nD τ) ((cfg0.win w).stage (cfg0.slots t w)) fullShare ((dats m 0 c).before w t d)) :=
  (dats m 0 c).leavesExact_idle w t hi (Bool.eq_false_iff.2 hf)
theorem leaves_live (c : Dev nD) (w : Fin cfg0.W) (t : Fin cfg0.N) (hi : ¬cfg0.idle w (cfg0.grid.coords t) = true) :
    (dats m 0 c).leavesExact w t = owns (c : Thread nD τ) ((cfg0.win w).stage (cfg0.slots t w)) fullShare ((dats m 0 c).after w t) := by
  unfold Dat.leavesExact; rw [Bool.eq_false_iff.2 hi]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ (dats m 0 c).leavesExact 5 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.castSucc = Phi m c t.val from rfl, show (dats m 0 c).Φ t.succ = Phi m c (t.val + 1) from rfl,
    show (dats m 0 c).owesAt () t.succ = (dats m 0 c).owesAt () t.castSucc from rfl, after0, after1, after2, after3]
  unfold Phi
  have ht : t.val < 84 := t.isLt
  have hf4 := flush4 t
  have hf5 := flush0_5 t
  have hi4 := idle4 t
  have hi5 := idle5 t
  iintro ⟨⟨⟨%S, %hS, HS⟩, HR⟩, Ho, ⟨%d0, H0⟩, ⟨%d1, H1⟩, ⟨%d2, H2⟩, ⟨%d3, H3⟩, ⟨%d4, H4⟩, ⟨%d5, H5⟩⟩
  by_cases h2 : 2 ≤ t.val % 21
  · have hA := mt (cA_iff t).1 (by omega)
    have hB := mt (cB_iff t).1 (by omega)
    have h3 := (c3_iff t).2 h2
    rw [leaves_live m c 4 t (mt hi4.1 (by omega)), after4, ← hS.2 h2]
    by_cases h4 : t.val % 21 = 20
    · rw [leaves_live m c 5 t (mt hi5.1 (by omega)), after5, ← hS.2 h2]
      iapply (runD c (grid0.coords t) _ _ _ _ _ _ _ _ _ _ _ _ _ _ S (iblk m c 3 t) _ hA hB h3 ((c4_iff t).2 h4) _ _)
      isplitl [H3]; · iexact H3
      isplitl [HS]; · iexact HS
      isplitl [H4]; · iexact H4
      isplitl [H5]; · iexact H5
      iintro ⟨H3, HS, H4, H5⟩
      isplitl [HS HR]
      · isplitl [HS]
        · iexists S
          isplitr; · ipureintro; exact good_C m c t h2 S hS
          iexact HS
        iexact HR
      isplitl [Ho]; · iexact Ho
      isplitl [H0]; · iexact H0
      isplitl [H1]; · iexact H1
      isplitl [H2]; · iexact H2
      isplitl [H3]; · iexact H3
      isplitl [H4]; · iexact H4
      iexact H5
    · rw [leaves_idle m c 5 t (hi5.2 h4) (mt hf5.1 h4)]
      iapply (runC c (grid0.coords t) _ _ _ _ _ _ _ _ _ _ _ _ _ _ S (iblk m c 3 t) _ hA hB h3 (mt (c4_iff t).1 h4) _)
      isplitl [H3]; · iexact H3
      isplitl [HS]; · iexact HS
      isplitl [H4]; · iexact H4
      iintro ⟨H3, HS, H4⟩
      isplitl [HS HR]
      · isplitl [HS]
        · iexists S
          isplitr; · ipureintro; exact good_C m c t h2 S hS
          iexact HS
        iexact HR
      isplitl [Ho]; · iexact Ho
      isplitl [H0]; · iexact H0
      isplitl [H1]; · iexact H1
      isplitl [H2]; · iexact H2
      isplitl [H3]; · iexact H3
      isplitl [H4]; · iexact H4
      iexists d5; iexact H5
  · rw [leaves_idle m c 4 t (hi4.2 (by omega)) (mt hf4.1 h2), leaves_idle m c 5 t (hi5.2 (by omega)) (mt hf5.1 (by omega))]
    have h3 := mt (c3_iff t).1 h2
    by_cases h0 : t.val % 21 = 0
    · iapply (runA c (grid0.coords t) _ _ _ _ _ _ _ _ _ _ _ _ _ _ (iblk m c 0 t) (iblk m c 1 t) (iblk m c 2 t) S _ ((cA_iff t).2 h0) (mt (cB_iff t).1 (by omega)) h3)
      isplitl [H0]; · iexact H0
      isplitl [H1]; · iexact H1
      isplitl [H2]; · iexact H2
      isplitl [HS]; · iexact HS
      iintro ⟨H0, H1, H2, HS⟩
      isplitl [HS HR]
      · isplitl [HS]
        · iexists _
          isplitr; swap; · iexact HS
          ipureintro; exact good_A m c t h0 S
        iexact HR
      isplitl [Ho]; · iexact Ho
      isplitl [H0]; · iexact H0
      isplitl [H1]; · iexact H1
      isplitl [H2]; · iexact H2
      isplitl [H3]; · iexact H3
      isplitl [H4]; · iexists d4; iexact H4
      iexists d5; iexact H5
    · iapply (runB c (grid0.coords t) _ _ _ _ _ _ _ _ _ _ _ _ _ _ (iblk m c 0 t) (iblk m c 1 t) (iblk m c 2 t) S _ (mt (cA_iff t).1 h0) ((cB_iff t).2 (by omega)) h3)
      isplitl [H0]; · iexact H0
      isplitl [H1]; · iexact H1
      isplitl [H2]; · iexact H2
      isplitl [HS]; · iexact HS
      iintro ⟨H0, H1, H2, HS⟩
      isplitl [HS HR]
      · isplitl [HS]
        · iexists _
          isplitr; swap; · iexact HS
          ipureintro; exact good_B m c t (by omega) S hS
        iexact HR
      isplitl [Ho]; · iexact Ho
      isplitl [H0]; · iexact H0
      isplitl [H1]; · iexact H1
      isplitl [H2]; · iexact H2
      isplitl [H3]; · iexact H3
      isplitl [H4]; · iexists d4; iexact H4
      iexists d5; iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      show _ ⊢ Phi m c 0
      unfold Pipeline.ΦA Phi
      rw [scopedRest0_eq]
      iintro ⟨⟨%f, HS⟩, HR⟩
      isplitl [HS]
      · iexists f
        isplitr
        · ipureintro
          exact ⟨fun h => absurd h (by decide), fun h => absurd h (by decide)⟩
        rw [owns_whole]
        iexact HS
      iexact HR)
    (hout := fun c => by
      show Phi m c 84 ⊢ _
      unfold Pipeline.ΦA Phi
      rw [scopedRest0_eq]
      simp only [owns_whole]
      iintro ⟨⟨%S, -, HS⟩, HR⟩
      isplitl [HS]
      · iexists S
        iexact HS
      iexact HR)

/-- The frame at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨((h.1 c).1 0).trans (((dats m 0 c).arrAt_in 0 rfl _).trans (V_main_arg0 m c)),
      ((h.1 c).1 1).trans (((dats m 0 c).arrAt_in 1 rfl _).trans (V_main_arg1 m c)),
      ((h.1 c).2 main_arg2 (Pipeline.mem_restRefs_of main_arg2 (by decide) (by decide))).trans (V_main_arg2 m c),
      ((h.1 c).1 3).trans (((dats m 0 c).arrAt_in 3 rfl _).trans (V_main_arg3 m c))⟩, h.2⟩)
    (run_main m ρ)

/-- The run's two result arrays, as the pipeline's write-backs leave them, and the arguments. -/
theorem run_blocks : θ_run defs (onTc (τ := τ) (main (F := F))) ⟨m, fun _ => 0, ρ⟩ (fun r => ∀ c : Dev nD,
      r.2.mem ((c.tc : Thread nD τ).loc main_v1_0) = (dats m 0 c).arrAt 4 cfg0.N
      ∧ r.2.mem ((c.tc : Thread nD τ).loc main_v1_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1 4, (h.1 c).1 5, ((h.1 c).1 0).trans (((dats m 0 c).arrAt_in 0 rfl _).trans (V_main_arg0 m c)),
      ((h.1 c).1 1).trans (((dats m 0 c).arrAt_in 1 rfl _).trans (V_main_arg1 m c)),
      ((h.1 c).2 main_arg2 (Pipeline.mem_restRefs_of main_arg2 (by decide) (by decide))).trans (V_main_arg2 m c),
      ((h.1 c).1 3).trans (((dats m 0 c).arrAt_in 3 rfl _).trans (V_main_arg3 m c))⟩)
    (run_main m ρ)

end Cert.Kernel3Ideal.Hand
end
-- ==== Proof.InOut.lean ====
/- The input projection's two result arrays. -/
module

public import proofs.«01_k».proof.Proof.InFrame
public import proofs.«01_k».proof.Proof.MergeOut
public import Idealize.ShloMosaic.Lib.Pointwise
public import Idealize.ShloMosaic.Lib.Pipeline.ValueKit

@[expose] public section

set_option maxRecDepth 16384

noncomputable section

namespace Cert.Kernel3Ideal.Hand

open Cert.Kernel3Ideal Cert.Kernel3Ideal.Gen
open Idealize.ShloMosaic Idealize.ShloMosaic.TcCoe Idealize.SL.Sem
open Idealize.ShloMosaic.Pipeline (Dat)
open Cert.Kernel2Ideal.Hand (bOf normed normed_congr)

attribute [local instance] Cert.Kernel3Ideal.Gen.facts

/-- The modulated normalized rows: the projection's left factor. -/
def hAt (X : S8192x2048.Idx → EReal) (M : S4x6x2048.Idx → EReal) (g : Fin 2048 → EReal) (n : Fin 8192) (k : Fin 2048) : EReal :=
  normed (fun d => X (ix2 n d)) g (fun d => M (ix3 (bOf n) 1 d)) (fun d => M (ix3 (bOf n) 0 d)) k

/-- The projection at an element. -/
def projAt (X : S8192x2048.Idx → EReal) (M : S4x6x2048.Idx → EReal) (g : Fin 2048 → EReal) (W : S9728x2048.Idx → EReal) (n : Fin 8192) (j : Fin 9728) : EReal :=
  ∑ k : Fin 2048, hAt X M g n k * W (ix2 j k)

theorem pay1_at (x : Vec Ideal S1024x2048 .f32) (g : Vec Ideal S1x2048 .f32) (s0 s1 : Vec Ideal S1x1x2048 .f32) (r : Fin 1024) (j : Fin 2048) :
    k0_pay1 x g s0 s1 (ix2 r j) = normed (fun k => x (ix2 r k)) (fun k => g (ix2 0 k)) (fun k => s1 (ix3 0 0 k)) (fun k => s0 (ix3 0 0 k)) j := by
  unfold normed
  pointwise [k0_pay1]

theorem pay2_at (x : Vec Ideal S1024x2048 .f32) (g : Vec Ideal S1x2048 .f32) (s0 s1 : Vec Ideal S1x1x2048 .f32) (r : Fin 1024) (j : Fin 2048) :
    k0_pay2 x g s0 s1 (ix2 r j) = normed (fun k => x (ix2 r k)) (fun k => g (ix2 0 k)) (fun k => s1 (ix3 0 0 k)) (fun k => s0 (ix3 0 0 k)) j := by
  unfold normed
  pointwise [k0_pay2]

theorem pay4_at (S : Vec Ideal S2048x2048 .bf16) (W : Vec Ideal S512x2048 .bf16) (r : Fin 2048) (j : Fin 512) :
    k0_pay4 S W (ix2 r j) = ∑ k : Fin 2048, S (ix2 r k) * W (ix2 j k) := by
  pointwise [k0_pay4, k0_pay3]

theorem pay5_at (S : Vec Ideal S2048x2048 .bf16) (W : Vec Ideal S512x2048 .bf16) (r : Fin 2048) (j : Fin 128) :
    k0_pay5 S W (ix2 r j) = ∑ k : Fin 2048, S (ix2 r k) * W (ix2 ⟨256 + j.val, by omega⟩ k) := by
  pointwise [k0_pay5, k0_pay3]

variable (m : (ℓ : Loc nD τ sig) → Buf (Elt Ideal) ℓ) (ρ : Dev nD → PrngReg)

theorem V_v0 (c : Dev nD) : V m c main_v0 = shapeCast _ (m ((c.tc : Thread nD τ).loc main_arg2)) shapeCasts_S2048_S1x2048 := by
  unfold V
  after_results_simp <;> rfl

theorem row_short (x : FVec Ideal S2048 .f32) (k : Fin 2048) : (shapeCast S1x2048 x shapeCasts_S2048_S1x2048 : FVec Ideal S1x2048 .f32) (ix2 0 k) = x (ix1 k) := by
  pointwise

theorem v0_at (c : Dev nD) (k : Fin 2048) : (V m c main_v0 : FVec Ideal S1x2048 .f32) (ix2 0 k) = (m ((c.tc : Thread nD τ).loc main_arg2) : FVec Ideal S2048 .f32) (ix1 k) := by
  rw [V_v0]
  exact row_short _ k

theorem i0 : ∀ t : Fin cfg0.N, win0_0.index t = ![2 * (t.val / 21) + min (t.val % 21) 1, 0] := (by decide +kernel : ∀ t : Fin grid0.N, _)
theorem i1 : ∀ t : Fin cfg0.N, win0_1.index t = ![t.val / 21, 0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![t.val % 21 - 2, 0] := (by decide +kernel : ∀ t : Fin grid0.N, _)
theorem i4 : ∀ t : Fin cfg0.N, win0_4.index t = ![t.val / 21, t.val % 21 - 2] := (by decide +kernel : ∀ t : Fin grid0.N, _)
theorem i5 : ∀ t : Fin cfg0.N, win0_5.index t = ![t.val / 21, 0] := (by decide +kernel : ∀ t : Fin grid0.N, _)

variable (c : Dev nD)

/-- The token a row of the scratch is. -/
def tok (b : ℕ) (hb : b < 4) (r : Fin 2048) : Fin 8192 := ⟨b * 2048 + r.val, by omega⟩

/-- The column of the packed weights a row of a point's block of them is. -/
def col (t : Fin cfg0.N) (j : Fin 512) : Fin 9728 := ⟨(t.val % 21 - 2) * 512 + j.val, by omega⟩

theorem b0 (t : Fin cfg0.N) (r : Fin 1024) (k : Fin 2048) (n : Fin 8192) (hn : n.val = (2 * (t.val / 21) + min (t.val % 21) 1) * 1024 + r.val) :
    (iblk m c 0 t : FVec Ideal S1024x2048 .f32) (ix2 r k) = (m ((c.tc : Thread nD τ).loc main_arg0) : FVec Ideal S8192x2048 .f32) (ix2 n k) := by
  rw [← V_main_arg0 m c]
  blk_simp [iblk, i0]
  congr 1
  blk_ext [i0, hn]

theorem b1 (t : Fin cfg0.N) (p : Fin 6) (k : Fin 2048) (b : Fin 4) (hb : b.val = t.val / 21) :
    (iblk m c 1 t : FVec Ideal S1x6x2048 .f32) (ix3 0 p k) = (m ((c.tc : Thread nD τ).loc main_arg1) : FVec Ideal S4x6x2048 .f32) (ix3 b p k) := by
  rw [← V_main_arg1 m c]
  blk_simp [iblk, i1]
  congr 1
  blk_ext [i1, hb]

theorem b2 (t : Fin cfg0.N) (k : Fin 2048) : (iblk m c 2 t : FVec Ideal S1x2048 .f32) (ix2 0 k) = (m ((c.tc : Thread nD τ).loc main_arg2) : FVec Ideal S2048 .f32) (ix1 k) := by
  refine Eq.trans ?_ (v0_at m c _)
  blk_simp [iblk, i2]
  congr 1
  blk_ext [i2]

theorem b3 (t : Fin cfg0.N) (j : Fin 512) (k : Fin 2048) : (iblk m c 3 t : FVec Ideal S512x2048 .bf16) (ix2 j k) = (m ((c.tc : Thread nD τ).loc main_arg3) : FVec Ideal S9728x2048 .bf16) (ix2 (col t j) k) := by
  rw [← V_main_arg3 m c]
  blk_simp [iblk, i3]
  congr 1
  blk_ext [i3, col]

/-- The left factor of the arguments. -/
def hM (n : Fin 8192) (k : Fin 2048) : EReal :=
  hAt (m ((c.tc : Thread nD τ).loc main_arg0)) (m ((c.tc : Thread nD τ).loc main_arg1)) (fun k => (m ((c.tc : Thread nD τ).loc main_arg2) : FVec Ideal S2048 .f32) (ix1 k)) n k

/-- The projection of the arguments. -/
def projM (n : Fin 8192) (j : Fin 9728) : EReal :=
  projAt (m ((c.tc : Thread nD τ).loc main_arg0)) (m ((c.tc : Thread nD τ).loc main_arg1)) (fun k => (m ((c.tc : Thread nD τ).loc main_arg2) : FVec Ideal S2048 .f32) (ix1 k)) (m ((c.tc : Thread nD τ).loc main_arg3)) n j

/-- Rows 0 and 1 of the block of modulation vectors. -/
theorem ld_m0 (x : Vec Ideal S1x6x2048 .f32) (j : Fin 2048) : (View.ld x m0 : Vec Ideal S1x1x2048 .f32) (ix3 0 0 j) = x (ix3 0 0 j) :=
  congrArg x (funext fun a => Fin.ext (by
    match a with
    | ⟨0, _⟩ => rfl
    | ⟨1, _⟩ => exact Nat.add_zero _
    | ⟨2, _⟩ => exact (Nat.zero_add _).trans (Nat.one_mul _)))

theorem ld_m1 (x : Vec Ideal S1x6x2048 .f32) (j : Fin 2048) : (View.ld x m1 : Vec Ideal S1x1x2048 .f32) (ix3 0 0 j) = x (ix3 0 1 j) :=
  congrArg x (funext fun a => Fin.ext (by
    match a with
    | ⟨0, _⟩ => rfl
    | ⟨1, _⟩ => exact Nat.add_zero _
    | ⟨2, _⟩ => exact (Nat.zero_add _).trans (Nat.one_mul _)))

theorem pt_val (n : ℕ) (h : n < 84) : (pt n).val = n := Nat.mod_eq_of_lt h

theorem halfA_at (b : ℕ) (hb : b < 4) (r : Fin 1024) (k : Fin 2048) :
    halfA m c b (ix2 r k) = hM m c (tok b hb ⟨r.val, by omega⟩) k := by
  have hp : (pt (21 * b)).val = 21 * b := pt_val _ (by omega)
  unfold halfA
  refine (pay1_at _ _ _ _ r k).trans ?_
  unfold hM hAt
  refine normed_congr (fun d => b0 m c _ r d _ ?_) (b2 m c _) (fun d => (ld_m1 _ d).trans (b1 m c _ 1 d _ ?_)) (fun d => (ld_m0 _ d).trans (b1 m c _ 0 d _ ?_)) k
  · rw [hp]; show b * 2048 + r.val = _; omega
  · rw [hp]; show (b * 2048 + r.val) / 2048 = _; omega
  · rw [hp]; show (b * 2048 + r.val) / 2048 = _; omega

theorem halfB_at (b : ℕ) (hb : b < 4) (r : Fin 1024) (k : Fin 2048) :
    halfB m c b (ix2 r k) = hM m c (tok b hb ⟨1024 + r.val, by omega⟩) k := by
  have hp : (pt (21 * b + 1)).val = 21 * b + 1 := pt_val _ (by omega)
  unfold halfB
  refine (pay2_at _ _ _ _ r k).trans ?_
  unfold hM hAt
  refine normed_congr (fun d => b0 m c _ r d _ ?_) (b2 m c _) (fun d => (ld_m1 _ d).trans (b1 m c _ 1 d _ ?_)) (fun d => (ld_m0 _ d).trans (b1 m c _ 0 d _ ?_)) k
  · rw [hp]; show b * 2048 + (1024 + r.val) = _; omega
  · rw [hp]; show (b * 2048 + (1024 + r.val)) / 2048 = _; omega
  · rw [hp]; show (b * 2048 + (1024 + r.val)) / 2048 = _; omega

/-- The filled scratch holds the block's rows of the left factor. -/
theorem full_at (b : ℕ) (hb : b < 4) (r k : Fin 2048) : full m c b (ix2 r k) = hM m c (tok b hb r) k := by
  unfold full
  by_cases h : r.val < 1024
  · rw [Rect.overlay_of_not_mem]
    · have e : (ix2 r k : S2048x2048.Idx) = rA.emb (ix2 (⟨r.val, h⟩ : Fin 1024) k : S1024x2048.Idx) := by
        funext a; apply Fin.ext
        match a with
        | ⟨0, _⟩ => show r.val = 0 + 1 * r.val; omega
        | ⟨1, _⟩ => show k.val = 0 + 1 * k.val; omega
      rw [e, Rect.overlay_emb]
      exact halfA_at m c b hb _ k
    · intro hm
      obtain ⟨x, hx⟩ := rB.exists_idx_of_mem hm
      have h0 : 1024 + 1 * (x 0).val = r.val := congrArg (fun y : S2048x2048.Idx => (y 0).val) hx
      omega
  · have hr : r.val < 2048 := r.isLt
    have e : (ix2 r k : S2048x2048.Idx) = rB.emb (ix2 (⟨r.val - 1024, by omega⟩ : Fin 1024) k : S1024x2048.Idx) := by
      funext a; apply Fin.ext
      match a with
      | ⟨0, _⟩ => show r.val = 1024 + 1 * (r.val - 1024); omega
      | ⟨1, _⟩ => show k.val = 0 + 1 * k.val; omega
    rw [e, Rect.overlay_emb]
    refine (halfB_at m c b hb _ k).trans ?_
    congr 1
    apply Fin.ext
    show b * 2048 + (1024 + (r.val - 1024)) = b * 2048 + r.val
    omega

variable (t : Fin cfg0.N)

theorem row_lt : t.val / 21 < 4 := by have h : t.val < 84 := t.isLt; omega

theorem out4 (y : S2048x512.Idx) :
    k0_pay4 (full m c (t.val / 21)) (iblk m c 3 t) y = projM m c (tok (t.val / 21) (row_lt t) (y 0)) (col t (y 1)) := by
  idx_vars y
  refine (pay4_at _ _ _ _).trans ?_
  unfold projM projAt
  exact Finset.sum_congr rfl fun k _ => congrArg₂ (· * ·) (full_at m c _ (row_lt t) _ k) (b3 m c t _ k)

theorem out5 (h : t.val % 21 = 20) (y : S2048x128.Idx) :
    k0_pay5 (full m c (t.val / 21)) (iblk m c 3 t) y = projM m c (tok (t.val / 21) (row_lt t) (y 0)) ⟨9472 + (y 1).val, by have : (y 1).val < 128 := (y 1).isLt; omega⟩ := by
  idx_vars y
  refine (pay5_at _ _ _ _).trans ?_
  unfold projM projAt
  refine Finset.sum_congr rfl fun k _ => congrArg₂ (· * ·) (full_at m c _ (row_lt t) _ k) ((b3 m c t _ k).trans (congrArg (fun j => (m ((c.tc : Thread nD τ).loc main_arg3) : FVec Ideal S9728x2048 .bf16) (ix2 j k)) (Fin.ext ?_)))
  show (t.val % 21 - 2) * 512 + (256 + _) = 9472 + _
  rw [h]
  omega

theorem emb4 (y : S2048x512.Idx) : (((cfg0.win 4).blk t).view.emb y : S8192x9728.Idx) = ix2 (tok (t.val / 21) (row_lt t) (y 0)) (col t (y 1)) := by
  have e0 : win0_4.index t (0 : Fin 2) = t.val / 21 := by rw [i4]; rfl
  have e1 : win0_4.index t (1 : Fin 2) = t.val % 21 - 2 := by rw [i4]; rfl
  funext a; apply Fin.ext
  match a with
  | ⟨0, _⟩ => show win0_4.index t (0 : Fin 2) * 2048 + 1 * (y 0).val = t.val / 21 * 2048 + (y 0).val; omega
  | ⟨1, _⟩ => show win0_4.index t (1 : Fin 2) * 512 + 1 * (y 1).val = (t.val % 21 - 2) * 512 + (y 1).val; omega

theorem final4 : (dats m 0 c).arrAt 4 cfg0.N = fun (i : S8192x9728.Idx) => projM m c (i 0) (i 1) := by
  refine (dats m 0 c).arrAt_eq_of_covers 4 _ (by decide +kernel) fun t hf (y : S2048x512.Idx) => ?_
  blk_simp
  rw [after4]
  exact (out4 m c t y).trans (congrArg (fun i : S8192x9728.Idx => projM m c (i 0) (i 1)) (emb4 t y)).symm

theorem emb5 (y : S2048x128.Idx) : (((cfg0.win 5).blk t).view.emb y : S8192x128.Idx) = ix2 (tok (t.val / 21) (row_lt t) (y 0)) (y 1) := by
  have e0 : win0_5.index t (0 : Fin 2) = t.val / 21 := by rw [i5]; rfl
  have e1 : win0_5.index t (1 : Fin 2) = 0 := by rw [i5]; rfl
  funext a; apply Fin.ext
  match a with
  | ⟨0, _⟩ => show win0_5.index t (0 : Fin 2) * 2048 + 1 * (y 0).val = t.val / 21 * 2048 + (y 0).val; omega
  | ⟨1, _⟩ => show win0_5.index t (1 : Fin 2) * 128 + 1 * (y 1).val = (y 1).val; omega

/-- The second result: the projection's columns from 9472 on. -/
def miscM (n : Fin 8192) (j : Fin 128) : EReal := projM m c n ⟨9472 + j.val, by omega⟩

theorem flush5 : ∀ t : Fin cfg0.N, (cfg0.win 5).flush t = true ↔ t.val % 21 = 20 := (by decide +kernel : ∀ t : Fin grid0.N, win0_5.flush t = true ↔ t.val % 21 = 20)

theorem final5 : (dats m 0 c).arrAt 5 cfg0.N = fun (i : S8192x128.Idx) => miscM m c (i 0) (i 1) := by
  refine (dats m 0 c).arrAt_eq_of_covers 5 _ (by decide +kernel) fun t hf (y : S2048x128.Idx) => ?_
  blk_simp
  rw [after5]
  exact (out5 m c t ((flush5 t).1 hf) y).trans (congrArg (fun i : S8192x128.Idx => miscM m c (i 0) (i 1)) (emb5 t y)).symm

end Cert.Kernel3Ideal.Hand

end
-- ==== Proof.InRef.lean ====
/- The input projection's reference over the extended reals, read at an element. -/
module

public import proofs.«01_k».proof.Proof.InOut
public import proofs.«01_k».proof.Proof.Gen.Reference3Ideal.Run
public import proofs.«01_k».proof.Proof.Gen.Reference3Ideal

@[expose] public section

set_option maxRecDepth 16384

noncomputable section

namespace Cert.Reference3Ideal.Hand

open Cert.Reference3Ideal
open Cert.Reference3Ideal.Facts₀ Cert.Reference3Ideal.Facts
open Idealize.ShloMosaic
open Cert.Kernel2Ideal.Hand (bOf normed)
open Cert.Kernel3Ideal.Hand (hAt projAt)

attribute [local instance] Cert.Reference3Ideal.Gen.facts

/-- Row 0 of each batch row's six modulation vectors, for every token. -/
def modRow0 (a1 : FVec Ideal S4x6x2048 .f32) : FVec Ideal S8192x2048 .f32 :=
  shapeCast _ (broadcastInDim S4x2048x2048 ![0, 1, 2] bcast_S4x1x2048_S4x2048x2048_0_1_2 (broadcastInDim S4x1x2048 ![0, 2] bcast_S4x2048_S4x1x2048_0_2 (shapeCast _ (extractStridedSlice S4x1x2048 ![0, 0, 0] a1 slices_S4x6x2048_S4x1x2048_0_0_0) shapeCasts_S4x1x2048_S4x2048))) shapeCasts_S4x2048x2048_S8192x2048

theorem modRow0_at (a1 : FVec Ideal S4x6x2048 .f32) (n : Fin 8192) (j : Fin 2048) : modRow0 a1 (ix2 n j) = a1 (ix3 (bOf n) 0 j) := by
  pointwise [modRow0]
  rfl

/-- Row 1 of each batch row's six modulation vectors, for every token. -/
def modRow1 (a1 : FVec Ideal S4x6x2048 .f32) : FVec Ideal S8192x2048 .f32 :=
  shapeCast _ (broadcastInDim S4x2048x2048 ![0, 1, 2] bcast_S4x1x2048_S4x2048x2048_0_1_2 (broadcastInDim S4x1x2048 ![0, 2] bcast_S4x2048_S4x1x2048_0_2 (shapeCast _ (extractStridedSlice S4x1x2048 ![0, 1, 0] a1 slices_S4x6x2048_S4x1x2048_0_1_0) shapeCasts_S4x1x2048_S4x2048))) shapeCasts_S4x2048x2048_S8192x2048

theorem modRow1_at (a1 : FVec Ideal S4x6x2048 .f32) (n : Fin 8192) (j : Fin 2048) : modRow1 a1 (ix2 n j) = a1 (ix3 (bOf n) 1 j) := by
  pointwise [modRow1]
  rfl

/-- The reference's text of the modulated normalized rows. -/
def refH (a0 : FVec Ideal S8192x2048 .f32) (a1 : FVec Ideal S4x6x2048 .f32) (a2 : FVec Ideal S2048 .f32) : FVec Ideal S8192x2048 .f32 :=
  addf (mulf (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a2))) (addf (broadcastInDim S8192x2048 ![] bcast_S_S8192x2048 (constant S_ .f32 0x3F800000#32)) (modRow1 a1))) (modRow0 a1)

theorem refH_at (a0 : FVec Ideal S8192x2048 .f32) (a1 : FVec Ideal S4x6x2048 .f32) (a2 : FVec Ideal S2048 .f32) (n : Fin 8192) (j : Fin 2048) :
    refH a0 a1 a2 (ix2 n j) = hAt a0 a1 (fun k => a2 (ix1 k)) n j := by
  unfold hAt normed
  simp only [← modRow0_at, ← modRow1_at]
  unfold refH
  generalize modRow0 a1 = x
  generalize modRow1 a1 = y
  pointwise

/-- The reference's text of the projection. -/
def refP (h : FVec Ideal S8192x2048 .f32) (a3 : FVec Ideal S9728x2048 .bf16) : FVec Ideal S8192x9728 .f32 :=
  Host.dotGeneral dot_S8192x2048_S9728x2048_S8192x9728_1_1_0_0_n_n none h (extf .f32 a3 bitsLt_bf16_f32)

theorem refP_at (h : FVec Ideal S8192x2048 .f32) (a3 : FVec Ideal S9728x2048 .bf16) (n : Fin 8192) (j : Fin 9728) :
    refP h a3 (ix2 n j) = ∑ k : Fin 2048, h (ix2 n k) * a3 (ix2 j k) := by
  pointwise [refP]

theorem proj_at (a0 : FVec Ideal S8192x2048 .f32) (a1 : FVec Ideal S4x6x2048 .f32) (a2 : FVec Ideal S2048 .f32) (a3 : FVec Ideal S9728x2048 .bf16) (n : Fin 8192) (j : Fin 9728) :
    refP (refH a0 a1 a2) a3 (ix2 n j) = projAt a0 a1 (fun k => a2 (ix1 k)) a3 n j := by
  refine (refP_at _ _ _ _).trans ?_
  unfold projAt
  exact Finset.sum_congr rfl fun k _ => congrArg (· * _) (refH_at _ _ _ _ _)

/-- The reference's first result. -/
theorem res0_eq (a0 : FVec Ideal S8192x2048 .f32) (a1 : FVec Ideal S4x6x2048 .f32) (a2 : FVec Ideal S2048 .f32) (a3 : FVec Ideal S9728x2048 .bf16) :
    (truncf .bf16 (refP (refH a0 a1 a2) a3) bitsLt_bf16_f32 : FVec Ideal S8192x9728 .bf16) = fun i : S8192x9728.Idx => projAt a0 a1 (fun k => a2 (ix1 k)) a3 (i 0) (i 1) := by
  funext i
  idx_vars i
  exact proj_at _ _ _ _ _ _

theorem slice_at (x : FVec Ideal S8192x9728 .f32) (n : Fin 8192) (j : Fin 128) :
    (extractStridedSlice S8192x128 ![0, 9472] x slices_S8192x9728_S8192x128_0_9472 : FVec Ideal S8192x128 .f32) (ix2 n j) = x (ix2 n ⟨9472 + j.val, by omega⟩) := by
  pointwise

/-- The reference's second result. -/
theorem res1_eq (a0 : FVec Ideal S8192x2048 .f32) (a1 : FVec Ideal S4x6x2048 .f32) (a2 : FVec Ideal S2048 .f32) (a3 : FVec Ideal S9728x2048 .bf16) :
    (extractStridedSlice S8192x128 ![0, 9472] (refP (refH a0 a1 a2) a3) slices_S8192x9728_S8192x128_0_9472 : FVec Ideal S8192x128 .f32)
      = fun i : S8192x128.Idx => projAt a0 a1 (fun k => a2 (ix1 k)) a3 (i 0) ⟨9472 + (i 1).val, by have : (i 1).val < 128 := (i 1).isLt; omega⟩ := by
  funext i
  idx_vars i
  exact (slice_at _ _ _).trans (proj_at _ _ _ _ _ _)

end Cert.Reference3Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal.Run
public import proofs.«01_k».proof.Proof.Gen.Pre_plan
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3.Skeleton
public import proofs.«01_k».proof.Proof.Gen.Kernel3Ideal.Frame
public import proofs.«01_k».proof.Proof.Gen.Kernel3Ideal.Skeleton
public import proofs.«01_k».proof.Proof.Gen.Reference3Ideal.Run
public import proofs.«01_k».proof.Proof.Run
public import proofs.«01_k».proof.Proof.Same
public import proofs.«01_k».proof.Proof.ValOut
public import proofs.«01_k».proof.Proof.ValRef
public import proofs.«01_k».proof.Proof.MergeOut
public import proofs.«01_k».proof.Proof.MergeRef
public import proofs.«01_k».proof.Proof.InSame
public import proofs.«01_k».proof.Proof.InOut
public import proofs.«01_k».proof.Proof.InRef
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Pre_plan.Gen.facts Cert.Kernel2.Gen.facts Cert.Kernel2Ideal.Gen.facts
  Cert.Reference2Ideal.Gen.facts Cert.Kernel3.Gen.facts Cert.Kernel3Ideal.Gen.facts Cert.Reference3Ideal.Gen.facts

/-- The precondition of the kernel gives the word form of the plan. -/
theorem plan_kernel (m : (ℓ : Loc Cert.Kernel.nD Cert.Kernel.τ Cert.Kernel.sig) → Buf (Elt Bits) ℓ) (h : Cert.Pre_Kernel m) :
    Cert.KernelIdeal.Hand.IsPlan (F := Bits) m :=
  Cert.PlanWords.raw_of _ _ _ _ _ _ _ _ _ _ _ _ _ (h 0)

/-- The precondition of the idealized kernel gives the word form of the plan. -/
theorem plan_ideal (m : (ℓ : Loc Cert.KernelIdeal.nD Cert.KernelIdeal.τ Cert.KernelIdeal.sig) → Buf (Elt Ideal) ℓ) (h : Cert.Pre_KernelIdeal m) :
    Cert.KernelIdeal.Hand.IsPlan (F := Ideal) m :=
  Cert.PlanWords.raw_of _ _ _ _ _ _ _ _ _ _ _ _ _ (h 0)

/-- The kernel on bits: the two programs have one text, so this is the frame of the generic run. -/
theorem frame_kernel : Cert.quiescent_Kernel := fun m ρ h =>
  Cert.Same.run_same (F := Bits) _ _ (Cert.KernelIdeal.Hand.frame (F := Bits) m ρ (plan_kernel m h))

/-- The kernel over the extended reals. -/
theorem frame_ideal : Cert.quiescent_KernelIdeal := fun m ρ h =>
  Cert.KernelIdeal.Hand.frame (F := Ideal) m ρ (plan_ideal m h)

/-- The reference runs on the host only, so its counters stay at zero. -/
theorem frame_reference : Cert.quiescent_ReferenceIdeal := by
  intro m ρ _
  exact (θ_run Cert.ReferenceIdeal.defs _ _).mono (fun r h => ⟨fun c => (h c).2, sem_eq_zero_of_no_sems (by decide) _⟩)
    (Cert.ReferenceIdeal.Value.run (F := Ideal) m ρ)

/-- The two results agree: both are each row's own expert. -/
theorem value : Cert.algebraic_KernelIdeal_ReferenceIdeal := by
  intro m g m' g' hp he
  have hr := plan_ideal m hp
  refine ⟨fun c => Cert.KernelIdeal.Hand.G c m, Cert.KernelIdeal.Hand.run_value m hr g, ?_⟩
  refine (θ_run Cert.ReferenceIdeal.defs _ _).mono (fun r h c => ⟨(h c).1.trans ?_, (h c).2⟩)
    (Cert.ReferenceIdeal.Value.run (F := Ideal) m' g')
  obtain ⟨-, -, -, -, -, -, -, -, e8, e9, e10, e11, e12⟩ := he c
  rw [e8, e9, e10, e11, e12]
  have hc := Cert.KernelIdeal.Hand.dev_zero c
  subst hc
  exact Cert.ReferenceIdeal.Hand.refOut_eq _ _ _ _ _ (Cert.PlanWords.row_expert hr)

/-- The merge's reference runs on the host only. -/
theorem frame_reference2 : Cert.quiescent_Reference2Ideal := by
  intro m ρ _
  exact (θ_run Cert.Reference2Ideal.defs _ _).mono (fun r h => ⟨fun c => (h c).2.2, sem_eq_zero_of_no_sems (by decide) _⟩)
    (Cert.Reference2Ideal.Value.run (F := Ideal) m ρ)

/-- The merge's two results agree with the reference's. -/
theorem value2 : Cert.algebraic_Kernel2Ideal_Reference2Ideal := by
  intro m g m' g' _ he
  refine ⟨fun c (i : Cert.Kernel2Ideal.S8192x2048.Idx) => Cert.Kernel2Ideal.Hand.x1M m c (i 0) (i 1),
    fun c (i : Cert.Kernel2Ideal.S8192x2048.Idx) => Cert.Kernel2Ideal.Hand.h2M m c (i 0) (i 1), ?_, ?_⟩
  · refine (θ_run Cert.Kernel2Ideal.defs _ _).mono (fun r h c => ?_) (Cert.Kernel2Ideal.Value.run_blocks (F := Ideal) m g)
    obtain ⟨h0, h1, -, h3⟩ := h c
    exact ⟨h0.trans (Cert.Kernel2Ideal.Hand.final15 m c), h1.trans (Cert.Kernel2Ideal.Hand.final16 m c), h3⟩
  refine (θ_run Cert.Reference2Ideal.defs _ _).mono (fun r h c => ?_) (Cert.Reference2Ideal.Value.run (F := Ideal) m' g')
  obtain ⟨h0, h1, h3⟩ := h c
  obtain ⟨e0, e1, e2, e3, e4, e5, e6, e7, e8, e9, -⟩ := he c
  refine ⟨h0.trans ?_, h1.trans ?_, h3⟩
  · rw [e0, e1, e2, e3, e4, e5, e6, e7, e8]
    exact Cert.Reference2Ideal.Hand.refX1_eq _ _ _ _ _ _ _ _ _
  · refine (Cert.Reference2Ideal.Hand.res_out1_eq m' c).trans ?_
    rw [e0, e1, e2, e3, e4, e5, e6, e7, e8, e9]
    exact Cert.Reference2Ideal.Hand.refH2_eq _ _ _ _ _ _ _ _ _ _

/-- The input projection on bits: the two programs have one text. -/
theorem frame_kernel3 : Cert.quiescent_Kernel3 := fun m ρ _ =>
  Cert.Same3.run_same (F := Bits) _ _ (Cert.Kernel3Ideal.Hand.frame (F := Bits) m ρ)

/-- The input projection over the extended reals. -/
theorem frame_ideal3 : Cert.quiescent_Kernel3Ideal := fun m ρ _ =>
  Cert.Kernel3Ideal.Hand.frame (F := Ideal) m ρ

/-- The input projection's reference runs on the host only. -/
theorem frame_reference3 : Cert.quiescent_Reference3Ideal := by
  intro m ρ _
  exact (θ_run Cert.Reference3Ideal.defs _ _).mono (fun r h => ⟨fun c => (h c).2.2, sem_eq_zero_of_no_sems (by decide) _⟩)
    (Cert.Reference3Ideal.Value.run (F := Ideal) m ρ)

/-- The input projection's two results agree with the reference's. -/
theorem value3 : Cert.algebraic_Kernel3Ideal_Reference3Ideal := by
  intro m g m' g' _ he
  refine ⟨fun c (i : Cert.Kernel3Ideal.S8192x9728.Idx) => Cert.Kernel3Ideal.Hand.projM m c (i 0) (i 1),
    fun c (i : Cert.Kernel3Ideal.S8192x128.Idx) => Cert.Kernel3Ideal.Hand.miscM m c (i 0) (i 1), ?_, ?_⟩
  · refine (θ_run Cert.Kernel3Ideal.defs _ _).mono (fun r h c => ?_) (Cert.Kernel3Ideal.Hand.run_blocks (F := Ideal) m g)
    obtain ⟨h0, h1, h3⟩ := h c
    exact ⟨h0.trans (Cert.Kernel3Ideal.Hand.final4 m c), h1.trans (Cert.Kernel3Ideal.Hand.final5 m c), h3⟩
  refine (θ_run Cert.Reference3Ideal.defs _ _).mono (fun r h c => ?_) (Cert.Reference3Ideal.Value.run (F := Ideal) m' g')
  obtain ⟨h0, h1, h3⟩ := h c
  obtain ⟨e0, e1, e2, e3⟩ := he c
  refine ⟨h0.trans ?_, h1.trans ?_, h3⟩
  · rw [e0, e1, e2, e3]
    exact Cert.Reference3Ideal.Hand.res0_eq _ _ _ _
  · rw [e0, e1, e2, e3]
    exact Cert.Reference3Ideal.Hand.res1_eq _ _ _ _

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_plan.Gen.facts,
    frame_kernel, frame_ideal, frame_reference, fun m ρ _ => Cert.Kernel2.Gen.frame m ρ, fun m ρ _ => Cert.Kernel2Ideal.Gen.frame m ρ, frame_reference2,
    frame_kernel3, frame_ideal3, frame_reference3, trivial, value, trivial, value2, trivial, value3⟩

end Cert.Proof

end
